-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v27_0)) (v1 : (c : Dev Cert.Kernel2Ideal.nD) → Buf (Elt Ideal) ((c.tc : Thread Cert.Kernel2Ideal.nD Cert.Kernel2Ideal.τ).loc Cert.Kernel2Ideal.main_v27_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27_0) = v0 c
          ∧ r.2.mem ((c.tc : Thread Cert.Kernel2Ideal.nD Cert.Kernel2Ideal.τ).loc Cert.Kernel2Ideal.main_v27_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v23_0)) (v1 : (c : Dev Cert.Kernel3Ideal.nD) → Buf (Elt Ideal) ((c.tc : Thread Cert.Kernel3Ideal.nD Cert.Kernel3Ideal.τ).loc Cert.Kernel3Ideal.main_v23_1)) (v2 : (c : Dev Cert.Kernel3Ideal.nD) → Buf (Elt Ideal) ((c.tc : Thread Cert.Kernel3Ideal.nD Cert.Kernel3Ideal.τ).loc Cert.Kernel3Ideal.main_v23_2)) (v3 : (c : Dev Cert.Kernel3Ideal.nD) → Buf (Elt Ideal) ((c.tc : Thread Cert.Kernel3Ideal.nD Cert.Kernel3Ideal.τ).loc Cert.Kernel3Ideal.main_v23_3)) (v4 : (c : Dev Cert.Kernel3Ideal.nD) → Buf (Elt Ideal) ((c.tc : Thread Cert.Kernel3Ideal.nD Cert.Kernel3Ideal.τ).loc Cert.Kernel3Ideal.main_v23_4)) (v5 : (c : Dev Cert.Kernel3Ideal.nD) → Buf (Elt Ideal) ((c.tc : Thread Cert.Kernel3Ideal.nD Cert.Kernel3Ideal.τ).loc Cert.Kernel3Ideal.main_v23_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23_0) = v0 c
          ∧ r.2.mem ((c.tc : Thread Cert.Kernel3Ideal.nD Cert.Kernel3Ideal.τ).loc Cert.Kernel3Ideal.main_v23_1) = v1 c
          ∧ r.2.mem ((c.tc : Thread Cert.Kernel3Ideal.nD Cert.Kernel3Ideal.τ).loc Cert.Kernel3Ideal.main_v23_2) = v2 c
          ∧ r.2.mem ((c.tc : Thread Cert.Kernel3Ideal.nD Cert.Kernel3Ideal.τ).loc Cert.Kernel3Ideal.main_v23_3) = v3 c
          ∧ r.2.mem ((c.tc : Thread Cert.Kernel3Ideal.nD Cert.Kernel3Ideal.τ).loc Cert.Kernel3Ideal.main_v23_4) = v4 c
          ∧ r.2.mem ((c.tc : Thread Cert.Kernel3Ideal.nD Cert.Kernel3Ideal.τ).loc Cert.Kernel3Ideal.main_v23_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v38) = v2 c
          ∧ r.2.mem ((c.tc : Thread Cert.Reference3Ideal.nD Cert.Reference3Ideal.τ).loc Cert.Reference3Ideal.main_v41) = v3 c
          ∧ r.2.mem ((c.tc : Thread Cert.Reference3Ideal.nD Cert.Reference3Ideal.τ).loc Cert.Reference3Ideal.main_v42) = v4 c
          ∧ r.2.mem ((c.tc : Thread Cert.Reference3Ideal.nD Cert.Reference3Ideal.τ).loc Cert.Reference3Ideal.main_v43) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v41_0)) (v1 : (c : Dev Cert.Kernel4Ideal.nD) → Buf (Elt Ideal) ((c.tc : Thread Cert.Kernel4Ideal.nD Cert.Kernel4Ideal.τ).loc Cert.Kernel4Ideal.main_v41_1)) (v2 : (c : Dev Cert.Kernel4Ideal.nD) → Buf (Elt Ideal) ((c.tc : Thread Cert.Kernel4Ideal.nD Cert.Kernel4Ideal.τ).loc Cert.Kernel4Ideal.main_v41_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v41_0) = v0 c
          ∧ r.2.mem ((c.tc : Thread Cert.Kernel4Ideal.nD Cert.Kernel4Ideal.τ).loc Cert.Kernel4Ideal.main_v41_1) = v1 c
          ∧ r.2.mem ((c.tc : Thread Cert.Kernel4Ideal.nD Cert.Kernel4Ideal.τ).loc Cert.Kernel4Ideal.main_v41_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v152) = v0 c
          ∧ r.2.mem ((c.tc : Thread Cert.Reference4Ideal.nD Cert.Reference4Ideal.τ).loc Cert.Reference4Ideal.main_v154) = v1 c
          ∧ r.2.mem ((c.tc : Thread Cert.Reference4Ideal.nD Cert.Reference4Ideal.τ).loc Cert.Reference4Ideal.main_v155) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v30_0)) (v1 : (c : Dev Cert.Kernel5Ideal.nD) → Buf (Elt Ideal) ((c.tc : Thread Cert.Kernel5Ideal.nD Cert.Kernel5Ideal.τ).loc Cert.Kernel5Ideal.main_v30_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v30_0) = v0 c
          ∧ r.2.mem ((c.tc : Thread Cert.Kernel5Ideal.nD Cert.Kernel5Ideal.τ).loc Cert.Kernel5Ideal.main_v30_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v79) = v0 c
          ∧ r.2.mem ((c.tc : Thread Cert.Reference5Ideal.nD Cert.Reference5Ideal.τ).loc Cert.Reference5Ideal.main_v81) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v23_0)) (v1 : (c : Dev Cert.Kernel6Ideal.nD) → Buf (Elt Ideal) ((c.tc : Thread Cert.Kernel6Ideal.nD Cert.Kernel6Ideal.τ).loc Cert.Kernel6Ideal.main_v23_1)) (v2 : (c : Dev Cert.Kernel6Ideal.nD) → Buf (Elt Ideal) ((c.tc : Thread Cert.Kernel6Ideal.nD Cert.Kernel6Ideal.τ).loc Cert.Kernel6Ideal.main_v23_2)) (v3 : (c : Dev Cert.Kernel6Ideal.nD) → Buf (Elt Ideal) ((c.tc : Thread Cert.Kernel6Ideal.nD Cert.Kernel6Ideal.τ).loc Cert.Kernel6Ideal.main_v23_3)) (v4 : (c : Dev Cert.Kernel6Ideal.nD) → Buf (Elt Ideal) ((c.tc : Thread Cert.Kernel6Ideal.nD Cert.Kernel6Ideal.τ).loc Cert.Kernel6Ideal.main_v23_4)) (v5 : (c : Dev Cert.Kernel6Ideal.nD) → Buf (Elt Ideal) ((c.tc : Thread Cert.Kernel6Ideal.nD Cert.Kernel6Ideal.τ).loc Cert.Kernel6Ideal.main_v23_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23_0) = v0 c
          ∧ r.2.mem ((c.tc : Thread Cert.Kernel6Ideal.nD Cert.Kernel6Ideal.τ).loc Cert.Kernel6Ideal.main_v23_1) = v1 c
          ∧ r.2.mem ((c.tc : Thread Cert.Kernel6Ideal.nD Cert.Kernel6Ideal.τ).loc Cert.Kernel6Ideal.main_v23_2) = v2 c
          ∧ r.2.mem ((c.tc : Thread Cert.Kernel6Ideal.nD Cert.Kernel6Ideal.τ).loc Cert.Kernel6Ideal.main_v23_3) = v3 c
          ∧ r.2.mem ((c.tc : Thread Cert.Kernel6Ideal.nD Cert.Kernel6Ideal.τ).loc Cert.Kernel6Ideal.main_v23_4) = v4 c
          ∧ r.2.mem ((c.tc : Thread Cert.Kernel6Ideal.nD Cert.Kernel6Ideal.τ).loc Cert.Kernel6Ideal.main_v23_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v46) = v1 c
          ∧ r.2.mem ((c.tc : Thread Cert.Reference6Ideal.nD Cert.Reference6Ideal.τ).loc Cert.Reference6Ideal.main_v42) = v2 c
          ∧ r.2.mem ((c.tc : Thread Cert.Reference6Ideal.nD Cert.Reference6Ideal.τ).loc Cert.Reference6Ideal.main_v45) = v3 c
          ∧ r.2.mem ((c.tc : Thread Cert.Reference6Ideal.nD Cert.Reference6Ideal.τ).loc Cert.Reference6Ideal.main_v47) = v4 c
          ∧ r.2.mem ((c.tc : Thread Cert.Reference6Ideal.nD Cert.Reference6Ideal.τ).loc Cert.Reference6Ideal.main_v48) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8x2048x1024 : Shape := ⟨3, ![8, 2048, 1024]⟩
abbrev S2x1024 : Shape := ⟨2, ![2, 1024]⟩
abbrev S1x1024x2048 : Shape := ⟨3, ![1, 1024, 2048]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S1024x2048 : Shape := ⟨2, ![1024, 2048]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S1024x1024 : Shape := ⟨2, ![1024, 1024]⟩
abbrev S_ : Shape := ⟨0, ![]⟩
abbrev S8x2x2816 : Shape := ⟨3, ![8, 2, 2816]⟩
abbrev S1x512x1024 : Shape := ⟨3, ![1, 512, 1024]⟩
abbrev S1x2x2816 : Shape := ⟨3, ![1, 2, 2816]⟩
abbrev S520x1408 : Shape := ⟨2, ![520, 1408]⟩
abbrev S2x8x1408 : Shape := ⟨3, ![2, 8, 1408]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S128x128 : Shape := ⟨2, ![128, 128]⟩
abbrev S1x128x128 : Shape := ⟨3, ![1, 128, 128]⟩
abbrev S128x1 : Shape := ⟨2, ![128, 1]⟩
abbrev S128x1024 : Shape := ⟨2, ![128, 1024]⟩
abbrev S1x2x1408 : Shape := ⟨3, ![1, 2, 1408]⟩
abbrev S2x1408 : Shape := ⟨2, ![2, 1408]⟩
abbrev S1024x1408 : Shape := ⟨2, ![1024, 1408]⟩
abbrev S512x1408 : Shape := ⟨2, ![512, 1408]⟩
abbrev S1x8x1408 : Shape := ⟨3, ![1, 8, 1408]⟩
abbrev S8x1408 : Shape := ⟨2, ![8, 1408]⟩
abbrev S1x1408 : Shape := ⟨2, ![1, 1408]⟩
abbrev S1408x1024 : Shape := ⟨2, ![1408, 1024]⟩

abbrev nBuf : Space → Nat
  | .hbm => 47
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x1024x1024, .f32⟩
  | .hbm, ⟨8, _⟩ => ⟨S2x1024, .f32⟩
  | .hbm, ⟨9, _⟩ => ⟨S2x1024x5632, .f32⟩
  | .hbm, ⟨10, _⟩ => ⟨S2x3x2816, .f32⟩
  | .hbm, ⟨11, _⟩ => ⟨S2x2816, .f32⟩
  | .hbm, ⟨12, _⟩ => ⟨S2x2816x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024x5632, .f32⟩
  | .hbm, ⟨18, _⟩ => ⟨S1024x5632, .f32⟩
  | .hbm, ⟨19, _⟩ => ⟨S1024x5632, .bf16⟩
  | .hbm, ⟨20, _⟩ => ⟨S1x3x2816, .f32⟩
  | .hbm, ⟨21, _⟩ => ⟨S3x2816, .f32⟩
  | .hbm, ⟨22, _⟩ => ⟨S1x2816, .f32⟩
  | .hbm, ⟨23, _⟩ => ⟨S2816, .f32⟩
  | .hbm, ⟨24, _⟩ => ⟨S1x2816, .f32⟩
  | .hbm, ⟨25, _⟩ => ⟨S1x2816x1024, .f32⟩
  | .hbm, ⟨26, _⟩ => ⟨S2816x1024, .f32⟩
  | .hbm, ⟨27, _⟩ => ⟨S2816x1024, .bf16⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024x2048, .f32⟩
  | .hbm, ⟨32, _⟩ => ⟨S1024x2048, .bf16⟩
  | .hbm, ⟨33, _⟩ => ⟨S2048, .f32⟩
  | .hbm, ⟨34, _⟩ => ⟨S1x2048, .f32⟩
  | .hbm, ⟨35, _⟩ => ⟨S1024, .f32⟩
  | .hbm, ⟨36, _⟩ => ⟨S1x1024, .f32⟩
  | .hbm, ⟨37, _⟩ => ⟨S8x128x128, .f32⟩
  | .hbm, ⟨38, _⟩ => ⟨S8x128, .f32⟩
  | .hbm, ⟨39, _⟩ => ⟨S128x8, .f32⟩
  | .hbm, ⟨40, _⟩ => ⟨S1024x1024, .f32⟩
  | .hbm, ⟨41, _⟩ => ⟨S1024x1024, .bf16⟩
  | .hbm, ⟨42, _⟩ => ⟨S1x1024, .f32⟩
  | .hbm, ⟨43, _⟩ => ⟨S_, .f32⟩
  | .hbm, ⟨44, _⟩ => ⟨S8x2x2816, .f32⟩
  | .hbm, ⟨45, _⟩ => ⟨S8x2048x1024, .f32⟩
  | .hbm, ⟨46, _⟩ => ⟨S8x2x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x2x2816, .f32⟩
  | .local _ .vmem, ⟨3, _⟩ => ⟨S1x2x2816, .f32⟩
  | .local _ .vmem, ⟨4, _⟩ => ⟨S1x1024, .f32⟩
  | .local _ .vmem, ⟨5, _⟩ => ⟨S1024x2048, .bf16⟩
  | .local _ .vmem, ⟨6, _⟩ => ⟨S1x2048, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S3x2816, .f32⟩
  | .local _ .vmem, ⟨14, _⟩ => ⟨S1x2816, .f32⟩
  | .local _ .vmem, ⟨15, _⟩ => ⟨S2816x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x2x2816, .f32⟩
  | .local _ .vmem, ⟨20, _⟩ => ⟨S1x2x2816, .f32⟩
  | .local _ .vmem, ⟨21, _⟩ => ⟨S520x1408, .f32⟩
  | .local _ .vmem, ⟨22, _⟩ => ⟨S2x8x1408, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30_0 : Ref sig .tc := ⟨.hbm, 45, rfl⟩
abbrev main_v30_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x2816 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S8x2048x1024 : Shape := ⟨3, ![8, 2048, 1024]⟩
abbrev S2x1024 : Shape := ⟨2, ![2, 1024]⟩
abbrev S1x1024x2048 : Shape := ⟨3, ![1, 1024, 2048]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2048 : Shape := ⟨2, ![1024, 2048]⟩
abbrev S2048 : Shape := ⟨1, ![2048]⟩
abbrev S8x128x128 : Shape := ⟨3, ![8, 128, 128]⟩
abbrev S8x128 : Shape := ⟨2, ![8, 128]⟩
abbrev S1024x1024 : Shape := ⟨2, ![1024, 1024]⟩
abbrev S8x2048x2048 : Shape := ⟨3, ![8, 2048, 2048]⟩
abbrev S1x1x2048 : Shape := ⟨3, ![1, 1, 2048]⟩
abbrev S8x16x128x8x128 : Shape := ⟨5, ![8, 16, 128, 8, 128]⟩
abbrev S128x128 : Shape := ⟨2, ![128, 128]⟩
abbrev S8x8x16x128x128 : Shape := ⟨5, ![8, 8, 16, 128, 128]⟩
abbrev S128x8 : Shape := ⟨2, ![128, 8]⟩
abbrev S1x1x128x8x1 : Shape := ⟨5, ![1, 1, 128, 8, 1]⟩
abbrev S8x2x2816 : Shape := ⟨3, ![8, 2, 2816]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩
abbrev S8x2050x2816 : Shape := ⟨3, ![8, 2050, 2816]⟩
abbrev S1x1x2816 : Shape := ⟨3, ![1, 1, 2816]⟩

abbrev nBuf : Space → Nat
  | .hbm => 199
  | .vmem => 0
  | .smem => 0
  | _ => 0

abbrev hbmTy0_0 (i : Nat) : BufTy := match i % 128 with
  | 0 => ⟨S8x2048x1024, .f32⟩
  | 1 => ⟨S2x1024, .f32⟩
  | 2 => ⟨S1x1024x2048, .f32⟩
  | 3 => ⟨S1x2048, .f32⟩
  | 4 => ⟨S1x1024, .f32⟩
  | 5 => ⟨S1x8x128x128, .f32⟩
  | 6 => ⟨S1x8x128, .f32⟩
  | 7 => ⟨S1x1024x1024, .f32⟩
  | 8 => ⟨S2x1024, .f32⟩
  | 9 => ⟨S2x1024x5632, .f32⟩
  | 10 => ⟨S2x3x2816, .f32⟩
  | 11 => ⟨S2x2816, .f32⟩
  | 12 => ⟨S2x2816x1024, .f32⟩
  | 13 => ⟨S1024, .f32⟩
  | 14 => ⟨S1x1024, .f32⟩
  | 15 => ⟨S1024, .f32⟩
  | 16 => ⟨S8x2048x1024, .f32⟩
  | 17 => ⟨S_, .f32⟩
  | 18 => ⟨S8x2048, .f32⟩
  | 19 => ⟨S8x2048x1, .f32⟩
  | 20 => ⟨S_, .f32⟩
  | 21 => ⟨S8x2048x1, .f32⟩
  | 22 => ⟨S8x2048x1, .f32⟩
  | 23 => ⟨S_, .f32⟩
  | 24 => ⟨S8x2048x1, .f32⟩
  | 25 => ⟨S8x2048x1, .f32⟩
  | 26 => ⟨S8x2048x1, .f32⟩
  | 27 => ⟨S8x2048x1024, .f32⟩
  | 28 => ⟨S8x2048x1024, .f32⟩
  | 29 => ⟨S1x1x1024, .f32⟩
  | 30 => ⟨S8x2048x1024, .f32⟩
  | 31 => ⟨S8x2048x1024, .f32⟩
  | 32 => ⟨S1024x2048, .f32⟩
  | 33 => ⟨S2048, .f32⟩
  | 34 => ⟨S1024, .f32⟩
  | 35 => ⟨S8x128x128, .f32⟩
  | 36 => ⟨S8x128, .f32⟩
  | 37 => ⟨S1024x1024, .f32⟩
  | 38 => ⟨S8x2048x2048, .f32⟩
  | 39 => ⟨S1x1x2048, .f32⟩
  | 40 => ⟨S8x2048x2048, .f32⟩
  | 41 => ⟨S8x2048x2048, .f32⟩
  | 42 => ⟨S8x2048x2048, .f32⟩
  | 43 => ⟨S8x2048x2048, .f32⟩
  | 44 => ⟨S_, .f32⟩
  | 45 => ⟨S8x2048x2048, .f32⟩
  | 46 => ⟨S8x2048x2048, .f32⟩
  | 47 => ⟨S8x2048x2048, .f32⟩
  | 48 => ⟨S_, .f32⟩
  | 49 => ⟨S8x2048x2048, .f32⟩
  | 50 => ⟨S8x2048x2048, .f32⟩
  | 51 => ⟨S8x2048x2048, .f32⟩
  | 52 => ⟨S_, .f32⟩
  | 53 => ⟨S8x2048x2048, .f32⟩
  | 54 => ⟨S8x2048x2048, .f32⟩
  | 55 => ⟨S_, .f32⟩
  | 56 => ⟨S8x2048x2048, .f32⟩
  | 57 => ⟨S8x2048x2048, .f32⟩
  | 58 => ⟨S8x2048x2048, .f32⟩
  | 59 => ⟨S8x2048x1024, .f32⟩
  | 60 => ⟨S8x2048x1024, .f32⟩
  | 61 => ⟨S8x2048x1024, .f32⟩
  | 62 => ⟨S_, .f32⟩
  | 63 => ⟨S8x2048, .f32⟩
  | 64 => ⟨S8x2048x1, .f32⟩
  | 65 => ⟨S_, .f32⟩
  | 66 => ⟨S8x2048x1, .f32⟩
  | 67 => ⟨S8x2048x1, .f32⟩
  | 68 => ⟨S_, .f32⟩
  | 69 => ⟨S8x2048x1, .f32⟩
  | 70 => ⟨S8x2048x1, .f32⟩
  | 71 => ⟨S8x2048x1, .f32⟩
  | 72 => ⟨S8x2048x1024, .f32⟩
  | 73 => ⟨S8x2048x1024, .f32⟩
  | 74 => ⟨S1x1x1024, .f32⟩
  | 75 => ⟨S8x2048x1024, .f32⟩
  | 76 => ⟨S8x2048x1024, .f32⟩
  | 77 => ⟨S_, .i32⟩
  | 78 => ⟨S_, .f32⟩
  | 79 => ⟨S8x2048x1024, .f32⟩
  | 80 => ⟨S8x16x128x8x128, .f32⟩
  | 81 => ⟨S_, .i1⟩
  | 82 => ⟨S128x128, .i1⟩
  | 83 => ⟨S128x128, .i32⟩
  | 84 => ⟨S_, .i32⟩
  | 85 => ⟨S128x128, .i32⟩
  | 86 => ⟨S128x128, .i32⟩
  | 87 => ⟨S128x128, .i32⟩
  | 88 => ⟨S128x128, .i1⟩
  | 89 => ⟨S_, .i1⟩
  | 90 => ⟨S128x128, .i1⟩
  | 91 => ⟨S128x128, .i1⟩
  | 92 => ⟨S_, .i32⟩
  | 93 => ⟨S_, .f32⟩
  | 94 => ⟨S8x128x128, .i1⟩
  | 95 => ⟨S8x128x128, .f32⟩
  | 96 => ⟨S8x128x128, .f32⟩
  | 97 => ⟨S8x8x16x128x128, .f32⟩
  | 98 => ⟨S8x16x128x8x128, .f32⟩
  | 99 => ⟨S128x8, .f32⟩
  | 100 => ⟨S1x1x128x8x1, .f32⟩
  | 101 => ⟨S8x16x128x8x128, .f32⟩
  | 102 => ⟨S8x16x128x8x128, .f32⟩
  | 103 => ⟨S8x2048x1024, .f32⟩
  | 104 => ⟨S8x2048x1024, .f32⟩
  | 105 => ⟨S8x2048x1024, .f32⟩
  | 106 => ⟨S8x2048x1024, .f32⟩
  | 107 => ⟨S1x1024, .f32⟩
  | 108 => ⟨S1024, .f32⟩
  | 109 => ⟨S8x2048x1024, .f32⟩
  | 110 => ⟨S_, .f32⟩
  | 111 => ⟨S8x2048, .f32⟩
  | 112 => ⟨S8x2048x1, .f32⟩
  | 113 => ⟨S_, .f32⟩
  | 114 => ⟨S8x2048x1, .f32⟩
  | 115 => ⟨S8x2048x1, .f32⟩
  | 116 => ⟨S_, .f32⟩
  | 117 => ⟨S8x2048x1, .f32⟩
  | 118 => ⟨S8x2048x1, .f32⟩
  | 119 => ⟨S8x2048x1, .f32⟩
  | 120 => ⟨S8x2048x1024, .f32⟩
  | 121 => ⟨S8x2048x1024, .f32⟩
  | 122 => ⟨S1x1x1024, .f32⟩
  | 123 => ⟨S8x2048x1024, .f32⟩
  | 124 => ⟨S8x2048x1024, .f32⟩
  | 125 => ⟨S_, .f32⟩
  | 126 => ⟨S8x2x2816, .f32⟩
  | 127 => ⟨S1x1024x5632, .f32⟩
  | _ => ⟨S8x2048x1024, .f32⟩

abbrev hbmTy0_1 (i : Nat) : BufTy := match i % 128 with
  | 0 => ⟨S1024x5632, .f32⟩
  | 1 => ⟨S1x3x2816, .f32⟩
  | 2 => ⟨S3x2816, .f32⟩
  | 3 => ⟨S1x2816, .f32⟩
  | 4 => ⟨S2816, .f32⟩
  | 5 => ⟨S1x2816x1024, .f32⟩
  | 6 => ⟨S2816x1024, .f32⟩
  | 7 => ⟨S8x2048x5632, .f32⟩
  | 8 => ⟨S8x2048x2816, .f32⟩
  | 9 => ⟨S8x2048x2816, .f32⟩
  | 10 => ⟨S8x2050x2816, .f32⟩
  | 11 => ⟨S1x2816, .f32⟩
  | 12 => ⟨S2816, .f32⟩
  | 13 => ⟨S8x2048x2816, .f32⟩
  | 14 => ⟨S1x1x2816, .f32⟩
  | 15 => ⟨S8x2048x2816, .f32⟩
  | 16 => ⟨S8x2048x2816, .f32⟩
  | 17 => ⟨S1x1x2816, .f32⟩
  | 18 => ⟨S8x2048x2816, .f32⟩
  | 19 => ⟨S8x2048x2816, .f32⟩
  | 20 => ⟨S1x2816, .f32⟩
  | 21 => ⟨S2816, .f32⟩
  | 22 => ⟨S8x2048x2816, .f32⟩
  | 23 => ⟨S1x1x2816, .f32⟩
  | 24 => ⟨S8x2048x2816, .f32⟩
  | 25 => ⟨S8x2048x2816, .f32⟩
  | 26 => ⟨S8x2048x2816, .f32⟩
  | 27 => ⟨S1x2816, .f32⟩
  | 28 => ⟨S2816, .f32⟩
  | 29 => ⟨S8x2048x2816, .f32⟩
  | 30 => ⟨S1x1x2816, .f32⟩
  | 31 => ⟨S8x2048x2816, .f32⟩
  | 32 => ⟨S8x2048x2816, .f32⟩
  | 33 => ⟨S8x2048x2816, .f32⟩
  | 34 => ⟨S8x2x2816, .f32⟩
  | 35 => ⟨S8x2048x2816, .f32⟩
  | 36 => ⟨S8x2048x2816, .f32⟩
  | 37 => ⟨S_, .f32⟩
  | 38 => ⟨S8x2048x2816, .f32⟩
  | 39 => ⟨S8x2048x2816, .f32⟩
  | 40 => ⟨S8x2048x2816, .f32⟩
  | 41 => ⟨S_, .f32⟩
  | 42 => ⟨S8x2048x2816, .f32⟩
  | 43 => ⟨S8x2048x2816, .f32⟩
  | 44 => ⟨S8x2048x2816, .f32⟩
  | 45 => ⟨S_, .f32⟩
  | 46 => ⟨S8x2048x2816, .f32⟩
  | 47 => ⟨S8x2048x2816, .f32⟩
  | 48 => ⟨S_, .f32⟩
  | 49 => ⟨S8x2048x2816, .f32⟩
  | 50 => ⟨S8x2048x2816, .f32⟩
  | 51 => ⟨S8x2048x2816, .f32⟩
  | 52 => ⟨S8x2048x2816, .f32⟩
  | 53 => ⟨S8x2048x1024, .f32⟩
  | 54 => ⟨S8x2048x1024, .f32⟩
  | 55 => ⟨S8x2048x1024, .f32⟩
  | 56 => ⟨S_, .f32⟩
  | 57 => ⟨S8x2048, .f32⟩
  | 58 => ⟨S8x2048x1, .f32⟩
  | 59 => ⟨S_, .f32⟩
  | 60 => ⟨S8x2048x1, .f32⟩
  | 61 => ⟨S8x2048x1, .f32⟩
  | 62 => ⟨S_, .f32⟩
  | 63 => ⟨S8x2048x1, .f32⟩
  | 64 => ⟨S8x2048x1, .f32⟩
  | 65 => ⟨S8x2048x1, .f32⟩
  | 66 => ⟨S8x2048x1024, .f32⟩
  | 67 => ⟨S8x2048x1024, .f32⟩
  | 68 => ⟨S1x1x1024, .f32⟩
  | 69 => ⟨S8x2048x1024, .f32⟩
  | 70 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c : Ref sig .tc := ⟨.hbm, 77, rfl⟩
abbrev main_call0_v0 : Ref sig .tc := ⟨.hbm, 78, rfl⟩
abbrev main_v53 : Ref sig .tc := ⟨.hbm, 79, rfl⟩
abbrev main_v54 : Ref sig .tc := ⟨.hbm, 80, rfl⟩
abbrev main_c_9 : Ref sig .tc := ⟨.hbm, 81, rfl⟩
abbrev main_v55 : Ref sig .tc := ⟨.hbm, 82, rfl⟩
abbrev main_call1_v0 : Ref sig .tc := ⟨.hbm, 83, rfl⟩
abbrev main_call1_c : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_c_0 : Ref sig .tc := ⟨.hbm, 89, rfl⟩
abbrev main_call1_v5 : Ref sig .tc := ⟨.hbm, 90, rfl⟩
abbrev main_v56 : Ref sig .tc := ⟨.hbm, 91, rfl⟩
abbrev main_c_10 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_11 : Ref sig .tc := ⟨.hbm, 110, rfl⟩
abbrev main_v71 : Ref sig .tc := ⟨.hbm, 111, rfl⟩
abbrev main_v72 : Ref sig .tc := ⟨.hbm, 112, rfl⟩
abbrev main_cst_12 : Ref sig .tc := ⟨.hbm, 113, rfl⟩
abbrev main_v73 : Ref sig .tc := ⟨.hbm, 114, rfl⟩
abbrev main_v74 : Ref sig .tc := ⟨.hbm, 115, rfl⟩
abbrev main_cst_13 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_14 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_15 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_16 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_17 : Ref sig .tc := ⟨.hbm, 173, rfl⟩
abbrev main_v128 : Ref sig .tc := ⟨.hbm, 174, rfl⟩
abbrev main_v129 : Ref sig .tc := ⟨.hbm, 175, rfl⟩
abbrev main_cst_18 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_cst_19 : Ref sig .tc := ⟨.hbm, 184, rfl⟩
abbrev main_v137 : Ref sig .tc := ⟨.hbm, 185, rfl⟩
abbrev main_v138 : Ref sig .tc := ⟨.hbm, 186, rfl⟩
abbrev main_cst_20 : Ref sig .tc := ⟨.hbm, 187, rfl⟩
abbrev main_v139 : Ref sig .tc := ⟨.hbm, 188, rfl⟩
abbrev main_v140 : Ref sig .tc := ⟨.hbm, 189, rfl⟩
abbrev main_cst_21 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x512 : Shape := ⟨3, ![8, 2048, 512]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S8 : Shape := ⟨1, ![8]⟩
abbrev S1024x1024 : Shape := ⟨2, ![1024, 1024]⟩
abbrev S512x1024 : Shape := ⟨2, ![512, 1024]⟩
abbrev S8x64x1024 : Shape := ⟨3, ![8, 64, 1024]⟩
abbrev S_ : Shape := ⟨0, ![]⟩
abbrev S8x1 : Shape := ⟨2, ![8, 1]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S8x2x2816 : Shape := ⟨3, ![8, 2, 2816]⟩
abbrev S1x512x1024 : Shape := ⟨3, ![1, 512, 1024]⟩
abbrev S1x512x512 : Shape := ⟨3, ![1, 512, 512]⟩
abbrev S1x2x2816 : Shape := ⟨3, ![1, 2, 2816]⟩
abbrev S520x1408 : Shape := ⟨2, ![520, 1408]⟩
abbrev S2x8x1408 : Shape := ⟨3, ![2, 8, 1408]⟩
abbrev S512x512 : Shape := ⟨2, ![512, 512]⟩
abbrev S1x2x1408 : Shape := ⟨3, ![1, 2, 1408]⟩
abbrev S2x1408 : Shape := ⟨2, ![2, 1408]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1x8x1408 : Shape := ⟨3, ![1, 8, 1408]⟩
abbrev S8x1408 : Shape := ⟨2, ![8, 1408]⟩
abbrev S1x1408 : Shape := ⟨2, ![1, 1408]⟩
abbrev S1408x1024 : Shape := ⟨2, ![1408, 1024]⟩

abbrev nBuf : Space → Nat
  | .hbm => 42
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1x1024x1024, .f32⟩
  | .hbm, ⟨4, _⟩ => ⟨S2x1024, .f32⟩
  | .hbm, ⟨5, _⟩ => ⟨S2x1024x5632, .f32⟩
  | .hbm, ⟨6, _⟩ => ⟨S2x3x2816, .f32⟩
  | .hbm, ⟨7, _⟩ => ⟨S2x2816, .f32⟩
  | .hbm, ⟨8, _⟩ => ⟨S2x2816x1024, .f32⟩
  | .hbm, ⟨9, _⟩ => ⟨S8, .i32⟩
  | .hbm, ⟨10, _⟩ => ⟨S8, .i1⟩
  | .hbm, ⟨11, _⟩ => ⟨S1024x1024, .f32⟩
  | .hbm, ⟨12, _⟩ => ⟨S512x1024, .f32⟩
  | .hbm, ⟨13, _⟩ => ⟨S8x64x1024, .f32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S8, .i32⟩
  | .hbm, ⟨18, _⟩ => ⟨S8x1, .i32⟩
  | .hbm, ⟨19, _⟩ => ⟨S8x64x1024, .f32⟩
  | .hbm, ⟨20, _⟩ => ⟨S512x1024, .f32⟩
  | .hbm, ⟨21, _⟩ => ⟨S512x1024, .bf16⟩
  | .hbm, ⟨22, _⟩ => ⟨S512x1024, .f32⟩
  | .hbm, ⟨23, _⟩ => ⟨S512x1024, .bf16⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024x5632, .f32⟩
  | .hbm, ⟨28, _⟩ => ⟨S1024x5632, .f32⟩
  | .hbm, ⟨29, _⟩ => ⟨S1024x5632, .bf16⟩
  | .hbm, ⟨30, _⟩ => ⟨S1x3x2816, .f32⟩
  | .hbm, ⟨31, _⟩ => ⟨S3x2816, .f32⟩
  | .hbm, ⟨32, _⟩ => ⟨S1x2816, .f32⟩
  | .hbm, ⟨33, _⟩ => ⟨S2816, .f32⟩
  | .hbm, ⟨34, _⟩ => ⟨S1x2816, .f32⟩
  | .hbm, ⟨35, _⟩ => ⟨S1x2816x1024, .f32⟩
  | .hbm, ⟨36, _⟩ => ⟨S2816x1024, .f32⟩
  | .hbm, ⟨37, _⟩ => ⟨S2816x1024, .bf16⟩
  | .hbm, ⟨38, _⟩ => ⟨S_, .f32⟩
  | .hbm, ⟨39, _⟩ => ⟨S8x2x2816, .f32⟩
  | .hbm, ⟨40, _⟩ => ⟨S8x2048x1024, .f32⟩
  | .hbm, ⟨41, _⟩ => ⟨S8x2x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x2x2816, .f32⟩
  | .local _ .vmem, ⟨7, _⟩ => ⟨S1x2x2816, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x5632, .bf16⟩
  | .local _ .vmem, ⟨12, _⟩ => ⟨S3x2816, .f32⟩
  | .local _ .vmem, ⟨13, _⟩ => ⟨S1x2816, .f32⟩
  | .local _ .vmem, ⟨14, _⟩ => ⟨S2816x1024, .bf16⟩
  | .local _ .vmem, ⟨15, _⟩ => ⟨S1x512x1024, .f32⟩
  | .local _ .vmem, ⟨16, _⟩ => ⟨S1x512x1024, .f32⟩
  | .local _ .vmem, ⟨17, _⟩ => ⟨S1x2x2816, .f32⟩
  | .local _ .vmem, ⟨18, _⟩ => ⟨S1x2x2816, .f32⟩
  | .local _ .vmem, ⟨19, _⟩ => ⟨S520x1408, .f32⟩
  | .local _ .vmem, ⟨20, _⟩ => ⟨S2x8x1408, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference2Ideal.lean ====
abbrev S8x2048x1024 : Shape := ⟨3, ![8, 2048, 1024]⟩
abbrev S8x2048x512 : Shape := ⟨3, ![8, 2048, 512]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S8x2048x4x2x64 : Shape := ⟨5, ![8, 2048, 4, 2, 64]⟩
abbrev S8x2048x2x4x64 : Shape := ⟨5, ![8, 2048, 2, 4, 64]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2x2816 : Shape := ⟨3, ![8, 2, 2816]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩
abbrev S8x2050x2816 : Shape := ⟨3, ![8, 2050, 2816]⟩
abbrev S1x1x2816 : Shape := ⟨3, ![1, 1, 2816]⟩

abbrev nBuf : Space → Nat
  | .hbm => 92
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1x1024x1024, .f32⟩
  | .hbm, ⟨4, _⟩ => ⟨S2x1024, .f32⟩
  | .hbm, ⟨5, _⟩ => ⟨S2x1024x5632, .f32⟩
  | .hbm, ⟨6, _⟩ => ⟨S2x3x2816, .f32⟩
  | .hbm, ⟨7, _⟩ => ⟨S2x2816, .f32⟩
  | .hbm, ⟨8, _⟩ => ⟨S2x2816x1024, .f32⟩
  | .hbm, ⟨9, _⟩ => ⟨S8x2048x4x2x64, .bf16⟩
  | .hbm, ⟨10, _⟩ => ⟨S8x2048x2x4x64, .bf16⟩
  | .hbm, ⟨11, _⟩ => ⟨S8x2048x512, .bf16⟩
  | .hbm, ⟨12, _⟩ => ⟨S8x2048x1024, .bf16⟩
  | .hbm, ⟨13, _⟩ => ⟨S1024x1024, .f32⟩
  | .hbm, ⟨14, _⟩ => ⟨S8x2048x1024, .f32⟩
  | .hbm, ⟨15, _⟩ => ⟨S8x2048x1024, .f32⟩
  | .hbm, ⟨16, _⟩ => ⟨S1x1024, .f32⟩
  | .hbm, ⟨17, _⟩ => ⟨S1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x2x2816, .f32⟩
  | .hbm, ⟨36, _⟩ => ⟨S1x1024x5632, .f32⟩
  | .hbm, ⟨37, _⟩ => ⟨S1024x5632, .f32⟩
  | .hbm, ⟨38, _⟩ => ⟨S1x3x2816, .f32⟩
  | .hbm, ⟨39, _⟩ => ⟨S3x2816, .f32⟩
  | .hbm, ⟨40, _⟩ => ⟨S1x2816, .f32⟩
  | .hbm, ⟨41, _⟩ => ⟨S2816, .f32⟩
  | .hbm, ⟨42, _⟩ => ⟨S1x2816x1024, .f32⟩
  | .hbm, ⟨43, _⟩ => ⟨S2816x1024, .f32⟩
  | .hbm, ⟨44, _⟩ => ⟨S8x2048x5632, .f32⟩
  | .hbm, ⟨45, _⟩ => ⟨S8x2048x2816, .f32⟩
  | .hbm, ⟨46, _⟩ => ⟨S8x2048x2816, .f32⟩
  | .hbm, ⟨47, _⟩ => ⟨S8x2050x2816, .f32⟩
  | .hbm, ⟨48, _⟩ => ⟨S1x2816, .f32⟩
  | .hbm, ⟨49, _⟩ => ⟨S2816, .f32⟩
  | .hbm, ⟨50, _⟩ => ⟨S8x2048x2816, .f32⟩
  | .hbm, ⟨51, _⟩ => ⟨S1x1x2816, .f32⟩
  | .hbm, ⟨52, _⟩ => ⟨S8x2048x2816, .f32⟩
  | .hbm, ⟨53, _⟩ => ⟨S8x2048x2816, .f32⟩
  | .hbm, ⟨54, _⟩ => ⟨S1x1x2816, .f32⟩
  | .hbm, ⟨55, _⟩ => ⟨S8x2048x2816, .f32⟩
  | .hbm, ⟨56, _⟩ => ⟨S8x2048x2816, .f32⟩
  | .hbm, ⟨57, _⟩ => ⟨S1x2816, .f32⟩
  | .hbm, ⟨58, _⟩ => ⟨S2816, .f32⟩
  | .hbm, ⟨59, _⟩ => ⟨S8x2048x2816, .f32⟩
  | .hbm, ⟨60, _⟩ => ⟨S1x1x2816, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S1x2816, .f32⟩
  | .hbm, ⟨65, _⟩ => ⟨S2816, .f32⟩
  | .hbm, ⟨66, _⟩ => ⟨S8x2048x2816, .f32⟩
  | .hbm, ⟨67, _⟩ => ⟨S1x1x2816, .f32⟩
  | .hbm, ⟨68, _⟩ => ⟨S8x2048x2816, .f32⟩
  | .hbm, ⟨69, _⟩ => ⟨S8x2048x2816, .f32⟩
  | .hbm, ⟨70, _⟩ => ⟨S8x2048x2816, .f32⟩
  | .hbm, ⟨71, _⟩ => ⟨S8x2x2816, .f32⟩
  | .hbm, ⟨72, _⟩ => ⟨S8x2048x2816, .f32⟩
  | .hbm, ⟨73, _⟩ => ⟨S8x2048x2816, .f32⟩
  | .hbm, ⟨74, _⟩ => ⟨S_, .f32⟩
  | .hbm, ⟨75, _⟩ => ⟨S8x2048x2816, .f32⟩
  | .hbm, ⟨76, _⟩ => ⟨S8x2048x2816, .f32⟩
  | .hbm, ⟨77, _⟩ => ⟨S8x2048x2816, .f32⟩
  | .hbm, ⟨78, _⟩ => ⟨S_, .f32⟩
  | .hbm, ⟨79, _⟩ => ⟨S8x2048x2816, .f32⟩
  | .hbm, ⟨80, _⟩ => ⟨S8x2048x2816, .f32⟩
  | .hbm, ⟨81, _⟩ => ⟨S8x2048x2816, .f32⟩
  | .hbm, ⟨82, _⟩ => ⟨S_, .f32⟩
  | .hbm, ⟨83, _⟩ => ⟨S8x2048x2816, .f32⟩
  | .hbm, ⟨84, _⟩ => ⟨S8x2048x2816, .f32⟩
  | .hbm, ⟨85, _⟩ => ⟨S_, .f32⟩
  | .hbm, ⟨86, _⟩ => ⟨S8x2048x2816, .f32⟩
  | .hbm, ⟨87, _⟩ => ⟨S8x2048x2816, .f32⟩
  | .hbm, ⟨88, _⟩ => ⟨S8x2048x2816, .f32⟩
  | .hbm, ⟨89, _⟩ => ⟨S8x2048x2816, .f32⟩
  | .hbm, ⟨90, _⟩ => ⟨S8x2048x1024, .f32⟩
  | .hbm, ⟨91, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_3 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_4 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_5 : Ref sig .tc := ⟨.hbm, 82, rfl⟩
abbrev main_v67 : Ref sig .tc := ⟨.hbm, 83, rfl⟩
abbrev main_v68 : Ref sig .tc := ⟨.hbm, 84, rfl⟩
abbrev main_cst_6 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x1024 : Shape := ⟨2, ![2, 1024]⟩
abbrev S1x1024x2376 : Shape := ⟨3, ![1, 1024, 2376]⟩
abbrev S8 : Shape := ⟨1, ![8]⟩
abbrev S1024x2376 : Shape := ⟨2, ![1024, 2376]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x8x64 : Shape := ⟨3, ![1024, 8, 64]⟩
abbrev S_ : Shape := ⟨0, ![]⟩
abbrev S8x1 : Shape := ⟨2, ![8, 1]⟩
abbrev S1024x56 : Shape := ⟨2, ![1024, 56]⟩
abbrev S1024x2432 : Shape := ⟨2, ![1024, 2432]⟩
abbrev S1x1024 : Shape := ⟨2, ![1, 1024]⟩
abbrev S1024 : Shape := ⟨1, ![1024]⟩
abbrev S16384x1024 : Shape := ⟨2, ![16384, 1024]⟩
abbrev S128x512x128 : Shape := ⟨3, ![128, 512, 128]⟩
abbrev S16384x256 : Shape := ⟨2, ![16384, 256]⟩
abbrev S16384x128 : Shape := ⟨2, ![16384, 128]⟩
abbrev S16384x512 : Shape := ⟨2, ![16384, 512]⟩
abbrev S512x1024 : Shape := ⟨2, ![512, 1024]⟩
abbrev S4x512x128 : Shape := ⟨3, ![4, 512, 128]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S512x2432 : Shape := ⟨2, ![512, 2432]⟩
abbrev S128x128 : Shape := ⟨2, ![128, 128]⟩
abbrev S1x128x128 : Shape := ⟨3, ![1, 128, 128]⟩

abbrev nBuf : Space → Nat
  | .hbm => 36
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2376, .f32⟩
  | .hbm, ⟨3, _⟩ => ⟨S8, .i32⟩
  | .hbm, ⟨4, _⟩ => ⟨S8, .i1⟩
  | .hbm, ⟨5, _⟩ => ⟨S1024x2376, .f32⟩
  | .hbm, ⟨6, _⟩ => ⟨S1024x512, .f32⟩
  | .hbm, ⟨7, _⟩ => ⟨S1024x128, .f32⟩
  | .hbm, ⟨8, _⟩ => ⟨S1024x128, .f32⟩
  | .hbm, ⟨9, _⟩ => ⟨S1024x512, .f32⟩
  | .hbm, ⟨10, _⟩ => ⟨S1024x64, .f32⟩
  | .hbm, ⟨11, _⟩ => ⟨S1024x8, .f32⟩
  | .hbm, ⟨12, _⟩ => ⟨S1024x512, .f32⟩
  | .hbm, ⟨13, _⟩ => ⟨S1024x512, .f32⟩
  | .hbm, ⟨14, _⟩ => ⟨S1024x8x64, .f32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S8, .i32⟩
  | .hbm, ⟨19, _⟩ => ⟨S8x1, .i32⟩
  | .hbm, ⟨20, _⟩ => ⟨S1024x8x64, .f32⟩
  | .hbm, ⟨21, _⟩ => ⟨S1024x512, .f32⟩
  | .hbm, ⟨22, _⟩ => ⟨S_, .f32⟩
  | .hbm, ⟨23, _⟩ => ⟨S1024x56, .f32⟩
  | .hbm, ⟨24, _⟩ => ⟨S1024x2432, .f32⟩
  | .hbm, ⟨25, _⟩ => ⟨S1024x2432, .bf16⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S128x512x128, .bf16⟩
  | .hbm, ⟨31, _⟩ => ⟨S128x512x128, .bf16⟩
  | .hbm, ⟨32, _⟩ => ⟨S16384x256, .f32⟩
  | .hbm, ⟨33, _⟩ => ⟨S16384x128, .f32⟩
  | .hbm, ⟨34, _⟩ => ⟨S16384x512, .f32⟩
  | .hbm, ⟨35, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S4x512x128, .bf16⟩
  | .local _ .vmem, ⟨5, _⟩ => ⟨S4x512x128, .bf16⟩
  | .local _ .vmem, ⟨6, _⟩ => ⟨S4x512x128, .bf16⟩
  | .local _ .vmem, ⟨7, _⟩ => ⟨S4x512x128, .bf16⟩
  | .local _ .vmem, ⟨8, _⟩ => ⟨S512x256, .f32⟩
  | .local _ .vmem, ⟨9, _⟩ => ⟨S512x256, .f32⟩
  | .local _ .vmem, ⟨10, _⟩ => ⟨S512x128, .f32⟩
  | .local _ .vmem, ⟨11, _⟩ => ⟨S512x128, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v23_2 : Ref sig .tc := ⟨.hbm, 32, rfl⟩
abbrev main_v23_3 : Ref sig .tc := ⟨.hbm, 33, rfl⟩
abbrev main_v23_4 : Ref sig .tc := ⟨.hbm, 34, rfl⟩
abbrev main_v23_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8x2048x1024 : Shape := ⟨3, ![8, 2048, 1024]⟩
abbrev S2x1024 : Shape := ⟨2, ![2, 1024]⟩
abbrev S1x1024x2376 : Shape := ⟨3, ![1, 1024, 2376]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2376 : Shape := ⟨2, ![1024, 2376]⟩
abbrev S8x2048x2376 : Shape := ⟨3, ![8, 2048, 2376]⟩
abbrev S8x2048x512 : Shape := ⟨3, ![8, 2048, 512]⟩
abbrev S8x2048x128 : Shape := ⟨3, ![8, 2048, 128]⟩
abbrev S8x2048x64 : Shape := ⟨3, ![8, 2048, 64]⟩
abbrev S8x2048x8 : Shape := ⟨3, ![8, 2048, 8]⟩
abbrev S128x128x2x4x64 : Shape := ⟨5, ![128, 128, 2, 4, 64]⟩
abbrev S128x4x128x2x64 : Shape := ⟨5, ![128, 4, 128, 2, 64]⟩
abbrev S128x512x128 : Shape := ⟨3, ![128, 512, 128]⟩
abbrev S128x128x4x128 : Shape := ⟨4, ![128, 128, 4, 128]⟩
abbrev S128x4x128x128 : Shape := ⟨4, ![128, 4, 128, 128]⟩
abbrev S8x2048x256 : Shape := ⟨3, ![8, 2048, 256]⟩
abbrev S16384x256 : Shape := ⟨2, ![16384, 256]⟩
abbrev S8x2048x56 : Shape := ⟨3, ![8, 2048, 56]⟩
abbrev S16384x128 : Shape := ⟨2, ![16384, 128]⟩
abbrev S16384x512 : Shape := ⟨2, ![16384, 512]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2376, .f32⟩
  | .hbm, ⟨3, _⟩ => ⟨S1x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1024x2376, .f32⟩
  | .hbm, ⟨22, _⟩ => ⟨S8x2048x2376, .f32⟩
  | .hbm, ⟨23, _⟩ => ⟨S8x2048x512, .f32⟩
  | .hbm, ⟨24, _⟩ => ⟨S8x2048x128, .f32⟩
  | .hbm, ⟨25, _⟩ => ⟨S8x2048x128, .f32⟩
  | .hbm, ⟨26, _⟩ => ⟨S8x2048x512, .f32⟩
  | .hbm, ⟨27, _⟩ => ⟨S8x2048x64, .f32⟩
  | .hbm, ⟨28, _⟩ => ⟨S8x2048x8, .f32⟩
  | .hbm, ⟨29, _⟩ => ⟨S8x2048x512, .f32⟩
  | .hbm, ⟨30, _⟩ => ⟨S8x2048x512, .f32⟩
  | .hbm, ⟨31, _⟩ => ⟨S_, .f32⟩
  | .hbm, ⟨32, _⟩ => ⟨S8x2048x512, .f32⟩
  | .hbm, ⟨33, _⟩ => ⟨S8x2048x512, .f32⟩
  | .hbm, ⟨34, _⟩ => ⟨S_, .f32⟩
  | .hbm, ⟨35, _⟩ => ⟨S8x2048x512, .f32⟩
  | .hbm, ⟨36, _⟩ => ⟨S8x2048x512, .f32⟩
  | .hbm, ⟨37, _⟩ => ⟨S128x128x2x4x64, .f32⟩
  | .hbm, ⟨38, _⟩ => ⟨S128x4x128x2x64, .f32⟩
  | .hbm, ⟨39, _⟩ => ⟨S128x512x128, .f32⟩
  | .hbm, ⟨40, _⟩ => ⟨S128x512x128, .bf16⟩
  | .hbm, ⟨41, _⟩ => ⟨S128x128x4x128, .f32⟩
  | .hbm, ⟨42, _⟩ => ⟨S128x4x128x128, .f32⟩
  | .hbm, ⟨43, _⟩ => ⟨S128x512x128, .f32⟩
  | .hbm, ⟨44, _⟩ => ⟨S128x512x128, .bf16⟩
  | .hbm, ⟨45, _⟩ => ⟨S8x2048x256, .f32⟩
  | .hbm, ⟨46, _⟩ => ⟨S16384x256, .f32⟩
  | .hbm, ⟨47, _⟩ => ⟨S_, .f32⟩
  | .hbm, ⟨48, _⟩ => ⟨S8x2048x56, .f32⟩
  | .hbm, ⟨49, _⟩ => ⟨S8x2048x128, .f32⟩
  | .hbm, ⟨50, _⟩ => ⟨S16384x128, .f32⟩
  | .hbm, ⟨51, _⟩ => ⟨S16384x512, .f32⟩
  | .hbm, ⟨52, _⟩ => ⟨S16384x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Kernel4.lean ====
abbrev S32x1024 : Shape := ⟨2, ![32, 1024]⟩
abbrev S2x32x2x2816 : Shape := ⟨4, ![2, 32, 2, 2816]⟩
abbrev S2x1024 : Shape := ⟨2, ![2, 1024]⟩
abbrev S1x1024x2048 : Shape := ⟨3, ![1, 1024, 2048]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S1024x2048 : Shape := ⟨2, ![1024, 2048]⟩
abbrev S2048 : Shape := ⟨1, ![2048]⟩
abbrev S8x128x128 : Shape := ⟨3, ![8, 128, 128]⟩
abbrev S8x1x1 : Shape := ⟨3, ![8, 1, 1]⟩
abbrev S8 : Shape := ⟨1, ![8]⟩
abbrev S8x128 : Shape := ⟨2, ![8, 128]⟩
abbrev S8x1 : Shape := ⟨2, ![8, 1]⟩
abbrev S1024x1024 : Shape := ⟨2, ![1024, 1024]⟩
abbrev S1x32x2x2816 : Shape := ⟨4, ![1, 32, 2, 2816]⟩
abbrev S32x2x2816 : Shape := ⟨3, ![32, 2, 2816]⟩
abbrev S2x32x2816 : Shape := ⟨3, ![2, 32, 2816]⟩
abbrev S32x2816 : Shape := ⟨2, ![32, 2816]⟩
abbrev S32 : Shape := ⟨1, ![32]⟩
abbrev S32x1 : Shape := ⟨2, ![32, 1]⟩
abbrev S32x2048 : Shape := ⟨2, ![32, 2048]⟩
abbrev S1024x1408 : Shape := ⟨2, ![1024, 1408]⟩
abbrev S32x1408 : Shape := ⟨2, ![32, 1408]⟩
abbrev S1x32x1408 : Shape := ⟨3, ![1, 32, 1408]⟩
abbrev S1x1408 : Shape := ⟨2, ![1, 1408]⟩
abbrev S1408x1024 : Shape := ⟨2, ![1408, 1024]⟩

abbrev nBuf : Space → Nat
  | .hbm => 59
  | .vmem => 18
  | .smem => 0
  | _ => 0

abbrev bufTy : (tb : Table) → Fin (tcTables nBuf tb) → BufTy
  | .hbm, ⟨0, _⟩ => ⟨S32x1024, .f32⟩
  | .hbm, ⟨1, _⟩ => ⟨S2x32x2x2816, .f32⟩
  | .hbm, ⟨2, _⟩ => ⟨S2x1024, .f32⟩
  | .hbm, ⟨3, _⟩ => ⟨S1x1024x2048, .f32⟩
  | .hbm, ⟨4, _⟩ => ⟨S1x2048, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x1024x1024, .f32⟩
  | .hbm, ⟨9, _⟩ => ⟨S2x1024, .f32⟩
  | .hbm, ⟨10, _⟩ => ⟨S2x1024x5632, .f32⟩
  | .hbm, ⟨11, _⟩ => ⟨S2x3x2816, .f32⟩
  | .hbm, ⟨12, _⟩ => ⟨S2x2816, .f32⟩
  | .hbm, ⟨13, _⟩ => ⟨S2x2816x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024x5632, .f32⟩
  | .hbm, ⟨19, _⟩ => ⟨S1024x5632, .f32⟩
  | .hbm, ⟨20, _⟩ => ⟨S1024x5632, .bf16⟩
  | .hbm, ⟨21, _⟩ => ⟨S1x3x2816, .f32⟩
  | .hbm, ⟨22, _⟩ => ⟨S3x2816, .f32⟩
  | .hbm, ⟨23, _⟩ => ⟨S1x2816, .f32⟩
  | .hbm, ⟨24, _⟩ => ⟨S2816, .f32⟩
  | .hbm, ⟨25, _⟩ => ⟨S1x2816, .f32⟩
  | .hbm, ⟨26, _⟩ => ⟨S1x2816x1024, .f32⟩
  | .hbm, ⟨27, _⟩ => ⟨S2816x1024, .f32⟩
  | .hbm, ⟨28, _⟩ => ⟨S2816x1024, .bf16⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1024x2048, .f32⟩
  | .hbm, ⟨33, _⟩ => ⟨S1024x2048, .bf16⟩
  | .hbm, ⟨34, _⟩ => ⟨S2048, .f32⟩
  | .hbm, ⟨35, _⟩ => ⟨S1x2048, .f32⟩
  | .hbm, ⟨36, _⟩ => ⟨S1024, .f32⟩
  | .hbm, ⟨37, _⟩ => ⟨S1x1024, .f32⟩
  | .hbm, ⟨38, _⟩ => ⟨S8x128x128, .f32⟩
  | .hbm, ⟨39, _⟩ => ⟨S8x1x1, .f32⟩
  | .hbm, ⟨40, _⟩ => ⟨S8, .f32⟩
  | .hbm, ⟨41, _⟩ => ⟨S8x128, .f32⟩
  | .hbm, ⟨42, _⟩ => ⟨S1024, .f32⟩
  | .hbm, ⟨43, _⟩ => ⟨S1x1024, .f32⟩
  | .hbm, ⟨44, _⟩ => ⟨S8x128, .f32⟩
  | .hbm, ⟨45, _⟩ => ⟨S8x1, .f32⟩
  | .hbm, ⟨46, _⟩ => ⟨S8, .f32⟩
  | .hbm, ⟨47, _⟩ => ⟨S8x128, .f32⟩
  | .hbm, ⟨48, _⟩ => ⟨S1024, .f32⟩
  | .hbm, ⟨49, _⟩ => ⟨S1x1024, .f32⟩
  | .hbm, ⟨50, _⟩ => ⟨S1024x1024, .f32⟩
  | .hbm, ⟨51, _⟩ => ⟨S1024x1024, .bf16⟩
  | .hbm, ⟨52, _⟩ => ⟨S1x1024, .f32⟩
  | .hbm, ⟨53, _⟩ => ⟨S1x32x2x2816, .f32⟩
  | .hbm, ⟨54, _⟩ => ⟨S32x2x2816, .f32⟩
  | .hbm, ⟨55, _⟩ => ⟨S2x32x2816, .f32⟩
  | .hbm, ⟨56, _⟩ => ⟨S32x1024, .f32⟩
  | .hbm, ⟨57, _⟩ => ⟨S32x2816, .f32⟩
  | .hbm, ⟨58, _⟩ => ⟨S32x1024, .f32⟩
  | .local _ .vmem, ⟨0, _⟩ => ⟨S32x1024, .f32⟩
  | .local _ .vmem, ⟨1, _⟩ => ⟨S2x32x2816, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S3x2816, .f32⟩
  | .local _ .vmem, ⟨12, _⟩ => ⟨S1x2816, .f32⟩
  | .local _ .vmem, ⟨13, _⟩ => ⟨S2816x1024, .bf16⟩
  | .local _ .vmem, ⟨14, _⟩ => ⟨S1x1024, .f32⟩
  | .local _ .vmem, ⟨15, _⟩ => ⟨S32x1024, .f32⟩
  | .local _ .vmem, ⟨16, _⟩ => ⟨S32x2816, .f32⟩
  | .local _ .vmem, ⟨17, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41_0 : Ref sig .tc := ⟨.hbm, 56, rfl⟩
abbrev main_v41_1 : Ref sig .tc := ⟨.hbm, 57, rfl⟩
abbrev main_v41_2 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Reference4Ideal.lean ====
abbrev S32x1024 : Shape := ⟨2, ![32, 1024]⟩
abbrev S2x32x2x2816 : Shape := ⟨4, ![2, 32, 2, 2816]⟩
abbrev S2x1024 : Shape := ⟨2, ![2, 1024]⟩
abbrev S1x1024x2048 : Shape := ⟨3, ![1, 1024, 2048]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S32x1x1024 : Shape := ⟨3, ![32, 1, 1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x2048 : Shape := ⟨2, ![1024, 2048]⟩
abbrev S2048 : Shape := ⟨1, ![2048]⟩
abbrev S8x128x128 : Shape := ⟨3, ![8, 128, 128]⟩
abbrev S8x128 : Shape := ⟨2, ![8, 128]⟩
abbrev S1024x1024 : Shape := ⟨2, ![1024, 1024]⟩
abbrev S32x1x2048 : Shape := ⟨3, ![32, 1, 2048]⟩
abbrev S1x1x2048 : Shape := ⟨3, ![1, 1, 2048]⟩
abbrev S32x128x1024 : Shape := ⟨3, ![32, 128, 1024]⟩
abbrev S32x1x128x8x128 : Shape := ⟨5, ![32, 1, 128, 8, 128]⟩
abbrev S128x128 : Shape := ⟨2, ![128, 128]⟩
abbrev S8x32x1x128x128 : Shape := ⟨5, ![8, 32, 1, 128, 128]⟩
abbrev S128x8 : Shape := ⟨2, ![128, 8]⟩
abbrev S1x1x128x8x1 : Shape := ⟨5, ![1, 1, 128, 8, 1]⟩
abbrev S1x32x2x2816 : Shape := ⟨4, ![1, 32, 2, 2816]⟩
abbrev S32x2x2816 : Shape := ⟨3, ![32, 2, 2816]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S32x1x5632 : Shape := ⟨3, ![32, 1, 5632]⟩
abbrev S32x1x2816 : Shape := ⟨3, ![32, 1, 2816]⟩
abbrev S32x3x2816 : Shape := ⟨3, ![32, 3, 2816]⟩
abbrev S1x1x2816 : Shape := ⟨3, ![1, 1, 2816]⟩
abbrev S32x2816 : Shape := ⟨2, ![32, 2816]⟩

abbrev nBuf : Space → Nat
  | .hbm => 206
  | .vmem => 0
  | .smem => 0
  | _ => 0

abbrev hbmTy0_0 (i : Nat) : BufTy := match i % 128 with
  | 0 => ⟨S32x1024, .f32⟩
  | 1 => ⟨S2x32x2x2816, .f32⟩
  | 2 => ⟨S2x1024, .f32⟩
  | 3 => ⟨S1x1024x2048, .f32⟩
  | 4 => ⟨S1x2048, .f32⟩
  | 5 => ⟨S1x1024, .f32⟩
  | 6 => ⟨S1x8x128x128, .f32⟩
  | 7 => ⟨S1x8x128, .f32⟩
  | 8 => ⟨S1x1024x1024, .f32⟩
  | 9 => ⟨S2x1024, .f32⟩
  | 10 => ⟨S2x1024x5632, .f32⟩
  | 11 => ⟨S2x3x2816, .f32⟩
  | 12 => ⟨S2x2816, .f32⟩
  | 13 => ⟨S2x2816x1024, .f32⟩
  | 14 => ⟨S1024, .f32⟩
  | 15 => ⟨S32x1x1024, .f32⟩
  | 16 => ⟨S1x1024, .f32⟩
  | 17 => ⟨S1024, .f32⟩
  | 18 => ⟨S32x1x1024, .f32⟩
  | 19 => ⟨S_, .f32⟩
  | 20 => ⟨S32x1, .f32⟩
  | 21 => ⟨S32x1x1, .f32⟩
  | 22 => ⟨S_, .f32⟩
  | 23 => ⟨S32x1x1, .f32⟩
  | 24 => ⟨S32x1x1, .f32⟩
  | 25 => ⟨S_, .f32⟩
  | 26 => ⟨S32x1x1, .f32⟩
  | 27 => ⟨S32x1x1, .f32⟩
  | 28 => ⟨S32x1x1, .f32⟩
  | 29 => ⟨S32x1x1024, .f32⟩
  | 30 => ⟨S32x1x1024, .f32⟩
  | 31 => ⟨S1x1x1024, .f32⟩
  | 32 => ⟨S32x1x1024, .f32⟩
  | 33 => ⟨S32x1x1024, .f32⟩
  | 34 => ⟨S1024x2048, .f32⟩
  | 35 => ⟨S2048, .f32⟩
  | 36 => ⟨S1024, .f32⟩
  | 37 => ⟨S8x128x128, .f32⟩
  | 38 => ⟨S8x128, .f32⟩
  | 39 => ⟨S1024x1024, .f32⟩
  | 40 => ⟨S32x1x2048, .f32⟩
  | 41 => ⟨S1x1x2048, .f32⟩
  | 42 => ⟨S32x1x2048, .f32⟩
  | 43 => ⟨S32x1x2048, .f32⟩
  | 44 => ⟨S32x1x2048, .f32⟩
  | 45 => ⟨S32x1x2048, .f32⟩
  | 46 => ⟨S_, .f32⟩
  | 47 => ⟨S32x1x2048, .f32⟩
  | 48 => ⟨S32x1x2048, .f32⟩
  | 49 => ⟨S32x1x2048, .f32⟩
  | 50 => ⟨S_, .f32⟩
  | 51 => ⟨S32x1x2048, .f32⟩
  | 52 => ⟨S32x1x2048, .f32⟩
  | 53 => ⟨S32x1x2048, .f32⟩
  | 54 => ⟨S_, .f32⟩
  | 55 => ⟨S32x1x2048, .f32⟩
  | 56 => ⟨S32x1x2048, .f32⟩
  | 57 => ⟨S_, .f32⟩
  | 58 => ⟨S32x1x2048, .f32⟩
  | 59 => ⟨S32x1x2048, .f32⟩
  | 60 => ⟨S32x1x2048, .f32⟩
  | 61 => ⟨S32x1x1024, .f32⟩
  | 62 => ⟨S32x1x1024, .f32⟩
  | 63 => ⟨S32x1x1024, .f32⟩
  | 64 => ⟨S_, .f32⟩
  | 65 => ⟨S32x1, .f32⟩
  | 66 => ⟨S32x1x1, .f32⟩
  | 67 => ⟨S_, .f32⟩
  | 68 => ⟨S32x1x1, .f32⟩
  | 69 => ⟨S32x1x1, .f32⟩
  | 70 => ⟨S_, .f32⟩
  | 71 => ⟨S32x1x1, .f32⟩
  | 72 => ⟨S32x1x1, .f32⟩
  | 73 => ⟨S32x1x1, .f32⟩
  | 74 => ⟨S32x1x1024, .f32⟩
  | 75 => ⟨S32x1x1024, .f32⟩
  | 76 => ⟨S1x1x1024, .f32⟩
  | 77 => ⟨S32x1x1024, .f32⟩
  | 78 => ⟨S32x1x1024, .f32⟩
  | 79 => ⟨S_, .i32⟩
  | 80 => ⟨S_, .f32⟩
  | 81 => ⟨S32x128x1024, .f32⟩
  | 82 => ⟨S32x1x128x8x128, .f32⟩
  | 83 => ⟨S_, .i1⟩
  | 84 => ⟨S128x128, .i1⟩
  | 85 => ⟨S128x128, .i32⟩
  | 86 => ⟨S_, .i32⟩
  | 87 => ⟨S128x128, .i32⟩
  | 88 => ⟨S128x128, .i32⟩
  | 89 => ⟨S128x128, .i32⟩
  | 90 => ⟨S128x128, .i1⟩
  | 91 => ⟨S_, .i1⟩
  | 92 => ⟨S128x128, .i1⟩
  | 93 => ⟨S128x128, .i1⟩
  | 94 => ⟨S_, .i32⟩
  | 95 => ⟨S_, .f32⟩
  | 96 => ⟨S8x128x128, .i1⟩
  | 97 => ⟨S8x128x128, .f32⟩
  | 98 => ⟨S8x128x128, .f32⟩
  | 99 => ⟨S8x32x1x128x128, .f32⟩
  | 100 => ⟨S32x1x128x8x128, .f32⟩
  | 101 => ⟨S128x8, .f32⟩
  | 102 => ⟨S1x1x128x8x1, .f32⟩
  | 103 => ⟨S32x1x128x8x128, .f32⟩
  | 104 => ⟨S32x1x128x8x128, .f32⟩
  | 105 => ⟨S32x128x1024, .f32⟩
  | 106 => ⟨S32x1x1024, .f32⟩
  | 107 => ⟨S32x1x1024, .f32⟩
  | 108 => ⟨S32x1x1024, .f32⟩
  | 109 => ⟨S32x1x1024, .f32⟩
  | 110 => ⟨S1x1024, .f32⟩
  | 111 => ⟨S1024, .f32⟩
  | 112 => ⟨S32x1x1024, .f32⟩
  | 113 => ⟨S_, .f32⟩
  | 114 => ⟨S32x1, .f32⟩
  | 115 => ⟨S32x1x1, .f32⟩
  | 116 => ⟨S_, .f32⟩
  | 117 => ⟨S32x1x1, .f32⟩
  | 118 => ⟨S32x1x1, .f32⟩
  | 119 => ⟨S_, .f32⟩
  | 120 => ⟨S32x1x1, .f32⟩
  | 121 => ⟨S32x1x1, .f32⟩
  | 122 => ⟨S32x1x1, .f32⟩
  | 123 => ⟨S32x1x1024, .f32⟩
  | 124 => ⟨S32x1x1024, .f32⟩
  | 125 => ⟨S1x1x1024, .f32⟩
  | 126 => ⟨S32x1x1024, .f32⟩
  | 127 => ⟨S32x1x1024, .f32⟩
  | _ => ⟨S32x1024, .f32⟩

abbrev hbmTy0_1 (i : Nat) : BufTy := match i % 128 with
  | 0 => ⟨S1x32x2x2816, .f32⟩
  | 1 => ⟨S32x2x2816, .f32⟩
  | 2 => ⟨S1x1024x5632, .f32⟩
  | 3 => ⟨S1024x5632, .f32⟩
  | 4 => ⟨S1x3x2816, .f32⟩
  | 5 => ⟨S3x2816, .f32⟩
  | 6 => ⟨S1x2816, .f32⟩
  | 7 => ⟨S2816, .f32⟩
  | 8 => ⟨S1x2816x1024, .f32⟩
  | 9 => ⟨S2816x1024, .f32⟩
  | 10 => ⟨S32x1x5632, .f32⟩
  | 11 => ⟨S32x1x2816, .f32⟩
  | 12 => ⟨S32x1x2816, .f32⟩
  | 13 => ⟨S32x3x2816, .f32⟩
  | 14 => ⟨S1x2816, .f32⟩
  | 15 => ⟨S2816, .f32⟩
  | 16 => ⟨S32x1x2816, .f32⟩
  | 17 => ⟨S1x1x2816, .f32⟩
  | 18 => ⟨S32x1x2816, .f32⟩
  | 19 => ⟨S32x1x2816, .f32⟩
  | 20 => ⟨S1x1x2816, .f32⟩
  | 21 => ⟨S32x1x2816, .f32⟩
  | 22 => ⟨S32x1x2816, .f32⟩
  | 23 => ⟨S1x2816, .f32⟩
  | 24 => ⟨S2816, .f32⟩
  | 25 => ⟨S32x1x2816, .f32⟩
  | 26 => ⟨S1x1x2816, .f32⟩
  | 27 => ⟨S32x1x2816, .f32⟩
  | 28 => ⟨S32x1x2816, .f32⟩
  | 29 => ⟨S32x1x2816, .f32⟩
  | 30 => ⟨S1x2816, .f32⟩
  | 31 => ⟨S2816, .f32⟩
  | 32 => ⟨S32x1x2816, .f32⟩
  | 33 => ⟨S1x1x2816, .f32⟩
  | 34 => ⟨S32x1x2816, .f32⟩
  | 35 => ⟨S32x1x2816, .f32⟩
  | 36 => ⟨S32x1x2816, .f32⟩
  | 37 => ⟨S32x2x2816, .f32⟩
  | 38 => ⟨S32x1x2816, .f32⟩
  | 39 => ⟨S32x1x2816, .f32⟩
  | 40 => ⟨S_, .f32⟩
  | 41 => ⟨S32x1x2816, .f32⟩
  | 42 => ⟨S32x1x2816, .f32⟩
  | 43 => ⟨S32x1x2816, .f32⟩
  | 44 => ⟨S_, .f32⟩
  | 45 => ⟨S32x1x2816, .f32⟩
  | 46 => ⟨S32x1x2816, .f32⟩
  | 47 => ⟨S32x1x2816, .f32⟩
  | 48 => ⟨S_, .f32⟩
  | 49 => ⟨S32x1x2816, .f32⟩
  | 50 => ⟨S32x1x2816, .f32⟩
  | 51 => ⟨S_, .f32⟩
  | 52 => ⟨S32x1x2816, .f32⟩
  | 53 => ⟨S32x1x2816, .f32⟩
  | 54 => ⟨S32x1x2816, .f32⟩
  | 55 => ⟨S32x1x2816, .f32⟩
  | 56 => ⟨S32x1x1024, .f32⟩
  | 57 => ⟨S32x1x1024, .f32⟩
  | 58 => ⟨S32x1x1024, .f32⟩
  | 59 => ⟨S_, .f32⟩
  | 60 => ⟨S32x1, .f32⟩
  | 61 => ⟨S32x1x1, .f32⟩
  | 62 => ⟨S_, .f32⟩
  | 63 => ⟨S32x1x1, .f32⟩
  | 64 => ⟨S32x1x1, .f32⟩
  | 65 => ⟨S_, .f32⟩
  | 66 => ⟨S32x1x1, .f32⟩
  | 67 => ⟨S32x1x1, .f32⟩
  | 68 => ⟨S32x1x1, .f32⟩
  | 69 => ⟨S32x1x1024, .f32⟩
  | 70 => ⟨S32x1x1024, .f32⟩
  | 71 => ⟨S1x1x1024, .f32⟩
  | 72 => ⟨S32x1x1024, .f32⟩
  | 73 => ⟨S32x1x1024, .f32⟩
  | 74 => ⟨S32x1024, .f32⟩
  | 75 => ⟨S32x1x2816, .f32⟩
  | 76 => ⟨S32x2816, .f32⟩
  | 77 => ⟨S32x1024, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c : Ref sig .tc := ⟨.hbm, 79, rfl⟩
abbrev main_call0_v0 : Ref sig .tc := ⟨.hbm, 80, rfl⟩
abbrev main_v54 : Ref sig .tc := ⟨.hbm, 81, rfl⟩
abbrev main_v55 : Ref sig .tc := ⟨.hbm, 82, rfl⟩
abbrev main_c_9 : Ref sig .tc := ⟨.hbm, 83, rfl⟩
abbrev main_v56 : Ref sig .tc := ⟨.hbm, 84, rfl⟩
abbrev main_call1_v0 : Ref sig .tc := ⟨.hbm, 85, rfl⟩
abbrev main_call1_c : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_c_0 : Ref sig .tc := ⟨.hbm, 91, rfl⟩
abbrev main_call1_v5 : Ref sig .tc := ⟨.hbm, 92, rfl⟩
abbrev main_v57 : Ref sig .tc := ⟨.hbm, 93, rfl⟩
abbrev main_c_10 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_11 : Ref sig .tc := ⟨.hbm, 113, rfl⟩
abbrev main_v73 : Ref sig .tc := ⟨.hbm, 114, rfl⟩
abbrev main_v74 : Ref sig .tc := ⟨.hbm, 115, rfl⟩
abbrev main_cst_12 : Ref sig .tc := ⟨.hbm, 116, rfl⟩
abbrev main_v75 : Ref sig .tc := ⟨.hbm, 117, rfl⟩
abbrev main_v76 : Ref sig .tc := ⟨.hbm, 118, rfl⟩
abbrev main_cst_13 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_14 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_15 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_16 : Ref sig .tc := ⟨.hbm, 176, rfl⟩
abbrev main_v131 : Ref sig .tc := ⟨.hbm, 177, rfl⟩
abbrev main_v132 : Ref sig .tc := ⟨.hbm, 178, rfl⟩
abbrev main_cst_17 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_18 : Ref sig .tc := ⟨.hbm, 187, rfl⟩
abbrev main_v140 : Ref sig .tc := ⟨.hbm, 188, rfl⟩
abbrev main_v141 : Ref sig .tc := ⟨.hbm, 189, rfl⟩
abbrev main_cst_19 : Ref sig .tc := ⟨.hbm, 190, rfl⟩
abbrev main_v142 : Ref sig .tc := ⟨.hbm, 191, rfl⟩
abbrev main_v143 : Ref sig .tc := ⟨.hbm, 192, rfl⟩
abbrev main_cst_20 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩

abbrev nD : Nat := 1
abbrev τ : Topo := Topo.v7x

variable {F : FTy → Type} [FloatOps F]
-- ==== Kernel5.lean ====
abbrev S32x1x1024 : Shape := ⟨3, ![32, 1, 1024]⟩
abbrev S32x512 : Shape := ⟨2, ![32, 512]⟩
abbrev S2x32x2x2816 : Shape := ⟨4, ![2, 32, 2, 2816]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S8 : Shape := ⟨1, ![8]⟩
abbrev S32x1024 : Shape := ⟨2, ![32, 1024]⟩
abbrev S1024x1024 : Shape := ⟨2, ![1024, 1024]⟩
abbrev S512x1024 : Shape := ⟨2, ![512, 1024]⟩
abbrev S8x64x1024 : Shape := ⟨3, ![8, 64, 1024]⟩
abbrev S_ : Shape := ⟨0, ![]⟩
abbrev S8x1 : Shape := ⟨2, ![8, 1]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S1x32x2x2816 : Shape := ⟨4, ![1, 32, 2, 2816]⟩
abbrev S32x2x2816 : Shape := ⟨3, ![32, 2, 2816]⟩
abbrev S2x32x2816 : Shape := ⟨3, ![2, 32, 2816]⟩
abbrev S32x2816 : Shape := ⟨2, ![32, 2816]⟩
abbrev S32 : Shape := ⟨1, ![32]⟩
abbrev S32x1 : Shape := ⟨2, ![32, 1]⟩
abbrev S1024x1408 : Shape := ⟨2, ![1024, 1408]⟩
abbrev S32x1408 : Shape := ⟨2, ![32, 1408]⟩
abbrev S1x32x1408 : Shape := ⟨3, ![1, 32, 1408]⟩
abbrev S1x1408 : Shape := ⟨2, ![1, 1408]⟩
abbrev S1408x1024 : Shape := ⟨2, ![1408, 1024]⟩

abbrev nBuf : Space → Nat
  | .hbm => 45
  | .vmem => 13
  | .smem => 0
  | _ => 0

abbrev bufTy : (tb : Table) → Fin (tcTables nBuf tb) → BufTy
  | .hbm, ⟨0, _⟩ => ⟨S32x1x1024, .f32⟩
  | .hbm, ⟨1, _⟩ => ⟨S32x512, .bf16⟩
  | .hbm, ⟨2, _⟩ => ⟨S32x512, .bf16⟩
  | .hbm, ⟨3, _⟩ => ⟨S2x32x2x2816, .f32⟩
  | .hbm, ⟨4, _⟩ => ⟨S1x1024x1024, .f32⟩
  | .hbm, ⟨5, _⟩ => ⟨S2x1024, .f32⟩
  | .hbm, ⟨6, _⟩ => ⟨S2x1024x5632, .f32⟩
  | .hbm, ⟨7, _⟩ => ⟨S2x3x2816, .f32⟩
  | .hbm, ⟨8, _⟩ => ⟨S2x2816, .f32⟩
  | .hbm, ⟨9, _⟩ => ⟨S2x2816x1024, .f32⟩
  | .hbm, ⟨10, _⟩ => ⟨S8, .i32⟩
  | .hbm, ⟨11, _⟩ => ⟨S8, .i1⟩
  | .hbm, ⟨12, _⟩ => ⟨S32x1024, .f32⟩
  | .hbm, ⟨13, _⟩ => ⟨S1024x1024, .f32⟩
  | .hbm, ⟨14, _⟩ => ⟨S512x1024, .f32⟩
  | .hbm, ⟨15, _⟩ => ⟨S8x64x1024, .f32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8, .i32⟩
  | .hbm, ⟨20, _⟩ => ⟨S8x1, .i32⟩
  | .hbm, ⟨21, _⟩ => ⟨S8x64x1024, .f32⟩
  | .hbm, ⟨22, _⟩ => ⟨S512x1024, .f32⟩
  | .hbm, ⟨23, _⟩ => ⟨S512x1024, .bf16⟩
  | .hbm, ⟨24, _⟩ => ⟨S512x1024, .f32⟩
  | .hbm, ⟨25, _⟩ => ⟨S512x1024, .bf16⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1x1024x5632, .f32⟩
  | .hbm, ⟨30, _⟩ => ⟨S1024x5632, .f32⟩
  | .hbm, ⟨31, _⟩ => ⟨S1024x5632, .bf16⟩
  | .hbm, ⟨32, _⟩ => ⟨S1x3x2816, .f32⟩
  | .hbm, ⟨33, _⟩ => ⟨S3x2816, .f32⟩
  | .hbm, ⟨34, _⟩ => ⟨S1x2816, .f32⟩
  | .hbm, ⟨35, _⟩ => ⟨S2816, .f32⟩
  | .hbm, ⟨36, _⟩ => ⟨S1x2816, .f32⟩
  | .hbm, ⟨37, _⟩ => ⟨S1x2816x1024, .f32⟩
  | .hbm, ⟨38, _⟩ => ⟨S2816x1024, .f32⟩
  | .hbm, ⟨39, _⟩ => ⟨S2816x1024, .bf16⟩
  | .hbm, ⟨40, _⟩ => ⟨S1x32x2x2816, .f32⟩
  | .hbm, ⟨41, _⟩ => ⟨S32x2x2816, .f32⟩
  | .hbm, ⟨42, _⟩ => ⟨S2x32x2816, .f32⟩
  | .hbm, ⟨43, _⟩ => ⟨S32x1024, .f32⟩
  | .hbm, ⟨44, _⟩ => ⟨S32x2816, .f32⟩
  | .local _ .vmem, ⟨0, _⟩ => ⟨S32x1024, .f32⟩
  | .local _ .vmem, ⟨1, _⟩ => ⟨S32x512, .bf16⟩
  | .local _ .vmem, ⟨2, _⟩ => ⟨S32x512, .bf16⟩
  | .local _ .vmem, ⟨3, _⟩ => ⟨S2x32x2816, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x5632, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S32x1024, .f32⟩
  | .local _ .vmem, ⟨12, _⟩ => ⟨S32x2816, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Reference5Ideal.lean ====
abbrev S32x1x1024 : Shape := ⟨3, ![32, 1, 1024]⟩
abbrev S32x512 : Shape := ⟨2, ![32, 512]⟩
abbrev S2x32x2x2816 : Shape := ⟨4, ![2, 32, 2, 2816]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S32x1x4x2x64 : Shape := ⟨5, ![32, 1, 4, 2, 64]⟩
abbrev S32x1x2x4x64 : Shape := ⟨5, ![32, 1, 2, 4, 64]⟩
abbrev S32x1x512 : Shape := ⟨3, ![32, 1, 512]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1x32x2x2816 : Shape := ⟨4, ![1, 32, 2, 2816]⟩
abbrev S32x2x2816 : Shape := ⟨3, ![32, 2, 2816]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S32x1x5632 : Shape := ⟨3, ![32, 1, 5632]⟩
abbrev S32x1x2816 : Shape := ⟨3, ![32, 1, 2816]⟩
abbrev S32x3x2816 : Shape := ⟨3, ![32, 3, 2816]⟩
abbrev S1x1x2816 : Shape := ⟨3, ![1, 1, 2816]⟩
abbrev S32x1024 : Shape := ⟨2, ![32, 1024]⟩
abbrev S32x2816 : Shape := ⟨2, ![32, 2816]⟩

abbrev nBuf : Space → Nat
  | .hbm => 99
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x512, .bf16⟩
  | .hbm, ⟨2, _⟩ => ⟨S32x512, .bf16⟩
  | .hbm, ⟨3, _⟩ => ⟨S2x32x2x2816, .f32⟩
  | .hbm, ⟨4, _⟩ => ⟨S1x1024x1024, .f32⟩
  | .hbm, ⟨5, _⟩ => ⟨S2x1024, .f32⟩
  | .hbm, ⟨6, _⟩ => ⟨S2x1024x5632, .f32⟩
  | .hbm, ⟨7, _⟩ => ⟨S2x3x2816, .f32⟩
  | .hbm, ⟨8, _⟩ => ⟨S2x2816, .f32⟩
  | .hbm, ⟨9, _⟩ => ⟨S2x2816x1024, .f32⟩
  | .hbm, ⟨10, _⟩ => ⟨S32x1x4x2x64, .bf16⟩
  | .hbm, ⟨11, _⟩ => ⟨S32x1x2x4x64, .bf16⟩
  | .hbm, ⟨12, _⟩ => ⟨S32x1x512, .bf16⟩
  | .hbm, ⟨13, _⟩ => ⟨S32x1x512, .bf16⟩
  | .hbm, ⟨14, _⟩ => ⟨S32x1x512, .f32⟩
  | .hbm, ⟨15, _⟩ => ⟨S32x1x512, .f32⟩
  | .hbm, ⟨16, _⟩ => ⟨S32x1x1024, .f32⟩
  | .hbm, ⟨17, _⟩ => ⟨S1024x1024, .f32⟩
  | .hbm, ⟨18, _⟩ => ⟨S32x1x1024, .f32⟩
  | .hbm, ⟨19, _⟩ => ⟨S32x1x1024, .f32⟩
  | .hbm, ⟨20, _⟩ => ⟨S1x1024, .f32⟩
  | .hbm, ⟨21, _⟩ => ⟨S1024, .f32⟩
  | .hbm, ⟨22, _⟩ => ⟨S32x1x1024, .f32⟩
  | .hbm, ⟨23, _⟩ => ⟨S_, .f32⟩
  | .hbm, ⟨24, _⟩ => ⟨S32x1, .f32⟩
  | .hbm, ⟨25, _⟩ => ⟨S32x1x1, .f32⟩
  | .hbm, ⟨26, _⟩ => ⟨S_, .f32⟩
  | .hbm, ⟨27, _⟩ => ⟨S32x1x1, .f32⟩
  | .hbm, ⟨28, _⟩ => ⟨S32x1x1, .f32⟩
  | .hbm, ⟨29, _⟩ => ⟨S_, .f32⟩
  | .hbm, ⟨30, _⟩ => ⟨S32x1x1, .f32⟩
  | .hbm, ⟨31, _⟩ => ⟨S32x1x1, .f32⟩
  | .hbm, ⟨32, _⟩ => ⟨S32x1x1, .f32⟩
  | .hbm, ⟨33, _⟩ => ⟨S32x1x1024, .f32⟩
  | .hbm, ⟨34, _⟩ => ⟨S32x1x1024, .f32⟩
  | .hbm, ⟨35, _⟩ => ⟨S1x1x1024, .f32⟩
  | .hbm, ⟨36, _⟩ => ⟨S32x1x1024, .f32⟩
  | .hbm, ⟨37, _⟩ => ⟨S32x1x1024, .f32⟩
  | .hbm, ⟨38, _⟩ => ⟨S1x32x2x2816, .f32⟩
  | .hbm, ⟨39, _⟩ => ⟨S32x2x2816, .f32⟩
  | .hbm, ⟨40, _⟩ => ⟨S1x1024x5632, .f32⟩
  | .hbm, ⟨41, _⟩ => ⟨S1024x5632, .f32⟩
  | .hbm, ⟨42, _⟩ => ⟨S1x3x2816, .f32⟩
  | .hbm, ⟨43, _⟩ => ⟨S3x2816, .f32⟩
  | .hbm, ⟨44, _⟩ => ⟨S1x2816, .f32⟩
  | .hbm, ⟨45, _⟩ => ⟨S2816, .f32⟩
  | .hbm, ⟨46, _⟩ => ⟨S1x2816x1024, .f32⟩
  | .hbm, ⟨47, _⟩ => ⟨S2816x1024, .f32⟩
  | .hbm, ⟨48, _⟩ => ⟨S32x1x5632, .f32⟩
  | .hbm, ⟨49, _⟩ => ⟨S32x1x2816, .f32⟩
  | .hbm, ⟨50, _⟩ => ⟨S32x1x2816, .f32⟩
  | .hbm, ⟨51, _⟩ => ⟨S32x3x2816, .f32⟩
  | .hbm, ⟨52, _⟩ => ⟨S1x2816, .f32⟩
  | .hbm, ⟨53, _⟩ => ⟨S2816, .f32⟩
  | .hbm, ⟨54, _⟩ => ⟨S32x1x2816, .f32⟩
  | .hbm, ⟨55, _⟩ => ⟨S1x1x2816, .f32⟩
  | .hbm, ⟨56, _⟩ => ⟨S32x1x2816, .f32⟩
  | .hbm, ⟨57, _⟩ => ⟨S32x1x2816, .f32⟩
  | .hbm, ⟨58, _⟩ => ⟨S1x1x2816, .f32⟩
  | .hbm, ⟨59, _⟩ => ⟨S32x1x2816, .f32⟩
  | .hbm, ⟨60, _⟩ => ⟨S32x1x2816, .f32⟩
  | .hbm, ⟨61, _⟩ => ⟨S1x2816, .f32⟩
  | .hbm, ⟨62, _⟩ => ⟨S2816, .f32⟩
  | .hbm, ⟨63, _⟩ => ⟨S32x1x2816, .f32⟩
  | .hbm, ⟨64, _⟩ => ⟨S1x1x2816, .f32⟩
  | .hbm, ⟨65, _⟩ => ⟨S32x1x2816, .f32⟩
  | .hbm, ⟨66, _⟩ => ⟨S32x1x2816, .f32⟩
  | .hbm, ⟨67, _⟩ => ⟨S32x1x2816, .f32⟩
  | .hbm, ⟨68, _⟩ => ⟨S1x2816, .f32⟩
  | .hbm, ⟨69, _⟩ => ⟨S2816, .f32⟩
  | .hbm, ⟨70, _⟩ => ⟨S32x1x2816, .f32⟩
  | .hbm, ⟨71, _⟩ => ⟨S1x1x2816, .f32⟩
  | .hbm, ⟨72, _⟩ => ⟨S32x1x2816, .f32⟩
  | .hbm, ⟨73, _⟩ => ⟨S32x1x2816, .f32⟩
  | .hbm, ⟨74, _⟩ => ⟨S32x1x2816, .f32⟩
  | .hbm, ⟨75, _⟩ => ⟨S32x2x2816, .f32⟩
  | .hbm, ⟨76, _⟩ => ⟨S32x1x2816, .f32⟩
  | .hbm, ⟨77, _⟩ => ⟨S32x1x2816, .f32⟩
  | .hbm, ⟨78, _⟩ => ⟨S_, .f32⟩
  | .hbm, ⟨79, _⟩ => ⟨S32x1x2816, .f32⟩
  | .hbm, ⟨80, _⟩ => ⟨S32x1x2816, .f32⟩
  | .hbm, ⟨81, _⟩ => ⟨S32x1x2816, .f32⟩
  | .hbm, ⟨82, _⟩ => ⟨S_, .f32⟩
  | .hbm, ⟨83, _⟩ => ⟨S32x1x2816, .f32⟩
  | .hbm, ⟨84, _⟩ => ⟨S32x1x2816, .f32⟩
  | .hbm, ⟨85, _⟩ => ⟨S32x1x2816, .f32⟩
  | .hbm, ⟨86, _⟩ => ⟨S_, .f32⟩
  | .hbm, ⟨87, _⟩ => ⟨S32x1x2816, .f32⟩
  | .hbm, ⟨88, _⟩ => ⟨S32x1x2816, .f32⟩
  | .hbm, ⟨89, _⟩ => ⟨S_, .f32⟩
  | .hbm, ⟨90, _⟩ => ⟨S32x1x2816, .f32⟩
  | .hbm, ⟨91, _⟩ => ⟨S32x1x2816, .f32⟩
  | .hbm, ⟨92, _⟩ => ⟨S32x1x2816, .f32⟩
  | .hbm, ⟨93, _⟩ => ⟨S32x1x2816, .f32⟩
  | .hbm, ⟨94, _⟩ => ⟨S32x1x1024, .f32⟩
  | .hbm, ⟨95, _⟩ => ⟨S32x1x1024, .f32⟩
  | .hbm, ⟨96, _⟩ => ⟨S32x1024, .f32⟩
  | .hbm, ⟨97, _⟩ => ⟨S32x1x2816, .f32⟩
  | .hbm, ⟨98, _⟩ => ⟨S32x2816, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_2 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_3 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_4 : Ref sig .tc := ⟨.hbm, 86, rfl⟩
abbrev main_v71 : Ref sig .tc := ⟨.hbm, 87, rfl⟩
abbrev main_v72 : Ref sig .tc := ⟨.hbm, 88, rfl⟩
abbrev main_cst_5 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩

abbrev nD : Nat := 1
abbrev τ : Topo := Topo.v7x

variable {F : FTy → Type} [FloatOps F]
-- ==== Kernel6.lean ====
abbrev S32x1x1024 : Shape := ⟨3, ![32, 1, 1024]⟩
abbrev S2x1024 : Shape := ⟨2, ![2, 1024]⟩
abbrev S1x1024x2376 : Shape := ⟨3, ![1, 1024, 2376]⟩
abbrev S8 : Shape := ⟨1, ![8]⟩
abbrev S1024x2376 : Shape := ⟨2, ![1024, 2376]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x8x64 : Shape := ⟨3, ![1024, 8, 64]⟩
abbrev S_ : Shape := ⟨0, ![]⟩
abbrev S8x1 : Shape := ⟨2, ![8, 1]⟩
abbrev S1024x56 : Shape := ⟨2, ![1024, 56]⟩
abbrev S1024x2432 : Shape := ⟨2, ![1024, 2432]⟩
abbrev S1x1024 : Shape := ⟨2, ![1, 1024]⟩
abbrev S1024 : Shape := ⟨1, ![1024]⟩
abbrev S32x1024 : Shape := ⟨2, ![32, 1024]⟩
abbrev S8x32x128 : Shape := ⟨3, ![8, 32, 128]⟩
abbrev S32x512 : Shape := ⟨2, ![32, 512]⟩
abbrev S32x256 : Shape := ⟨2, ![32, 256]⟩
abbrev S32x128 : Shape := ⟨2, ![32, 128]⟩
abbrev S32 : Shape := ⟨1, ![32]⟩
abbrev S32x1 : Shape := ⟨2, ![32, 1]⟩
abbrev S32x2432 : Shape := ⟨2, ![32, 2432]⟩
abbrev S1x32x128 : Shape := ⟨3, ![1, 32, 128]⟩

abbrev nBuf : Space → Nat
  | .hbm => 36
  | .vmem => 9
  | .smem => 0
  | _ => 0

abbrev bufTy : (tb : Table) → Fin (tcTables nBuf tb) → BufTy
  | .hbm, ⟨0, _⟩ => ⟨S32x1x1024, .f32⟩
  | .hbm, ⟨1, _⟩ => ⟨S2x1024, .f32⟩
  | .hbm, ⟨2, _⟩ => ⟨S1x1024x2376, .f32⟩
  | .hbm, ⟨3, _⟩ => ⟨S8, .i32⟩
  | .hbm, ⟨4, _⟩ => ⟨S8, .i1⟩
  | .hbm, ⟨5, _⟩ => ⟨S1024x2376, .f32⟩
  | .hbm, ⟨6, _⟩ => ⟨S1024x512, .f32⟩
  | .hbm, ⟨7, _⟩ => ⟨S1024x128, .f32⟩
  | .hbm, ⟨8, _⟩ => ⟨S1024x128, .f32⟩
  | .hbm, ⟨9, _⟩ => ⟨S1024x512, .f32⟩
  | .hbm, ⟨10, _⟩ => ⟨S1024x64, .f32⟩
  | .hbm, ⟨11, _⟩ => ⟨S1024x8, .f32⟩
  | .hbm, ⟨12, _⟩ => ⟨S1024x512, .f32⟩
  | .hbm, ⟨13, _⟩ => ⟨S1024x512, .f32⟩
  | .hbm, ⟨14, _⟩ => ⟨S1024x8x64, .f32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S8, .i32⟩
  | .hbm, ⟨19, _⟩ => ⟨S8x1, .i32⟩
  | .hbm, ⟨20, _⟩ => ⟨S1024x8x64, .f32⟩
  | .hbm, ⟨21, _⟩ => ⟨S1024x512, .f32⟩
  | .hbm, ⟨22, _⟩ => ⟨S_, .f32⟩
  | .hbm, ⟨23, _⟩ => ⟨S1024x56, .f32⟩
  | .hbm, ⟨24, _⟩ => ⟨S1024x2432, .f32⟩
  | .hbm, ⟨25, _⟩ => ⟨S1024x2432, .bf16⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S32x1024, .f32⟩
  | .hbm, ⟨30, _⟩ => ⟨S8x32x128, .f32⟩
  | .hbm, ⟨31, _⟩ => ⟨S32x512, .f32⟩
  | .hbm, ⟨32, _⟩ => ⟨S32x256, .f32⟩
  | .hbm, ⟨33, _⟩ => ⟨S32x128, .f32⟩
  | .hbm, ⟨34, _⟩ => ⟨S32x512, .f32⟩
  | .hbm, ⟨35, _⟩ => ⟨S32x512, .f32⟩
  | .local _ .vmem, ⟨0, _⟩ => ⟨S32x1024, .f32⟩
  | .local _ .vmem, ⟨1, _⟩ => ⟨S1x1024, .f32⟩
  | .local _ .vmem, ⟨2, _⟩ => ⟨S1024x2432, .bf16⟩
  | .local _ .vmem, ⟨3, _⟩ => ⟨S8x32x128, .f32⟩
  | .local _ .vmem, ⟨4, _⟩ => ⟨S32x512, .f32⟩
  | .local _ .vmem, ⟨5, _⟩ => ⟨S32x256, .f32⟩
  | .local _ .vmem, ⟨6, _⟩ => ⟨S32x128, .f32⟩
  | .local _ .vmem, ⟨7, _⟩ => ⟨S32x512, .f32⟩
  | .local _ .vmem, ⟨8, _⟩ => ⟨S32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v23_2 : Ref sig .tc := ⟨.hbm, 32, rfl⟩
abbrev main_v23_3 : Ref sig .tc := ⟨.hbm, 33, rfl⟩
abbrev main_v23_4 : Ref sig .tc := ⟨.hbm, 34, rfl⟩
abbrev main_v23_5 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference6Ideal.lean ====
abbrev S32x1x1024 : Shape := ⟨3, ![32, 1, 1024]⟩
abbrev S2x1024 : Shape := ⟨2, ![2, 1024]⟩
abbrev S1x1024x2376 : Shape := ⟨3, ![1, 1024, 2376]⟩
abbrev S1x1024 : Shape := ⟨2, ![1, 1024]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x2376 : Shape := ⟨2, ![1024, 2376]⟩
abbrev S32x1x2376 : Shape := ⟨3, ![32, 1, 2376]⟩
abbrev S32x1x512 : Shape := ⟨3, ![32, 1, 512]⟩
abbrev S32x1x128 : Shape := ⟨3, ![32, 1, 128]⟩
abbrev S32x1x64 : Shape := ⟨3, ![32, 1, 64]⟩
abbrev S32x1x8 : Shape := ⟨3, ![32, 1, 8]⟩
abbrev S32x2x4x64 : Shape := ⟨4, ![32, 2, 4, 64]⟩
abbrev S32x1x4x64 : Shape := ⟨4, ![32, 1, 4, 64]⟩
abbrev S32x4x64 : Shape := ⟨3, ![32, 4, 64]⟩
abbrev S32x4x128 : Shape := ⟨3, ![32, 4, 128]⟩
abbrev S32x4x1x128 : Shape := ⟨4, ![32, 4, 1, 128]⟩
abbrev S32x4x2x128 : Shape := ⟨4, ![32, 4, 2, 128]⟩
abbrev S32x8x128 : Shape := ⟨3, ![32, 8, 128]⟩
abbrev S8x32x128 : Shape := ⟨3, ![8, 32, 128]⟩
abbrev S32x1x256 : Shape := ⟨3, ![32, 1, 256]⟩
abbrev S32x256 : Shape := ⟨2, ![32, 256]⟩
abbrev S32x1x56 : Shape := ⟨3, ![32, 1, 56]⟩
abbrev S32x128 : Shape := ⟨2, ![32, 128]⟩
abbrev S32x512 : Shape := ⟨2, ![32, 512]⟩

abbrev nBuf : Space → Nat
  | .hbm => 62
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S2x1024, .f32⟩
  | .hbm, ⟨2, _⟩ => ⟨S1x1024x2376, .f32⟩
  | .hbm, ⟨3, _⟩ => ⟨S1x1024, .f32⟩
  | .hbm, ⟨4, _⟩ => ⟨S1024, .f32⟩
  | .hbm, ⟨5, _⟩ => ⟨S32x1x1024, .f32⟩
  | .hbm, ⟨6, _⟩ => ⟨S_, .f32⟩
  | .hbm, ⟨7, _⟩ => ⟨S32x1, .f32⟩
  | .hbm, ⟨8, _⟩ => ⟨S32x1x1, .f32⟩
  | .hbm, ⟨9, _⟩ => ⟨S_, .f32⟩
  | .hbm, ⟨10, _⟩ => ⟨S32x1x1, .f32⟩
  | .hbm, ⟨11, _⟩ => ⟨S32x1x1, .f32⟩
  | .hbm, ⟨12, _⟩ => ⟨S_, .f32⟩
  | .hbm, ⟨13, _⟩ => ⟨S32x1x1, .f32⟩
  | .hbm, ⟨14, _⟩ => ⟨S32x1x1, .f32⟩
  | .hbm, ⟨15, _⟩ => ⟨S32x1x1, .f32⟩
  | .hbm, ⟨16, _⟩ => ⟨S32x1x1024, .f32⟩
  | .hbm, ⟨17, _⟩ => ⟨S32x1x1024, .f32⟩
  | .hbm, ⟨18, _⟩ => ⟨S1x1x1024, .f32⟩
  | .hbm, ⟨19, _⟩ => ⟨S32x1x1024, .f32⟩
  | .hbm, ⟨20, _⟩ => ⟨S32x1x1024, .f32⟩
  | .hbm, ⟨21, _⟩ => ⟨S1024x2376, .f32⟩
  | .hbm, ⟨22, _⟩ => ⟨S32x1x2376, .f32⟩
  | .hbm, ⟨23, _⟩ => ⟨S32x1x512, .f32⟩
  | .hbm, ⟨24, _⟩ => ⟨S32x1x128, .f32⟩
  | .hbm, ⟨25, _⟩ => ⟨S32x1x128, .f32⟩
  | .hbm, ⟨26, _⟩ => ⟨S32x1x512, .f32⟩
  | .hbm, ⟨27, _⟩ => ⟨S32x1x64, .f32⟩
  | .hbm, ⟨28, _⟩ => ⟨S32x1x8, .f32⟩
  | .hbm, ⟨29, _⟩ => ⟨S32x1x512, .f32⟩
  | .hbm, ⟨30, _⟩ => ⟨S32x1x512, .f32⟩
  | .hbm, ⟨31, _⟩ => ⟨S_, .f32⟩
  | .hbm, ⟨32, _⟩ => ⟨S32x1x512, .f32⟩
  | .hbm, ⟨33, _⟩ => ⟨S32x1x512, .f32⟩
  | .hbm, ⟨34, _⟩ => ⟨S_, .f32⟩
  | .hbm, ⟨35, _⟩ => ⟨S32x1x512, .f32⟩
  | .hbm, ⟨36, _⟩ => ⟨S32x1x512, .f32⟩
  | .hbm, ⟨37, _⟩ => ⟨S32x2x4x64, .f32⟩
  | .hbm, ⟨38, _⟩ => ⟨S32x1x4x64, .f32⟩
  | .hbm, ⟨39, _⟩ => ⟨S32x4x64, .f32⟩
  | .hbm, ⟨40, _⟩ => ⟨S_, .i32⟩
  | .hbm, ⟨41, _⟩ => ⟨S_, .f32⟩
  | .hbm, ⟨42, _⟩ => ⟨S32x4x128, .f32⟩
  | .hbm, ⟨43, _⟩ => ⟨S32x1x4x64, .f32⟩
  | .hbm, ⟨44, _⟩ => ⟨S32x4x64, .f32⟩
  | .hbm, ⟨45, _⟩ => ⟨S_, .i32⟩
  | .hbm, ⟨46, _⟩ => ⟨S_, .f32⟩
  | .hbm, ⟨47, _⟩ => ⟨S32x4x128, .f32⟩
  | .hbm, ⟨48, _⟩ => ⟨S32x4x1x128, .f32⟩
  | .hbm, ⟨49, _⟩ => ⟨S32x4x1x128, .f32⟩
  | .hbm, ⟨50, _⟩ => ⟨S32x4x2x128, .f32⟩
  | .hbm, ⟨51, _⟩ => ⟨S32x8x128, .f32⟩
  | .hbm, ⟨52, _⟩ => ⟨S8x32x128, .f32⟩
  | .hbm, ⟨53, _⟩ => ⟨S32x1x256, .f32⟩
  | .hbm, ⟨54, _⟩ => ⟨S32x256, .f32⟩
  | .hbm, ⟨55, _⟩ => ⟨S_, .f32⟩
  | .hbm, ⟨56, _⟩ => ⟨S32x1x56, .f32⟩
  | .hbm, ⟨57, _⟩ => ⟨S32x1x128, .f32⟩
  | .hbm, ⟨58, _⟩ => ⟨S32x128, .f32⟩
  | .hbm, ⟨59, _⟩ => ⟨S32x512, .f32⟩
  | .hbm, ⟨60, _⟩ => ⟨S32x512, .f32⟩
  | .hbm, ⟨61, _⟩ => ⟨S32x512, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_call0_v0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_call1_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Proof.Layer.lean ====
module

public import Idealize.ShloMosaic.Lib.Pipeline.ValueKit
public import Idealize.ShloMosaic.Lib.Pointwise
public import Idealize.ShloMosaic.Lib.WordCmp
public import Idealize.ShloMosaic.Lib.KernelVsHost

@[expose] public section

set_option maxRecDepth 16384

noncomputable section

open Idealize.ShloMosaic Idealize.ShloMosaic.TcCoe Idealize.SL.Sem Idealize.ShloMosaic.WordCmp

namespace Cert.Layer

/-- The root-mean-square normalisation of one row of 1024 numbers, with gain `g`. -/
def rms (y g : Fin 1024 → EReal) (d : Fin 1024) : EReal :=
  y d * Ideal.rsqrt (Ideal.div (∑ x, y x * y x) (Ideal.ofBits FTy.f32 1149239296#32) + Ideal.ofBits FTy.f32 897988541#32) * g d

/-- The gaussian error linear unit, by its tanh formula. -/
def gelu (x : EReal) : EReal :=
  x * (Ideal.ofBits FTy.f32 1056964608#32 * (1
    + Ideal.tanh (Ideal.ofBits FTy.f32 1061962282#32 * (x + Ideal.ofBits FTy.f32 1027024659#32 * (x * x * x)))))

/-- Column `j` of the gate half of the up projection of one normalised row. -/
def gate (h : Fin 1024 → EReal) (w : Fin 1024 → Fin 5632 → EReal) (j : Fin 2816) : EReal :=
  ∑ k, h k * w k ⟨j.val, by omega⟩

/-- Column `j` of the value half of the up projection of one normalised row. -/
def val (h : Fin 1024 → EReal) (w : Fin 1024 → Fin 5632 → EReal) (j : Fin 2816) : EReal :=
  ∑ k, h k * w k ⟨2816 + j.val, by omega⟩

/-- A sequence of gate rows delayed by `n` time steps: zero before the sequence starts. -/
def back (n : Nat) (G : Fin 2048 → Fin 2816 → EReal) (s : Fin 2048) (j : Fin 2816) : EReal :=
  if h : n ≤ s.val then G ⟨s.val - n, by omega⟩ j else 0

/-- The causal depthwise convolution of width three over time. -/
def conv (cw : Fin 3 → Fin 2816 → EReal) (cb : Fin 2816 → EReal) (G : Fin 2048 → Fin 2816 → EReal)
    (s : Fin 2048) (j : Fin 2816) : EReal :=
  cb j + cw 0 j * back 2 G s j + cw 1 j * back 1 G s j + cw 2 j * G s j

/-- The convolutional feed-forward layer on the normalised rows `H` of one sequence. -/
def ffn (H : Fin 2048 → Fin 1024 → EReal) (w : Fin 1024 → Fin 5632 → EReal) (cw : Fin 3 → Fin 2816 → EReal)
    (cb : Fin 2816 → EReal) (wd : Fin 2816 → Fin 1024 → EReal) (s : Fin 2048) (d : Fin 1024) : EReal :=
  ∑ j, gelu (conv cw cb (fun s => gate (H s) w) s j) * val (H s) w j * wd j d

/-- The hidden columns of the gated layer for one normalised row: the gelu of its projection plus the bias. -/
def hid (h : Fin 1024 → EReal) (w : Fin 1024 → Fin 2048 → EReal) (b : Fin 2048 → EReal) (j : Fin 2048) : EReal :=
  gelu ((∑ k, h k * w k j) + b j)

/-- The first half of the hidden columns: what gates. -/
def left (z : Fin 2048 → EReal) (k : Fin 1024) : EReal := z ⟨k.val, by omega⟩
/-- The second half of the hidden columns: what is mixed. -/
def right (z : Fin 2048 → EReal) (k : Fin 1024) : EReal := z ⟨1024 + k.val, by omega⟩

/-- The causal mixing over time inside chunks of 128 steps, with one 128 by 128 matrix and one bias for each group of 128
    columns: time `t` takes the steps of its own chunk up to itself. -/
def chunk (w : Fin 8 → Fin 128 → Fin 128 → EReal) (b : Fin 8 → Fin 128 → EReal) (V : Fin 2048 → Fin 1024 → EReal)
    (t : Fin 2048) (k : Fin 1024) : EReal :=
  (∑ s : Fin 128, (if s.val ≤ t.val % 128 then w ⟨k.val / 128, by omega⟩ ⟨t.val % 128, by omega⟩ s else (0 : EReal))
      * V ⟨t.val / 128 * 128 + s.val, by omega⟩ k)
    + b ⟨k.val / 128, by omega⟩ ⟨t.val % 128, by omega⟩

/-- The gated layer on the rows of one sequence: the input plus the projection of the first half of the hidden columns times
    the mixed second half. -/
def gated (Y : Fin 2048 → Fin 1024 → EReal) (Z : Fin 2048 → Fin 2048 → EReal) (gs : Fin 1024 → EReal)
    (w : Fin 8 → Fin 128 → Fin 128 → EReal) (b : Fin 8 → Fin 128 → EReal) (wo : Fin 1024 → Fin 1024 → EReal)
    (t : Fin 2048) (d : Fin 1024) : EReal :=
  Y t d + ∑ k, left (Z t) k * chunk w b (fun t => rms (right (Z t)) gs) t k * wo k d

/-- A column of the first half of the 2816. -/
def lo (x : Fin 1408) : Fin 2816 := ⟨x.val, by omega⟩
/-- A column of the second half of the 2816. -/
def hi (x : Fin 1408) : Fin 2816 := ⟨1408 + x.val, by omega⟩

/-- The feed-forward sum is the sum over its two halves of columns. -/
theorem ffn_halves (H : Fin 2048 → Fin 1024 → EReal) (w : Fin 1024 → Fin 5632 → EReal) (cw : Fin 3 → Fin 2816 → EReal)
    (cb : Fin 2816 → EReal) (wd : Fin 2816 → Fin 1024 → EReal) (s : Fin 2048) (d : Fin 1024) :
    ffn H w cw cb wd s d
      = (∑ x, gelu (conv cw cb (fun s => gate (H s) w) s (lo x)) * val (H s) w (lo x) * wd (lo x) d)
        + ∑ x, gelu (conv cw cb (fun s => gate (H s) w) s (hi x)) * val (H s) w (hi x) * wd (hi x) d := by
  unfold ffn
  rw [Fin.sum_univ_two_halves 1408 1408 rfl]
  rfl

/-- The two-step delay as the tile code forms it: from the eight rows `C` carried in, or from the tile's own rows. -/
theorem back_tile (n : Nat) (hn : n ≤ 8) (G : Fin 2048 → Fin 2816 → EReal) (τ : Nat) (r : Fin 512) (s : Fin 2048)
    (hs : s.val = 512 * τ + r.val) (j : Fin 2816) (C : Fin 8 → EReal) (T : Fin 512 → EReal)
    (hT : ∀ (r' : Fin 512) (s' : Fin 2048), s'.val = 512 * τ + r'.val → T r' = G s' j)
    (hC0 : τ = 0 → ∀ i : Fin 8, 8 - n ≤ i.val → C i = 0)
    (hC : 0 < τ → ∀ (i : Fin 8) (s' : Fin 2048), s'.val + 8 = 512 * τ + i.val → C i = G s' j) :
    (if h : 8 - n + r.val < 8 then C ⟨8 - n + r.val, h⟩ else T ⟨8 - n + r.val - 8, by omega⟩) = back n G s j := by
  unfold back
  split
  · rename_i h
    rcases Nat.eq_zero_or_pos τ with h0 | h0
    · rw [dif_neg (by omega), hC0 h0 _ (by simp only; omega)]
    · rw [dif_pos (by omega), hC h0 _ ⟨s.val - n, by omega⟩ (by simp only; omega)]
  · rename_i h
    rw [dif_pos (by omega), hT _ ⟨s.val - n, by omega⟩ (by simp only; omega)]

/-- The causal mask as a comparison of two words: at step `s` of the row `a` it keeps the weight if `s` is not later. -/
theorem mask_word (a s : Nat) (ha : a < 128) (hs : s < 128) (x : EReal) :
    Scalar.select (IntOp.cmpi CmpIPredicate.sge (BitVec.ofNat 32 a) (BitVec.ofNat 32 s)) x (0 : EReal)
      = if s ≤ a then x else (0 : EReal) := by
  rw [cmpi_sge_ofNat (by omega) (by omega), select_ofBool]
  simp only [decide_eq_true_eq]

/-- The same mask, as the reference forms it: by the choice between the truth values of the comparison. -/
theorem mask_word2 (a s : Nat) (ha : a < 128) (hs : s < 128) (x z : EReal) (hz : z = 0) :
    Scalar.select (Scalar.select (IntOp.cmpi CmpIPredicate.sge (IntOp.addi (BitVec.ofNat 32 a) 0#32) (BitVec.ofNat 32 s)) 1#1 0#1)
      x z = if s ≤ a then x else (0 : EReal) := by
  rw [show IntOp.addi (BitVec.ofNat 32 a) 0#32 = BitVec.ofNat 32 a from BitVec.add_zero _,
    cmpi_sge_ofNat (by omega) (by omega), select_ofBool, hz]
  by_cases h : s ≤ a
  · simp [h, select_one]
  · simp [h, select_zero]

/-- The convolution of the rows behind two rows of zeros is the causal convolution. -/
theorem conv_padded (cw : Fin 3 → Fin 2816 → EReal) (cb : Fin 2816 → EReal) (G : Fin 2048 → Fin 2816 → EReal)
    (s : Fin 2048) (j : Fin 2816) :
    cb j + cw 0 j * (if h : s.val < 2 then (0 : EReal) else G ⟨s.val - 2, by omega⟩ j)
        + cw 1 j * (if h : 1 + s.val < 2 then (0 : EReal) else G ⟨1 + s.val - 2, by omega⟩ j)
        + cw 2 j * (if h : 2 + s.val < 2 then (0 : EReal) else G ⟨2 + s.val - 2, by omega⟩ j)
      = conv cw cb G s j := by
  have h2 : (if h : s.val < 2 then (0 : EReal) else G ⟨s.val - 2, by omega⟩ j) = back 2 G s j := by
    unfold back
    split
    · rw [dif_neg (by omega)]
    · rw [dif_pos (by omega)]
  have h1 : (if h : 1 + s.val < 2 then (0 : EReal) else G ⟨1 + s.val - 2, by omega⟩ j) = back 1 G s j := by
    unfold back
    split
    · rw [dif_neg (by omega)]
    · rw [dif_pos (by omega)]
      exact congrArg (fun k => G k j) (Fin.ext (by simp only; omega))
  have h0 : (if h : 2 + s.val < 2 then (0 : EReal) else G ⟨2 + s.val - 2, by omega⟩ j) = G s j := by
    rw [dif_neg (by omega)]
    exact congrArg (fun k => G k j) (Fin.ext (by simp only; omega))
  rw [h2, h1, h0]
  rfl

end Cert.Layer
-- ==== Proof.GatedTile.lean ====
module

public import proofs.«01_k».proof.Proof.Gen.KernelIdeal.Skeleton
public import proofs.«01_k».proof.Proof.Layer
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.KernelIdeal.Tile
open Cert.KernelIdeal Cert.KernelIdeal.Gen

/-- The blocks the chunk-local weights make of the rows `v`: row `i` of the tile, column `k`, from the eight weight blocks `ws` and bias
    columns `bs`, chunk by chunk. -/
def cell (ws : Fin 8 → FVec Ideal S128x128 .bf16) (bs : Fin 8 → FVec Ideal S128x1 .f32) (v : FVec Ideal S512x1024 .bf16)
    (r : Fin 4) (p : Fin 128) (k : Fin 1024) : EReal :=
  (∑ s : Fin 128, ws ⟨k.val / 128, by omega⟩ (ix2 p s) * v (ix2 ⟨128 * r.val + s.val, by omega⟩ k))
    + bs ⟨k.val / 128, by omega⟩ (ix2 p 0)

section
variable (ws : Fin 8 → FVec Ideal S128x128 .bf16) (bs : Fin 8 → FVec Ideal S128x1 .f32) (v : FVec Ideal S512x1024 .bf16)
  (p : Fin 128) (k : Fin 1024)

/-- One block of a chunk, read where its columns start at `128 * g`. -/
theorem cell_of (r : Fin 4) (g : Fin 8) (f : Fin 128 → EReal) (hl : 128 * g.val ≤ k.val) (hr : k.val < 128 * g.val + 128)
    (hf : ∀ s, f s = v (ix2 ⟨128 * r.val + s.val, by omega⟩ k)) :
    (∑ s : Fin 128, ws g (ix2 p s) * f s) + bs g (ix2 p 0) = cell ws bs v r p k := by
  have e : g = ⟨k.val / 128, by omega⟩ := Fin.ext (by show g.val = k.val / 128; omega)
  obtain rfl : f = fun s => v (ix2 ⟨128 * r.val + s.val, by omega⟩ k) := funext hf
  unfold cell
  rw [← e]

/-- The first chunk of a tile. -/
theorem row0_at :
    (k0_pay19 (F := Ideal) v (ws 3) (ws 4) (ws 5) (ws 6) (ws 7) (k0_pay16 (F := Ideal) v (ws 0) (bs 0))
      (k0_pay17 (F := Ideal) v (ws 1) (bs 1)) (k0_pay18 (F := Ideal) v (ws 2) (bs 2)) (bs 3) (bs 4) (bs 5) (bs 6) (bs 7)) (ix2 p k)
      = cell ws bs v 0 p k := by
  pointwise [k0_pay19, k0_pay16, k0_pay17, k0_pay18]
  split
  · exact cell_of ws bs v p k 0 0 _ (by simp <;> omega) (by simp <;> omega) (fun s => congrArg v (congrArg₂ ix2 (Fin.ext (by simp)) (Fin.ext (by simp <;> omega))))
  split
  · exact cell_of ws bs v p k 0 1 _ (by simp <;> omega) (by simp <;> omega) (fun s => congrArg v (congrArg₂ ix2 (Fin.ext (by simp)) (Fin.ext (by simp <;> omega))))
  split
  · exact cell_of ws bs v p k 0 2 _ (by simp <;> omega) (by simp <;> omega) (fun s => congrArg v (congrArg₂ ix2 (Fin.ext (by simp)) (Fin.ext (by simp <;> omega))))
  split
  · exact cell_of ws bs v p k 0 3 _ (by simp <;> omega) (by simp <;> omega) (fun s => congrArg v (congrArg₂ ix2 (Fin.ext (by simp)) (Fin.ext (by simp <;> omega))))
  split
  · exact cell_of ws bs v p k 0 4 _ (by simp <;> omega) (by simp <;> omega) (fun s => congrArg v (congrArg₂ ix2 (Fin.ext (by simp)) (Fin.ext (by simp <;> omega))))
  split
  · exact cell_of ws bs v p k 0 5 _ (by simp <;> omega) (by simp <;> omega) (fun s => congrArg v (congrArg₂ ix2 (Fin.ext (by simp)) (Fin.ext (by simp <;> omega))))
  split
  · exact cell_of ws bs v p k 0 6 _ (by simp <;> omega) (by simp <;> omega) (fun s => congrArg v (congrArg₂ ix2 (Fin.ext (by simp)) (Fin.ext (by simp <;> omega))))
  exact cell_of ws bs v p k 0 7 _ (by simp <;> omega) (by simp <;> omega) (fun s => congrArg v (congrArg₂ ix2 (Fin.ext (by simp)) (Fin.ext (by simp <;> omega))))

/-- The second chunk of a tile. -/
theorem row1_at :
    (k0_pay22 (F := Ideal) v (ws 2) (ws 3) (ws 4) (ws 5) (ws 6) (ws 7) (k0_pay20 (F := Ideal) v (ws 0) (bs 0))
      (k0_pay21 (F := Ideal) v (ws 1)) (bs 1) (bs 2) (bs 3) (bs 4) (bs 5) (bs 6) (bs 7)) (ix2 p k)
      = cell ws bs v 1 p k := by
  pointwise [k0_pay22, k0_pay20, k0_pay21]
  split
  · exact cell_of ws bs v p k 1 0 _ (by simp <;> omega) (by simp <;> omega) (fun s => congrArg v (congrArg₂ ix2 (Fin.ext (by simp)) (Fin.ext (by simp <;> omega))))
  split
  · exact cell_of ws bs v p k 1 1 _ (by simp <;> omega) (by simp <;> omega) (fun s => congrArg v (congrArg₂ ix2 (Fin.ext (by simp)) (Fin.ext (by simp <;> omega))))
  split
  · exact cell_of ws bs v p k 1 2 _ (by simp <;> omega) (by simp <;> omega) (fun s => congrArg v (congrArg₂ ix2 (Fin.ext (by simp)) (Fin.ext (by simp <;> omega))))
  split
  · exact cell_of ws bs v p k 1 3 _ (by simp <;> omega) (by simp <;> omega) (fun s => congrArg v (congrArg₂ ix2 (Fin.ext (by simp)) (Fin.ext (by simp <;> omega))))
  split
  · exact cell_of ws bs v p k 1 4 _ (by simp <;> omega) (by simp <;> omega) (fun s => congrArg v (congrArg₂ ix2 (Fin.ext (by simp)) (Fin.ext (by simp <;> omega))))
  split
  · exact cell_of ws bs v p k 1 5 _ (by simp <;> omega) (by simp <;> omega) (fun s => congrArg v (congrArg₂ ix2 (Fin.ext (by simp)) (Fin.ext (by simp <;> omega))))
  split
  · exact cell_of ws bs v p k 1 6 _ (by simp <;> omega) (by simp <;> omega) (fun s => congrArg v (congrArg₂ ix2 (Fin.ext (by simp)) (Fin.ext (by simp <;> omega))))
  exact cell_of ws bs v p k 1 7 _ (by simp <;> omega) (by simp <;> omega) (fun s => congrArg v (congrArg₂ ix2 (Fin.ext (by simp)) (Fin.ext (by simp <;> omega))))

/-- The third chunk of a tile. -/
theorem row2_at :
    (k0_pay32 (F := Ideal) v (ws 7) (k0_pay24 (F := Ideal) (ws 0) (k0_pay23 (F := Ideal) v) (bs 0)) (k0_pay25 (F := Ideal) v (ws 1) (bs 1))
      (k0_pay26 (F := Ideal) v (ws 2) (bs 2)) (k0_pay27 (F := Ideal) v (ws 3) (bs 3)) (k0_pay28 (F := Ideal) v (ws 4) (bs 4))
      (k0_pay29 (F := Ideal) v (ws 5) (bs 5)) (k0_pay30 (F := Ideal) v (ws 6)) (k0_pay31 (F := Ideal) (bs 6)) (bs 7)) (ix2 p k)
      = cell ws bs v 2 p k := by
  pointwise [k0_pay32, k0_pay31, k0_pay30, k0_pay29, k0_pay28, k0_pay27, k0_pay26, k0_pay25, k0_pay24, k0_pay23]
  split
  · exact cell_of ws bs v p k 2 0 _ (by simp <;> omega) (by simp <;> omega) (fun s => congrArg v (congrArg₂ ix2 (Fin.ext (by simp)) (Fin.ext (by simp <;> omega))))
  split
  · exact cell_of ws bs v p k 2 1 _ (by simp <;> omega) (by simp <;> omega) (fun s => congrArg v (congrArg₂ ix2 (Fin.ext (by simp)) (Fin.ext (by simp <;> omega))))
  split
  · exact cell_of ws bs v p k 2 2 _ (by simp <;> omega) (by simp <;> omega) (fun s => congrArg v (congrArg₂ ix2 (Fin.ext (by simp)) (Fin.ext (by simp <;> omega))))
  split
  · exact cell_of ws bs v p k 2 3 _ (by simp <;> omega) (by simp <;> omega) (fun s => congrArg v (congrArg₂ ix2 (Fin.ext (by simp)) (Fin.ext (by simp <;> omega))))
  split
  · exact cell_of ws bs v p k 2 4 _ (by simp <;> omega) (by simp <;> omega) (fun s => congrArg v (congrArg₂ ix2 (Fin.ext (by simp)) (Fin.ext (by simp <;> omega))))
  split
  · exact cell_of ws bs v p k 2 5 _ (by simp <;> omega) (by simp <;> omega) (fun s => congrArg v (congrArg₂ ix2 (Fin.ext (by simp)) (Fin.ext (by simp <;> omega))))
  split
  · exact cell_of ws bs v p k 2 6 _ (by simp <;> omega) (by simp <;> omega) (fun s => congrArg v (congrArg₂ ix2 (Fin.ext (by simp)) (Fin.ext (by simp <;> omega))))
  exact cell_of ws bs v p k 2 7 _ (by simp <;> omega) (by simp <;> omega) (fun s => congrArg v (congrArg₂ ix2 (Fin.ext (by simp)) (Fin.ext (by simp <;> omega))))

/-- The last chunk of a tile, as the kernel forms it. -/
def row3 (v53 : FVec Ideal S512x1024 .bf16) (v91 v96 : FVec Ideal S128x128 .bf16) (v249 v255 v261 v267 v273 v275 : FVec Ideal S128x128 .f32)
    (v276 v282 v288 : FVec Ideal S128x1 .f32) : FVec Ideal S128x1024 .f32 :=
  have v277 : FVec Ideal S128x1 .f32 := shapeCast S128x1 v276 shapeCasts_S128x1_S128x1
  have v278 : FVec Ideal S128x128 .f32 := broadcastTo S128x128 v277 broadcasts_S128x1_S128x128
  have v279 : FVec Ideal S128x128 .f32 := addf v275 v278
  have v280 : FVec Ideal S128x128 .bf16 := extractStridedSlice S128x128 ![384, 768] v53 slices_S512x1024_o384_768_S128x128
  have cst_135 : FVec Ideal S128x128 .f32 := constant S128x128 .f32 0x00000000#32
  have v281 : FVec Ideal S128x128 .f32 := matmul dot_S128x128_S128x128_S128x128_1_0_0_1_n_n none v91 v280 cst_135
  have v283 : FVec Ideal S128x1 .f32 := shapeCast S128x1 v282 shapeCasts_S128x1_S128x1
  have v284 : FVec Ideal S128x128 .f32 := broadcastTo S128x128 v283 broadcasts_S128x1_S128x128
  have v285 : FVec Ideal S128x128 .f32 := addf v281 v284
  have v286 : FVec Ideal S128x128 .bf16 := extractStridedSlice S128x128 ![384, 896] v53 slices_S512x1024_o384_896_S128x128
  have cst_138 : FVec Ideal S128x128 .f32 := constant S128x128 .f32 0x00000000#32
  have v287 : FVec Ideal S128x128 .f32 := matmul dot_S128x128_S128x128_S128x128_1_0_0_1_n_n none v96 v286 cst_138
  have v289 : FVec Ideal S128x1 .f32 := shapeCast S128x1 v288 shapeCasts_S128x1_S128x1
  have v290 : FVec Ideal S128x128 .f32 := broadcastTo S128x128 v289 broadcasts_S128x1_S128x128
  have v291 : FVec Ideal S128x128 .f32 := addf v287 v290
  have v292 : FVec Ideal S128x1024 .f32 := concatenate S128x1024 1 [⟨S128x128, v249⟩, ⟨S128x128, v255⟩, ⟨S128x128, v261⟩, ⟨S128x128, v267⟩, ⟨S128x128, v273⟩, ⟨S128x128, v279⟩, ⟨S128x128, v285⟩, ⟨S128x128, v291⟩] concatenates_S128x128_S128x128_S128x128_S128x128_S128x128_S128x128_S128x128_S128x128_S128x1024_d1
  v292

/-- The four chunks of a tile, stacked. -/
def stack (v145 v194 v243 v292 : FVec Ideal S128x1024 .f32) : FVec Ideal S512x1024 .f32 :=
  concatenate S512x1024 0 [⟨S128x1024, v145⟩, ⟨S128x1024, v194⟩, ⟨S128x1024, v243⟩, ⟨S128x1024, v292⟩] concatenates_S128x1024_S128x1024_S128x1024_S128x1024_S512x1024_d0

/-- The mixed rows from the stacked chunks, as the kernel forms them. -/
def mix (v1 v37 v293 : FVec Ideal S512x1024 .f32) (v295 : FVec Ideal S1024x1024 .bf16) : FVec Ideal S512x1024 .f32 :=
  have v294 : FVec Ideal S512x1024 .f32 := mulf v37 v293
  have v296 : FVec Ideal S1024x1024 .bf16 := shapeCast S1024x1024 v295 shapeCasts_S1024x1024_S1024x1024
  have v297 : FVec Ideal S512x1024 .bf16 := truncf .bf16 v294 bitsLt_bf16_f32
  have cst_143 : FVec Ideal S512x1024 .f32 := constant S512x1024 .f32 0x00000000#32
  have v298 : FVec Ideal S512x1024 .f32 := matmul dot_S512x1024_S1024x1024_S512x1024_1_0_0_1_n_n none v297 v296 cst_143
  have v299 : FVec Ideal S512x1024 .f32 := addf v1 v298
  v299

/-- The last chunk of a tile, read. -/
theorem row3_at :
    row3 v (ws 6) (ws 7) (k0_pay33 (F := Ideal) v (ws 0) (bs 0)) (k0_pay34 (F := Ideal) v (ws 1) (bs 1))
      (k0_pay35 (F := Ideal) v (ws 2) (bs 2)) (k0_pay36 (F := Ideal) v (ws 3) (bs 3)) (k0_pay37 (F := Ideal) v (ws 4) (bs 4))
      (k0_pay38 (F := Ideal) v (ws 5)) (bs 5) (bs 6) (bs 7) (ix2 p k) = cell ws bs v 3 p k := by
  pointwise [row3, k0_pay38, k0_pay37, k0_pay36, k0_pay35, k0_pay34, k0_pay33]
  split
  · exact cell_of ws bs v p k 3 0 _ (by simp <;> omega) (by simp <;> omega) (fun s => congrArg v (congrArg₂ ix2 (Fin.ext (by simp)) (Fin.ext (by simp <;> omega))))
  split
  · exact cell_of ws bs v p k 3 1 _ (by simp <;> omega) (by simp <;> omega) (fun s => congrArg v (congrArg₂ ix2 (Fin.ext (by simp)) (Fin.ext (by simp <;> omega))))
  split
  · exact cell_of ws bs v p k 3 2 _ (by simp <;> omega) (by simp <;> omega) (fun s => congrArg v (congrArg₂ ix2 (Fin.ext (by simp)) (Fin.ext (by simp <;> omega))))
  split
  · exact cell_of ws bs v p k 3 3 _ (by simp <;> omega) (by simp <;> omega) (fun s => congrArg v (congrArg₂ ix2 (Fin.ext (by simp)) (Fin.ext (by simp <;> omega))))
  split
  · exact cell_of ws bs v p k 3 4 _ (by simp <;> omega) (by simp <;> omega) (fun s => congrArg v (congrArg₂ ix2 (Fin.ext (by simp)) (Fin.ext (by simp <;> omega))))
  split
  · exact cell_of ws bs v p k 3 5 _ (by simp <;> omega) (by simp <;> omega) (fun s => congrArg v (congrArg₂ ix2 (Fin.ext (by simp)) (Fin.ext (by simp <;> omega))))
  split
  · exact cell_of ws bs v p k 3 6 _ (by simp <;> omega) (by simp <;> omega) (fun s => congrArg v (congrArg₂ ix2 (Fin.ext (by simp)) (Fin.ext (by simp <;> omega))))
  exact cell_of ws bs v p k 3 7 _ (by simp <;> omega) (by simp <;> omega) (fun s => congrArg v (congrArg₂ ix2 (Fin.ext (by simp)) (Fin.ext (by simp <;> omega))))

/-- A row of the stack is the row of its chunk. -/
theorem stack_at (r0 r1 r2 r3 : FVec Ideal S128x1024 .f32) (i : Fin 512) (h0 : ∀ p k, r0 (ix2 p k) = cell ws bs v 0 p k)
    (h1 : ∀ p k, r1 (ix2 p k) = cell ws bs v 1 p k) (h2 : ∀ p k, r2 (ix2 p k) = cell ws bs v 2 p k)
    (h3 : ∀ p k, r3 (ix2 p k) = cell ws bs v 3 p k) :
    stack r0 r1 r2 r3 (ix2 i k) = cell ws bs v ⟨i.val / 128, by omega⟩ ⟨i.val % 128, by omega⟩ k := by
  have e : ∀ (r : Fin 4) (p : Fin 128), r.val = i.val / 128 → p.val = i.val % 128 →
      cell ws bs v r p k = cell ws bs v ⟨i.val / 128, by omega⟩ ⟨i.val % 128, by omega⟩ k := fun r p hr hp => by
    exact congrArg₂ (fun r p => cell ws bs v r p k) (Fin.ext hr) (Fin.ext hp)
  pointwise [stack]
  split
  · exact (h0 _ _).trans (e 0 _ (by simp <;> omega) (by simp <;> omega))
  split
  · exact (h1 _ _).trans (e 1 _ (by simp <;> omega) (by simp <;> omega))
  split
  · exact (h2 _ _).trans (e 2 _ (by simp <;> omega) (by simp <;> omega))
  exact (h3 _ _).trans (e 3 _ (by simp <;> omega) (by simp <;> omega))

/-- The mixed rows from the stacked chunks. -/
theorem mix_rows (y l z : FVec Ideal S512x1024 .f32) (wo : FVec Ideal S1024x1024 .bf16) (i : Fin 512) (d : Fin 1024) :
    mix y l z wo (ix2 i d) = y (ix2 i d) + ∑ k, l (ix2 i k) * z (ix2 i k) * wo (ix2 k d) := by
  pointwise [mix]

/-- The mixed rows of a tile: the input plus the projected product of the left half with the chunk-local sums. -/
theorem mix_at (y l : FVec Ideal S512x1024 .f32) (r0 r1 r2 : FVec Ideal S128x1024 .f32) (wo : FVec Ideal S1024x1024 .bf16)
    (i : Fin 512) (d : Fin 1024) (h0 : ∀ p k, r0 (ix2 p k) = cell ws bs v 0 p k) (h1 : ∀ p k, r1 (ix2 p k) = cell ws bs v 1 p k)
    (h2 : ∀ p k, r2 (ix2 p k) = cell ws bs v 2 p k) :
    (k0_pay39 (F := Ideal) y l v (ws 6) (ws 7) r0 r1 r2 (k0_pay33 (F := Ideal) v (ws 0) (bs 0)) (k0_pay34 (F := Ideal) v (ws 1) (bs 1))
      (k0_pay35 (F := Ideal) v (ws 2) (bs 2)) (k0_pay36 (F := Ideal) v (ws 3) (bs 3)) (k0_pay37 (F := Ideal) v (ws 4) (bs 4))
      (k0_pay38 (F := Ideal) v (ws 5)) (bs 5) (bs 6) (bs 7) wo) (ix2 i d)
      = y (ix2 i d) + ∑ k, l (ix2 i k) * cell ws bs v ⟨i.val / 128, by omega⟩ ⟨i.val % 128, by omega⟩ k * wo (ix2 k d) := by
  refine (mix_rows y l (stack r0 r1 r2 (row3 v (ws 6) (ws 7) (k0_pay33 (F := Ideal) v (ws 0) (bs 0)) (k0_pay34 (F := Ideal) v (ws 1) (bs 1))
      (k0_pay35 (F := Ideal) v (ws 2) (bs 2)) (k0_pay36 (F := Ideal) v (ws 3) (bs 3)) (k0_pay37 (F := Ideal) v (ws 4) (bs 4))
      (k0_pay38 (F := Ideal) v (ws 5)) (bs 5) (bs 6) (bs 7))) wo i d).trans ?_
  refine congrArg (fun e : EReal => y (ix2 i d) + e) (Finset.sum_congr rfl fun k _ => ?_)
  exact congrArg (fun e : EReal => l (ix2 i k) * e * wo (ix2 k d)) (stack_at ws bs v k r0 r1 r2 _ i h0 h1 h2 (row3_at ws bs v))

/-- The causal mask put on one weight block. -/
theorem mask0_at (w : FVec Ideal S1x128x128 .f32) (p s : Fin 128) :
    (k0_pay8 (F := Ideal) w) (ix2 p s) = if s.val ≤ p.val then w (ix3 0 p s) else (0 : EReal) := by
  pointwise [k0_pay8, k0_pay7]
  exact Layer.mask_word p.val s.val p.isLt s.isLt _
/-- The same for the second block. -/
theorem mask1_at (w : FVec Ideal S1x128x128 .f32) (p s : Fin 128) :
    (k0_pay9 (F := Ideal) w) (ix2 p s) = if s.val ≤ p.val then w (ix3 0 p s) else (0 : EReal) := by
  pointwise [k0_pay9, k0_pay7]
  exact Layer.mask_word p.val s.val p.isLt s.isLt _
/-- The same for the third block. -/
theorem mask2_at (w : FVec Ideal S1x128x128 .f32) (p s : Fin 128) :
    (k0_pay10 (F := Ideal) w) (ix2 p s) = if s.val ≤ p.val then w (ix3 0 p s) else (0 : EReal) := by
  pointwise [k0_pay10, k0_pay7]
  exact Layer.mask_word p.val s.val p.isLt s.isLt _
/-- The same for the fourth block. -/
theorem mask3_at (w : FVec Ideal S1x128x128 .f32) (p s : Fin 128) :
    (k0_pay11 (F := Ideal) w) (ix2 p s) = if s.val ≤ p.val then w (ix3 0 p s) else (0 : EReal) := by
  pointwise [k0_pay11, k0_pay7]
  exact Layer.mask_word p.val s.val p.isLt s.isLt _
/-- The same for the fifth block. -/
theorem mask4_at (w : FVec Ideal S1x128x128 .f32) (p s : Fin 128) :
    (k0_pay12 (F := Ideal) k0_pay7 w) (ix2 p s) = if s.val ≤ p.val then w (ix3 0 p s) else (0 : EReal) := by
  pointwise [k0_pay12, k0_pay7]
  exact Layer.mask_word p.val s.val p.isLt s.isLt _
/-- The same for the sixth block. -/
theorem mask5_at (w : FVec Ideal S1x128x128 .f32) (p s : Fin 128) :
    (k0_pay13 (F := Ideal) k0_pay7 w) (ix2 p s) = if s.val ≤ p.val then w (ix3 0 p s) else (0 : EReal) := by
  pointwise [k0_pay13, k0_pay7]
  exact Layer.mask_word p.val s.val p.isLt s.isLt _
/-- The same for the seventh block. -/
theorem mask6_at (w : FVec Ideal S1x128x128 .f32) (p s : Fin 128) :
    (k0_pay14 (F := Ideal) k0_pay7 w) (ix2 p s) = if s.val ≤ p.val then w (ix3 0 p s) else (0 : EReal) := by
  pointwise [k0_pay14, k0_pay7]
  exact Layer.mask_word p.val s.val p.isLt s.isLt _
/-- The same for the eighth block. -/
theorem mask7_at (w : FVec Ideal S1x128x128 .f32) (p s : Fin 128) :
    (k0_pay15 (F := Ideal) k0_pay7 w) (ix2 p s) = if s.val ≤ p.val then w (ix3 0 p s) else (0 : EReal) := by
  pointwise [k0_pay15, k0_pay7]
  exact Layer.mask_word p.val s.val p.isLt s.isLt _
end

section
variable (y : FVec Ideal S1x512x1024 .f32) (gm : FVec Ideal S1x1024 .f32) (wi : FVec Ideal S1024x2048 .bf16) (bi : FVec Ideal S1x2048 .f32)
  (i : Fin 512) (d : Fin 1024) (x : Fin 1408)

/-- The input rows of one tile. -/
theorem in_at : (k0_pay2 (F := Ideal) y) (ix2 i d) = y (ix3 0 i d) := by
  pointwise [k0_pay2]

/-- The activated hidden rows of one tile. -/
theorem hid_at (j : Fin 2048) : (k0_pay3 (F := Ideal) y gm wi bi) (ix2 i j)
    = Layer.hid (Layer.rms (fun d => y (ix3 0 i d)) (fun d => gm (ix2 0 d))) (fun k j => wi (ix2 k j)) (fun j => bi (ix2 0 j)) j := by
  pointwise [k0_pay3, k0_pay2]
  rfl
/-- Their left half. -/
theorem left_at : (k0_pay4 (F := Ideal) y gm wi bi) (ix2 i d) = Layer.left (fun j => (k0_pay3 (F := Ideal) y gm wi bi) (ix2 i j)) d := by
  pointwise [k0_pay4]
  rfl
/-- Their right half. -/
theorem right_at : (k0_pay5 (F := Ideal) y gm wi bi) (ix2 i d) = Layer.right (fun j => (k0_pay3 (F := Ideal) y gm wi bi) (ix2 i j)) d := by
  pointwise [k0_pay5]
  rfl
/-- The normalised right half. -/
theorem vals_at (r : FVec Ideal S512x1024 .f32) (g : FVec Ideal S1x1024 .f32) :
    (k0_pay6 (F := Ideal) r g) (ix2 i d) = Layer.rms (fun d => r (ix2 i d)) (fun d => g (ix2 0 d)) d := by
  pointwise [k0_pay6]
  rfl

variable (h : FVec Ideal S512x1024 .f32) (hb : FVec Ideal S512x1024 .bf16) (w : FVec Ideal S1024x1408 .bf16)

/-- The rounding of the normalised rows keeps them. -/
theorem round_at : (k0_pay44 (F := Ideal) h) (ix2 i d) = h (ix2 i d) := by
  pointwise [k0_pay44]
/-- The gate projection of the first half of the columns. -/
theorem gate0_at : (k0_pay46 (F := Ideal) h w) (ix2 i x) = ∑ k, h (ix2 i k) * w (ix2 k x) := by
  pointwise [k0_pay46, k0_pay44]
/-- The value projection of the first half of the columns. -/
theorem val0_at : (k0_pay47 (F := Ideal) h w) (ix2 i x) = ∑ k, h (ix2 i k) * w (ix2 k x) := by
  pointwise [k0_pay47, k0_pay44]
/-- The gate projection of the second half of the columns. -/
theorem gate1_at : (k0_pay54 (F := Ideal) hb w) (ix2 i x) = ∑ k, hb (ix2 i k) * w (ix2 k x) := by
  pointwise [k0_pay54]
/-- The value projection of the second half of the columns. -/
theorem val1_at : (k0_pay55 (F := Ideal) hb w) (ix2 i x) = ∑ k, hb (ix2 i k) * w (ix2 k x) := by
  pointwise [k0_pay55]

/-- The copy of the gate rows put in the shift buffer, first half. -/
theorem copy0_at : (k0_pay49 (F := Ideal) h w) (ix2 i x) = (k0_pay46 (F := Ideal) h w) (ix2 i x) := by
  pointwise [k0_pay49]
/-- The last eight gate rows, carried to the next tile, first half. -/
theorem carry0_at (q : Fin 8) : (k0_pay50 (F := Ideal) h w) (ix3 0 q x)
    = (k0_pay46 (F := Ideal) h w) (ix2 ⟨504 + q.val, by omega⟩ x) := by
  pointwise [k0_pay50]
/-- The last two gate rows, first half. -/
theorem last0_at (q : Fin 2) : (k0_pay51 (F := Ideal) h w) (ix3 0 q x)
    = (k0_pay46 (F := Ideal) h w) (ix2 ⟨510 + q.val, by omega⟩ x) := by
  pointwise [k0_pay51]
/-- The copy of the gate rows put in the shift buffer, second half. -/
theorem copy1_at (v : FVec Ideal S512x1408 .f32) : (k0_pay57 (F := Ideal) v) (ix2 i x) = v (ix2 i x) := by
  pointwise [k0_pay57]
/-- The last eight gate rows, carried to the next tile, second half. -/
theorem carry1_at (v : FVec Ideal S512x1408 .f32) (q : Fin 8) : (k0_pay58 (F := Ideal) v) (ix3 0 q x)
    = v (ix2 ⟨504 + q.val, by omega⟩ x) := by
  pointwise [k0_pay58]
/-- The last two gate rows, second half. -/
theorem last1_at (v : FVec Ideal S512x1408 .f32) (q : Fin 2) : (k0_pay59 (F := Ideal) v) (ix3 0 q x)
    = v (ix2 ⟨510 + q.val, by omega⟩ x) := by
  pointwise [k0_pay59]
/-- The carried rows as put in the shift buffer, first half. -/
theorem old0_at (v : FVec Ideal S1x8x1408 .f32) (q : Fin 8) : (k0_pay48 (F := Ideal) v) (ix2 q x) = v (ix3 0 q x) := by
  pointwise [k0_pay48]
/-- The carried rows as put in the shift buffer, second half. -/
theorem old1_at (v : FVec Ideal S1x8x1408 .f32) (q : Fin 8) : (k0_pay56 (F := Ideal) v) (ix2 q x) = v (ix3 0 q x) := by
  pointwise [k0_pay56]
/-- The history rows a sequence starts with, first half. -/
theorem start0_at (v : FVec Ideal S1x2x1408 .f32) (q : Fin 2) : (k0_pay41 (F := Ideal) v) (ix3 0 q x) = v (ix3 0 q x) := by
  pointwise [k0_pay41]
/-- The history rows a sequence starts with, second half. -/
theorem start1_at (v : FVec Ideal S1x2x1408 .f32) (q : Fin 2) : (k0_pay42 (F := Ideal) v) (ix3 0 q x) = v (ix3 0 q x) := by
  pointwise [k0_pay42]

/-- The first half's part of the feed-forward output. -/
theorem half0_at (gt u b1 b2 : FVec Ideal S512x1408 .f32) (cb c0 c1 c2 : FVec Ideal S1x1408 .f32)
    (wd : FVec Ideal S1408x1024 .bf16) :
    (k0_pay53 (F := Ideal) (k0_pay45 (F := Ideal)) gt u b1 b2 (k0_pay52 (F := Ideal) cb) c0 c1 c2 wd) (ix2 i d)
      = ∑ x, Layer.gelu (cb (ix2 0 x) + c0 (ix2 0 x) * b2 (ix2 i x) + c1 (ix2 0 x) * b1 (ix2 i x) + c2 (ix2 0 x) * gt (ix2 i x))
          * u (ix2 i x) * wd (ix2 x d) := by
  pointwise [k0_pay53, k0_pay45, k0_pay52]
  rfl

/-- The tile's output: the residual plus the two halves of the feed-forward output, normalised. -/
theorem out_at (y1 f0 : FVec Ideal S512x1024 .f32) (gt u b1 b2 : FVec Ideal S512x1408 .f32) (cb c0 c1 c2 : FVec Ideal S1x1408 .f32)
    (wd : FVec Ideal S1408x1024 .bf16) (gf : FVec Ideal S1x1024 .f32) :
    (k0_pay1 (F := Ideal) (k0_pay62 (F := Ideal) y1 f0 gt u (k0_pay60 (F := Ideal) b1 b2 cb c0 c1) (k0_pay61 (F := Ideal) c2) wd gf)) (ix3 0 i d)
      = Layer.rms (fun d => y1 (ix2 i d) + (f0 (ix2 i d) + ∑ x, Layer.gelu (cb (ix2 0 x) + c0 (ix2 0 x) * b2 (ix2 i x)
          + c1 (ix2 0 x) * b1 (ix2 i x) + c2 (ix2 0 x) * gt (ix2 i x)) * u (ix2 i x) * wd (ix2 x d))) (fun d => gf (ix2 0 d)) d := by
  pointwise [k0_pay1, k0_pay62, k0_pay60, k0_pay61]
  rfl
end

/-- The normalised mixed rows, from the mixed rows. -/
theorem norm_at (y l : FVec Ideal S512x1024 .f32) (v : FVec Ideal S512x1024 .bf16) (w6 w7 : FVec Ideal S128x128 .bf16)
    (r0 r1 r2 : FVec Ideal S128x1024 .f32) (e0 e1 e2 e3 e4 e5 : FVec Ideal S128x128 .f32) (b5 b6 b7 : FVec Ideal S128x1 .f32)
    (wo : FVec Ideal S1024x1024 .bf16) (g : FVec Ideal S1x1024 .f32) (i : Fin 512) (d : Fin 1024) :
    (k0_pay43 (F := Ideal) y l v w6 w7 r0 r1 r2 e0 e1 e2 e3 e4 e5 b5 b6 b7 wo g) (ix2 i d)
      = Layer.rms (fun d => (k0_pay39 (F := Ideal) y l v w6 w7 r0 r1 r2 e0 e1 e2 e3 e4 e5 b5 b6 b7 wo) (ix2 i d)) (fun d => g (ix2 0 d)) d := by
  pointwise [k0_pay43]
  rfl
/-- The mixed rows of a tile from its eight weight blocks and bias columns. -/
theorem tile_at (v : FVec Ideal S512x1024 .bf16) (w0 w1 w2 w3 w4 w5 w6 w7 : FVec Ideal S128x128 .bf16)
    (b0 b1 b2 b3 b4 b5 b6 b7 : FVec Ideal S128x1 .f32) (y l : FVec Ideal S512x1024 .f32) (wo : FVec Ideal S1024x1024 .bf16)
    (i : Fin 512) (d : Fin 1024) :
    (k0_pay39 (F := Ideal) y l v w6 w7 (k0_pay19 (F := Ideal) v w3 w4 w5 w6 w7 (k0_pay16 (F := Ideal) v w0 b0) (k0_pay17 (F := Ideal) v w1 b1) (k0_pay18 (F := Ideal) v w2 b2) b3 b4 b5 b6 b7) (k0_pay22 (F := Ideal) v w2 w3 w4 w5 w6 w7 (k0_pay20 (F := Ideal) v w0 b0) (k0_pay21 (F := Ideal) v w1) b1 b2 b3 b4 b5 b6 b7) (k0_pay32 (F := Ideal) v w7 (k0_pay24 (F := Ideal) w0 (k0_pay23 (F := Ideal) v) b0) (k0_pay25 (F := Ideal) v w1 b1) (k0_pay26 (F := Ideal) v w2 b2) (k0_pay27 (F := Ideal) v w3 b3) (k0_pay28 (F := Ideal) v w4 b4) (k0_pay29 (F := Ideal) v w5 b5) (k0_pay30 (F := Ideal) v w6) (k0_pay31 (F := Ideal) b6) b7) (k0_pay33 (F := Ideal) v w0 b0) (k0_pay34 (F := Ideal) v w1 b1) (k0_pay35 (F := Ideal) v w2 b2) (k0_pay36 (F := Ideal) v w3 b3) (k0_pay37 (F := Ideal) v w4 b4) (k0_pay38 (F := Ideal) v w5) b5 b6 b7 wo) (ix2 i d)
      = y (ix2 i d) + ∑ k, l (ix2 i k) * cell ![w0, w1, w2, w3, w4, w5, w6, w7] ![b0, b1, b2, b3, b4, b5, b6, b7] v ⟨i.val / 128, by omega⟩ ⟨i.val % 128, by omega⟩ k * wo (ix2 k d) :=
  mix_at ![w0, w1, w2, w3, w4, w5, w6, w7] ![b0, b1, b2, b3, b4, b5, b6, b7] v y l _ _ _ wo i d (row0_at ![w0, w1, w2, w3, w4, w5, w6, w7] ![b0, b1, b2, b3, b4, b5, b6, b7] v) (row1_at ![w0, w1, w2, w3, w4, w5, w6, w7] ![b0, b1, b2, b3, b4, b5, b6, b7] v) (row2_at ![w0, w1, w2, w3, w4, w5, w6, w7] ![b0, b1, b2, b3, b4, b5, b6, b7] v)

end Cert.KernelIdeal.Tile
-- ==== Proof.Arrays.lean ====
module

public import proofs.«01_k».proof.Proof.Layer
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Layer

/-- The up-projection matrix of layer `l`. -/
def wUp (l : Fin 2) (W : FVec Ideal (⟨3, ![2, 1024, 5632]⟩ : Shape) .f32) (k : Fin 1024) (j : Fin 5632) : EReal := W (ix3 l k j)
/-- The convolution weights of layer `l`. -/
def wConv (l : Fin 2) (W : FVec Ideal (⟨3, ![2, 3, 2816]⟩ : Shape) .f32) (k : Fin 3) (j : Fin 2816) : EReal := W (ix3 l k j)
/-- The convolution bias of layer `l`. -/
def bConv (l : Fin 2) (W : FVec Ideal (⟨2, ![2, 2816]⟩ : Shape) .f32) (j : Fin 2816) : EReal := W (ix2 l j)
/-- The down-projection matrix of layer `l`. -/
def wDown (l : Fin 2) (W : FVec Ideal (⟨3, ![2, 2816, 1024]⟩ : Shape) .f32) (j : Fin 2816) (d : Fin 1024) : EReal := W (ix3 l j d)
/-- Row `l` of a pair of gain vectors. -/
def gain (l : Fin 2) (G : FVec Ideal (⟨2, ![2, 1024]⟩ : Shape) .f32) (d : Fin 1024) : EReal := G (ix2 l d)

/-- Where column `k` of the attention output lies among the columns of heads in their natural order: the array holds the
    heads in the order 0, 4, 1, 5, 2, 6, 3, 7, each of 64 columns. -/
def headCol (k : Fin 512) : Fin 1024 := ⟨(k.val / 64 / 2 + 4 * (k.val / 64 % 2)) * 64 + k.val % 64, by omega⟩

/-- The residual sum after the first layer's two mixing branches: the input, plus the attention columns times their rows of
    the output projection, plus the recurrent columns times theirs. -/
def mixed (X : FVec Ideal (⟨3, ![8, 2048, 1024]⟩ : Shape) .f32) (A R : FVec Ideal (⟨3, ![8, 2048, 512]⟩ : Shape) .bf16)
    (W : FVec Ideal (⟨3, ![1, 1024, 1024]⟩ : Shape) .f32) (b : Fin 8) (s : Fin 2048) (d : Fin 1024) : EReal :=
  X (ix3 b s d) + ∑ k : Fin 512, A (ix3 b s k) * W (ix3 0 (headCol k) d)
    + ∑ k : Fin 512, R (ix3 b s k) * W (ix3 0 ⟨512 + k.val, by omega⟩ d)

end Cert.Layer
-- ==== Proof.GatedBlocks.lean ====
module

public import proofs.«01_k».proof.Proof.Gen.KernelIdeal.Value
public import proofs.«01_k».proof.Proof.Arrays
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.KernelIdeal.Blocks
open Cert.KernelIdeal Cert.KernelIdeal.Gen

variable (m : (ℓ : Loc nD τ sig) → Buf (Elt Ideal) ℓ)

/-- The block each window shows at a grid point. -/
theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![0, 0]
    ∧ win0_5.index t = ![0, 0] ∧ win0_6.index t = ![0, 0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![0, 0] :=
  (by decide +kernel : ∀ t : Fin grid0.N, _)

variable (c : Dev nD) (t : Fin cfg0.N)

/-- Row `i` of the tile of the input rows at a grid point. -/
theorem y_at (b : Fin 8) (s : Fin 2048) (i : Fin 512) (d : Fin 1024) (hb : b.val = t.val / 4)
    (hs : s.val = 512 * (t.val % 4) + i.val) :
    iblk m c 0 t (ix3 0 i d) = m ((c : Thread nD τ).loc main_arg0) (ix3 b s d) := by
  blk_point [iblk, V, idx t]

/-- The history rows a sequence starts with are zero. -/
theorem hist_at (q : Fin 2) (j : Fin 2816) : iblk m c 1 t (ix3 0 q j) = (0 : EReal) := by
  have e : ∀ i, V m c main_v29 i = (0 : EReal) := fun i => by
    entry_read
    pointwise
  show V m c main_v29 _ = (0 : EReal)
  exact e _

/-- The gain of the first normalisation. -/
theorem gm_at (d : Fin 1024) :
    iblk m c 2 t (ix2 0 d) = Layer.gain 1 (m ((c : Thread nD τ).loc main_arg1)) d := by
  have e : iblk m c 2 t (ix2 0 d) = V m c main_v16 (ix2 0 d) := by blk_ext [iblk, idx t]
  rw [e]
  entry_read
  pointwise [Layer.gain]

/-- The input projection. -/
theorem win_at (k : Fin 1024) (j : Fin 2048) :
    iblk m c 3 t (ix2 k j) = (m ((c : Thread nD τ).loc main_arg2)) (ix3 0 k j) := by
  have e : iblk m c 3 t (ix2 k j) = V m c main_v18 (ix2 k j) := by blk_ext [iblk, idx t]
  rw [e]
  entry_read
  pointwise

/-- The bias of the input projection. -/
theorem bin_at (j : Fin 2048) :
    iblk m c 4 t (ix2 0 j) = (m ((c : Thread nD τ).loc main_arg3)) (ix2 0 j) := by
  have e : iblk m c 4 t (ix2 0 j) = V m c main_v20 (ix2 0 j) := by blk_ext [iblk, idx t]
  rw [e]
  entry_read
  pointwise

/-- The gain of the normalised right half. -/
theorem sn_at (d : Fin 1024) :
    iblk m c 5 t (ix2 0 d) = (m ((c : Thread nD τ).loc main_arg4)) (ix2 0 d) := by
  have e : iblk m c 5 t (ix2 0 d) = V m c main_v22 (ix2 0 d) := by blk_ext [iblk, idx t]
  rw [e]
  entry_read
  pointwise

/-- The chunk-local weights. -/
theorem sw_at (g : Fin 8) (p s : Fin 128) :
    iblk m c 6 t (ix3 g p s) = (m ((c : Thread nD τ).loc main_arg5)) (ix4 0 g p s) := by
  have e : iblk m c 6 t (ix3 g p s) = V m c main_v23 (ix3 g p s) := by blk_ext [iblk, idx t]
  rw [e]
  entry_read
  pointwise

/-- The chunk-local bias, one column for each block. -/
theorem sb_at (p : Fin 128) (g : Fin 8) :
    iblk m c 7 t (ix2 p g) = (m ((c : Thread nD τ).loc main_arg6)) (ix3 0 g p) := by
  have e : iblk m c 7 t (ix2 p g) = V m c main_v25 (ix2 p g) := by blk_ext [iblk, idx t]
  rw [e]
  entry_read
  pointwise

/-- The output projection. -/
theorem wo_at (k d : Fin 1024) :
    iblk m c 8 t (ix2 k d) = (m ((c : Thread nD τ).loc main_arg7)) (ix3 0 k d) := by
  have e : iblk m c 8 t (ix2 k d) = V m c main_v27 (ix2 k d) := by blk_ext [iblk, idx t]
  rw [e]
  entry_read
  pointwise

/-- The gain of the second normalisation. -/
theorem g_at (d : Fin 1024) :
    iblk m c 9 t (ix2 0 d) = Layer.gain 1 (m ((c : Thread nD τ).loc main_arg8)) d := by
  have e : iblk m c 9 t (ix2 0 d) = V m c main_v2 (ix2 0 d) := by blk_ext [iblk, idx t]
  rw [e]
  entry_read
  pointwise [Layer.gain]

/-- The up projection. -/
theorem wup_at (k : Fin 1024) (j : Fin 5632) :
    iblk m c 10 t (ix2 k j) = Layer.wUp 1 (m ((c : Thread nD τ).loc main_arg9)) k j := by
  have e : iblk m c 10 t (ix2 k j) = V m c main_v5 (ix2 k j) := by blk_ext [iblk, idx t]
  rw [e]
  entry_read
  pointwise [Layer.wUp]

/-- The convolution weights. -/
theorem cw_at (k : Fin 3) (j : Fin 2816) :
    iblk m c 11 t (ix2 k j) = Layer.wConv 1 (m ((c : Thread nD τ).loc main_arg10)) k j := by
  have e : iblk m c 11 t (ix2 k j) = V m c main_v7 (ix2 k j) := by blk_ext [iblk, idx t]
  rw [e]
  entry_read
  pointwise [Layer.wConv]

/-- The convolution bias. -/
theorem cb_at (j : Fin 2816) :
    iblk m c 12 t (ix2 0 j) = Layer.bConv 1 (m ((c : Thread nD τ).loc main_arg11)) j := by
  have e : iblk m c 12 t (ix2 0 j) = V m c main_v10 (ix2 0 j) := by blk_ext [iblk, idx t]
  rw [e]
  entry_read
  pointwise [Layer.bConv]

/-- The down projection. -/
theorem wdn_at (j : Fin 2816) (d : Fin 1024) :
    iblk m c 13 t (ix2 j d) = Layer.wDown 1 (m ((c : Thread nD τ).loc main_arg12)) j d := by
  have e : iblk m c 13 t (ix2 j d) = V m c main_v13 (ix2 j d) := by blk_ext [iblk, idx t]
  rw [e]
  entry_read
  pointwise [Layer.wDown]

/-- The gain of the last normalisation. -/
theorem gl_at (d : Fin 1024) :
    iblk m c 14 t (ix2 0 d) = (m ((c : Thread nD τ).loc main_arg13)) (ix1 d) := by
  have e : iblk m c 14 t (ix2 0 d) = V m c main_v28 (ix2 0 d) := by blk_ext [iblk, idx t]
  rw [e]
  entry_read
  pointwise

end Cert.KernelIdeal.Blocks
-- ==== Proof.Pieces.lean ====
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Pieces

variable {Val : EltTy → Type} [∀ e, Nonempty (Val e)] {e : EltTy}

/-- What a rank-two buffer holds after a last write of the box of size (p, q) at (a, b): inside the box the written
    values, outside it what the earlier writes left. -/
theorem canon2 {M N a b p q : Nat}
    (inb : ∀ i, (![a, b] : Fin 2 → Nat) i + (⟨2, ![p, q]⟩ : Shape).size i ≤ (⟨2, ![M, N]⟩ : Shape).size i)
    (x : (⟨2, ![p, q]⟩ : Shape).Idx → Val e) (L : List (View.Piece Val (⟨2, ![M, N]⟩ : Shape) e)) (i : Fin M) (j : Fin N) :
    View.canon ((⟨Rect.unit (s := (⟨2, ![M, N]⟩ : Shape)) ![a, b] (⟨2, ![p, q]⟩ : Shape).size inb, x⟩ :
        View.Piece Val (⟨2, ![M, N]⟩ : Shape) e) :: L) (ix2 i j)
      = if h : (a ≤ i.val ∧ i.val < a + p) ∧ (b ≤ j.val ∧ j.val < b + q)
        then x (ix2 ⟨i.val - a, by omega⟩ ⟨j.val - b, by omega⟩)
        else View.canon L (ix2 i j) := by
  split
  · rename_i h
    have e1 : (ix2 i j : (⟨2, ![M, N]⟩ : Shape).Idx)
        = (Rect.unit (s := (⟨2, ![M, N]⟩ : Shape)) ![a, b] (⟨2, ![p, q]⟩ : Shape).size inb).emb
            (ix2 ⟨i.val - a, by omega⟩ ⟨j.val - b, by omega⟩) := by
      funext k; apply Fin.ext; fin_cases k
      · show i.val = a + 1 * (i.val - a); omega
      · show j.val = b + 1 * (j.val - b); omega
    rw [e1, View.canon_cons_emb]
  · rename_i h
    apply View.canon_cons_of_not_mem
    intro hm
    rw [Rect.mem_set_unit] at hm
    have h0 := hm 0
    have h1 := hm 1
    exact h ⟨h0, h1⟩

/-- The same for a rank-three buffer. -/
theorem canon3 {M N K a b c p q r : Nat}
    (inb : ∀ i, (![a, b, c] : Fin 3 → Nat) i + (⟨3, ![p, q, r]⟩ : Shape).size i ≤ (⟨3, ![M, N, K]⟩ : Shape).size i)
    (x : (⟨3, ![p, q, r]⟩ : Shape).Idx → Val e) (L : List (View.Piece Val (⟨3, ![M, N, K]⟩ : Shape) e))
    (i : Fin M) (j : Fin N) (k : Fin K) :
    View.canon ((⟨Rect.unit (s := (⟨3, ![M, N, K]⟩ : Shape)) ![a, b, c] (⟨3, ![p, q, r]⟩ : Shape).size inb, x⟩ :
        View.Piece Val (⟨3, ![M, N, K]⟩ : Shape) e) :: L) (ix3 i j k)
      = if h : (a ≤ i.val ∧ i.val < a + p) ∧ (b ≤ j.val ∧ j.val < b + q) ∧ (c ≤ k.val ∧ k.val < c + r)
        then x (ix3 ⟨i.val - a, by omega⟩ ⟨j.val - b, by omega⟩ ⟨k.val - c, by omega⟩)
        else View.canon L (ix3 i j k) := by
  split
  · rename_i h
    have e1 : (ix3 i j k : (⟨3, ![M, N, K]⟩ : Shape).Idx)
        = (Rect.unit (s := (⟨3, ![M, N, K]⟩ : Shape)) ![a, b, c] (⟨3, ![p, q, r]⟩ : Shape).size inb).emb
            (ix3 ⟨i.val - a, by omega⟩ ⟨j.val - b, by omega⟩ ⟨k.val - c, by omega⟩) := by
      funext l; apply Fin.ext; fin_cases l
      · show i.val = a + 1 * (i.val - a); omega
      · show j.val = b + 1 * (j.val - b); omega
      · show k.val = c + 1 * (k.val - c); omega
    rw [e1, View.canon_cons_emb]
  · rename_i h
    apply View.canon_cons_of_not_mem
    intro hm
    rw [Rect.mem_set_unit] at hm
    have h0 := hm 0
    have h1 := hm 1
    have h2 := hm 2
    exact h ⟨h0, h1, h2⟩

variable {sig : RefSig} {κ : Kind} {sp : Space}

/-- A load of a box of a rank-two buffer reads the writes made so far at the box's offset. -/
theorem readCov2 {M N a b p q : Nat} (v : View sig κ sp (⟨2, ![M, N]⟩ : Shape) e)
    (inb : ∀ i, (![a, b] : Fin 2 → Nat) i + (⟨2, ![p, q]⟩ : Shape).size i ≤ (⟨2, ![M, N]⟩ : Shape).size i)
    (L : List (View.Piece Val (⟨2, ![M, N]⟩ : Shape) e)) (i : Fin p) (j : Fin q) (h0 : a + i.val < M) (h1 : b + j.val < N) :
    v.readCov L (Rect.unit (s := (⟨2, ![M, N]⟩ : Shape)) ![a, b] (⟨2, ![p, q]⟩ : Shape).size inb).toLoadRect (ix2 i j)
      = View.canon L (ix2 ⟨a + i.val, h0⟩ ⟨b + j.val, h1⟩) := by
  rw [View.readCov_eq_canon']
  refine congrArg (View.canon L) ?_
  funext k; apply Fin.ext; fin_cases k
  · show a + 1 * i.val = a + i.val; omega
  · show b + 1 * j.val = b + j.val; omega

/-- The same for a rank-three buffer. -/
theorem readCov3 {M N K a b c p q r : Nat} (v : View sig κ sp (⟨3, ![M, N, K]⟩ : Shape) e)
    (inb : ∀ i, (![a, b, c] : Fin 3 → Nat) i + (⟨3, ![p, q, r]⟩ : Shape).size i ≤ (⟨3, ![M, N, K]⟩ : Shape).size i)
    (L : List (View.Piece Val (⟨3, ![M, N, K]⟩ : Shape) e)) (i : Fin p) (j : Fin q) (k : Fin r)
    (h0 : a + i.val < M) (h1 : b + j.val < N) (h2 : c + k.val < K) :
    v.readCov L (Rect.unit (s := (⟨3, ![M, N, K]⟩ : Shape)) ![a, b, c] (⟨3, ![p, q, r]⟩ : Shape).size inb).toLoadRect (ix3 i j k)
      = View.canon L (ix3 ⟨a + i.val, h0⟩ ⟨b + j.val, h1⟩ ⟨c + k.val, h2⟩) := by
  rw [View.readCov_eq_canon']
  refine congrArg (View.canon L) ?_
  funext l; apply Fin.ext; fin_cases l
  · show a + 1 * i.val = a + i.val; omega
  · show b + 1 * j.val = b + j.val; omega
  · show c + 1 * k.val = c + k.val; omega

/-- Rows `o` to `o + 511` of a buffer whose rows 8 to 519 hold `G` and whose rows 0 to 7 hold `C`. -/
theorem rows_after {o : Nat} (ho : o ≤ 8) (v : View sig κ sp (⟨2, ![520, 1408]⟩ : Shape) e)
    (inb : ∀ i, (![o, 0] : Fin 2 → Nat) i + (⟨2, ![512, 1408]⟩ : Shape).size i ≤ (⟨2, ![520, 1408]⟩ : Shape).size i)
    (i8 : ∀ i, (![8, 0] : Fin 2 → Nat) i + (⟨2, ![512, 1408]⟩ : Shape).size i ≤ (⟨2, ![520, 1408]⟩ : Shape).size i)
    (i0 : ∀ i, (![0, 0] : Fin 2 → Nat) i + (⟨2, ![8, 1408]⟩ : Shape).size i ≤ (⟨2, ![520, 1408]⟩ : Shape).size i)
    (G : (⟨2, ![512, 1408]⟩ : Shape).Idx → Val e) (C : (⟨2, ![8, 1408]⟩ : Shape).Idx → Val e)
    (L : List (View.Piece Val (⟨2, ![520, 1408]⟩ : Shape) e)) (r : Fin 512) (j : Fin 1408) :
    v.readCov ((⟨Rect.unit (s := (⟨2, ![520, 1408]⟩ : Shape)) ![8, 0] (⟨2, ![512, 1408]⟩ : Shape).size i8, G⟩ :
          View.Piece Val (⟨2, ![520, 1408]⟩ : Shape) e) ::
        (⟨Rect.unit (s := (⟨2, ![520, 1408]⟩ : Shape)) ![0, 0] (⟨2, ![8, 1408]⟩ : Shape).size i0, C⟩ :
          View.Piece Val (⟨2, ![520, 1408]⟩ : Shape) e) :: L)
        (Rect.unit (s := (⟨2, ![520, 1408]⟩ : Shape)) ![o, 0] (⟨2, ![512, 1408]⟩ : Shape).size inb).toLoadRect (ix2 r j)
      = if h : o + r.val < 8 then C (ix2 ⟨o + r.val, h⟩ j) else G (ix2 ⟨o + r.val - 8, by omega⟩ j) := by
  rw [readCov2 v inb _ r j (by omega) (by omega), canon2]
  split
  · rename_i h
    simp only at h
    rw [dif_neg (by omega)]
    refine congrArg G ?_
    congr 1
    exact Fin.ext (by show 0 + j.val - 0 = j.val; omega)
  · rename_i h
    simp only at h
    have hr : o + r.val < 8 := by omega
    rw [dif_pos hr, canon2, dif_pos ⟨⟨by simp only; omega, by simp only; omega⟩, by simp only; omega, by simp only; omega⟩]
    refine congrArg C ?_
    congr 1
    exact Fin.ext (by show 0 + j.val - 0 = j.val; omega)

end Cert.Pieces
-- ==== Proof.GatedRows.lean ====
module

public import proofs.«01_k».proof.Proof.Gen.KernelIdeal.Value
public import proofs.«01_k».proof.Proof.GatedTile
public import proofs.«01_k».proof.Proof.GatedBlocks
public import proofs.«01_k».proof.Proof.Pieces
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.KernelIdeal.Points
open Cert.KernelIdeal Cert.KernelIdeal.Gen Cert.KernelIdeal.Tile Cert.KernelIdeal.Blocks
variable (m : (ℓ : Loc nD τ sig) → Buf (Elt Ideal) ℓ) (c : Dev nD)

/-- The activated hidden rows of the whole arrays, from the arguments. -/
def Z (b : Fin 8) (s : Fin 2048) : Fin 2048 → EReal :=
  Layer.hid (Layer.rms (fun d => (m ((c : Thread nD τ).loc main_arg0)) (ix3 b s d)) (Layer.gain 1 (m ((c : Thread nD τ).loc main_arg1))))
    (fun k j => (m ((c : Thread nD τ).loc main_arg2)) (ix3 0 k j)) (fun j => (m ((c : Thread nD τ).loc main_arg3)) (ix2 0 j))
/-- The normalised right half of the hidden rows. -/
def Vn (b : Fin 8) (s : Fin 2048) : Fin 1024 → EReal :=
  Layer.rms (Layer.right (Z m c b s)) (fun d => (m ((c : Thread nD τ).loc main_arg4)) (ix2 0 d))
/-- The chunk-local sums. -/
def Ch (b : Fin 8) : Fin 2048 → Fin 1024 → EReal :=
  Layer.chunk (fun g p s => (m ((c : Thread nD τ).loc main_arg5)) (ix4 0 g p s)) (fun g p => (m ((c : Thread nD τ).loc main_arg6)) (ix3 0 g p)) (Vn m c b)
/-- The residual sum of the whole arrays, from the arguments. -/
def Y (b : Fin 8) (s : Fin 2048) (d : Fin 1024) : EReal :=
  Layer.gated (fun s d => (m ((c : Thread nD τ).loc main_arg0)) (ix3 b s d)) (Z m c b) (fun d => (m ((c : Thread nD τ).loc main_arg4)) (ix2 0 d)) (fun g p s => (m ((c : Thread nD τ).loc main_arg5)) (ix4 0 g p s))
    (fun g p => (m ((c : Thread nD τ).loc main_arg6)) (ix3 0 g p)) (fun k d => (m ((c : Thread nD τ).loc main_arg7)) (ix3 0 k d)) s d
/-- The residual sum, written out. -/
theorem Y_eq (b : Fin 8) (s : Fin 2048) (d : Fin 1024) :
    Y m c b s d = (show EReal from (m ((c : Thread nD τ).loc main_arg0)) (ix3 b s d)) + ∑ k, Layer.left (Z m c b s) k * Ch m c b s k * (show EReal from (m ((c : Thread nD τ).loc main_arg7)) (ix3 0 k d)) := rfl
/-- Its normalised rows. -/
def Hn (b : Fin 8) (s : Fin 2048) : Fin 1024 → EReal := Layer.rms (Y m c b s) (Layer.gain 1 (m ((c : Thread nD τ).loc main_arg8)))
/-- The up projection, from the arguments. -/
def Wu : Fin 1024 → Fin 5632 → EReal := Layer.wUp 1 (m ((c : Thread nD τ).loc main_arg9))
/-- The gate rows. -/
def G (b : Fin 8) (s : Fin 2048) : Fin 2816 → EReal := Layer.gate (Hn m c b s) (Wu m c)
/-- The residual sum plus the feed-forward layer. -/
def Fo (b : Fin 8) (s : Fin 2048) (d : Fin 1024) : EReal :=
  Y m c b s d + Layer.ffn (Hn m c b) (Wu m c) (Layer.wConv 1 (m ((c : Thread nD τ).loc main_arg10)))
    (Layer.bConv 1 (m ((c : Thread nD τ).loc main_arg11))) (Layer.wDown 1 (m ((c : Thread nD τ).loc main_arg12))) s d
/-- The result rows: that sum, normalised. -/
def Out (b : Fin 8) (s : Fin 2048) : Fin 1024 → EReal := Layer.rms (Fo m c b s) (fun d => (m ((c : Thread nD τ).loc main_arg13)) (ix1 d))

variable (t : Fin cfg0.N)

/-- The tile's left half of the hidden rows. -/
abbrev lT : FVec Ideal S512x1024 .f32 := k0_pay4 (F := Ideal) (iblk m c 0 t) (iblk m c 2 t) (iblk m c 3 t) (iblk m c 4 t)
/-- The tile's normalised right half. -/
abbrev vT : FVec Ideal S512x1024 .bf16 :=
  k0_pay6 (F := Ideal) (k0_pay5 (F := Ideal) (iblk m c 0 t) (iblk m c 2 t) (iblk m c 3 t) (iblk m c 4 t)) (iblk m c 5 t)
/-- The masked weights of block 0. -/
abbrev w0 : FVec Ideal S128x128 .bf16 :=
  k0_pay8 (F := Ideal) (View.ld (iblk m c 6 t) (Rect.unit ![0, 0, 0] ![1, 128, 128] inb_S8x128x128_S1x128x128_0_0_0))
/-- The bias column of block 0. -/
abbrev b0 : FVec Ideal S128x1 .f32 := View.ld (iblk m c 7 t) (Rect.unit ![0, 0] ![128, 1] inb_S128x8_S128x1_0_0)
/-- The masked weights of block 1. -/
abbrev w1 : FVec Ideal S128x128 .bf16 :=
  k0_pay9 (F := Ideal) (View.ld (iblk m c 6 t) (Rect.unit ![1, 0, 0] ![1, 128, 128] inb_S8x128x128_S1x128x128_1_0_0))
/-- The bias column of block 1. -/
abbrev b1 : FVec Ideal S128x1 .f32 := View.ld (iblk m c 7 t) (Rect.unit ![0, 1] ![128, 1] inb_S128x8_S128x1_0_1)
/-- The masked weights of block 2. -/
abbrev w2 : FVec Ideal S128x128 .bf16 :=
  k0_pay10 (F := Ideal) (View.ld (iblk m c 6 t) (Rect.unit ![2, 0, 0] ![1, 128, 128] inb_S8x128x128_S1x128x128_2_0_0))
/-- The bias column of block 2. -/
abbrev b2 : FVec Ideal S128x1 .f32 := View.ld (iblk m c 7 t) (Rect.unit ![0, 2] ![128, 1] inb_S128x8_S128x1_0_2)
/-- The masked weights of block 3. -/
abbrev w3 : FVec Ideal S128x128 .bf16 :=
  k0_pay11 (F := Ideal) (View.ld (iblk m c 6 t) (Rect.unit ![3, 0, 0] ![1, 128, 128] inb_S8x128x128_S1x128x128_3_0_0))
/-- The bias column of block 3. -/
abbrev b3 : FVec Ideal S128x1 .f32 := View.ld (iblk m c 7 t) (Rect.unit ![0, 3] ![128, 1] inb_S128x8_S128x1_0_3)
/-- The masked weights of block 4. -/
abbrev w4 : FVec Ideal S128x128 .bf16 :=
  k0_pay12 (F := Ideal) k0_pay7 (View.ld (iblk m c 6 t) (Rect.unit ![4, 0, 0] ![1, 128, 128] inb_S8x128x128_S1x128x128_4_0_0))
/-- The bias column of block 4. -/
abbrev b4 : FVec Ideal S128x1 .f32 := View.ld (iblk m c 7 t) (Rect.unit ![0, 4] ![128, 1] inb_S128x8_S128x1_0_4)
/-- The masked weights of block 5. -/
abbrev w5 : FVec Ideal S128x128 .bf16 :=
  k0_pay13 (F := Ideal) k0_pay7 (View.ld (iblk m c 6 t) (Rect.unit ![5, 0, 0] ![1, 128, 128] inb_S8x128x128_S1x128x128_5_0_0))
/-- The bias column of block 5. -/
abbrev b5 : FVec Ideal S128x1 .f32 := View.ld (iblk m c 7 t) (Rect.unit ![0, 5] ![128, 1] inb_S128x8_S128x1_0_5)
/-- The masked weights of block 6. -/
abbrev w6 : FVec Ideal S128x128 .bf16 :=
  k0_pay14 (F := Ideal) k0_pay7 (View.ld (iblk m c 6 t) (Rect.unit ![6, 0, 0] ![1, 128, 128] inb_S8x128x128_S1x128x128_6_0_0))
/-- The bias column of block 6. -/
abbrev b6 : FVec Ideal S128x1 .f32 := View.ld (iblk m c 7 t) (Rect.unit ![0, 6] ![128, 1] inb_S128x8_S128x1_0_6)
/-- The masked weights of block 7. -/
abbrev w7 : FVec Ideal S128x128 .bf16 :=
  k0_pay15 (F := Ideal) k0_pay7 (View.ld (iblk m c 6 t) (Rect.unit ![7, 0, 0] ![1, 128, 128] inb_S8x128x128_S1x128x128_7_0_0))
/-- The bias column of block 7. -/
abbrev b7 : FVec Ideal S128x1 .f32 := View.ld (iblk m c 7 t) (Rect.unit ![0, 7] ![128, 1] inb_S128x8_S128x1_0_7)
/-- The first chunk of the tile. -/
abbrev r0 : FVec Ideal S128x1024 .f32 := (k0_pay19 (F := Ideal) (vT m c t) (w3 m c t) (w4 m c t) (w5 m c t) (w6 m c t) (w7 m c t) (k0_pay16 (F := Ideal) (vT m c t) (w0 m c t) (b0 m c t)) (k0_pay17 (F := Ideal) (vT m c t) (w1 m c t) (b1 m c t)) (k0_pay18 (F := Ideal) (vT m c t) (w2 m c t) (b2 m c t)) (b3 m c t) (b4 m c t) (b5 m c t) (b6 m c t) (b7 m c t))
/-- The second chunk of the tile. -/
abbrev r1 : FVec Ideal S128x1024 .f32 := (k0_pay22 (F := Ideal) (vT m c t) (w2 m c t) (w3 m c t) (w4 m c t) (w5 m c t) (w6 m c t) (w7 m c t) (k0_pay20 (F := Ideal) (vT m c t) (w0 m c t) (b0 m c t)) (k0_pay21 (F := Ideal) (vT m c t) (w1 m c t)) (b1 m c t) (b2 m c t) (b3 m c t) (b4 m c t) (b5 m c t) (b6 m c t) (b7 m c t))
/-- The third chunk of the tile. -/
abbrev r2 : FVec Ideal S128x1024 .f32 := (k0_pay32 (F := Ideal) (vT m c t) (w7 m c t) (k0_pay24 (F := Ideal) (w0 m c t) (k0_pay23 (F := Ideal) (vT m c t)) (b0 m c t)) (k0_pay25 (F := Ideal) (vT m c t) (w1 m c t) (b1 m c t)) (k0_pay26 (F := Ideal) (vT m c t) (w2 m c t) (b2 m c t)) (k0_pay27 (F := Ideal) (vT m c t) (w3 m c t) (b3 m c t)) (k0_pay28 (F := Ideal) (vT m c t) (w4 m c t) (b4 m c t)) (k0_pay29 (F := Ideal) (vT m c t) (w5 m c t) (b5 m c t)) (k0_pay30 (F := Ideal) (vT m c t) (w6 m c t)) (k0_pay31 (F := Ideal) (b6 m c t)) (b7 m c t))
/-- The tile's mixed rows. -/
abbrev yT : FVec Ideal S512x1024 .f32 := k0_pay39 (F := Ideal) (k0_pay2 (F := Ideal) (iblk m c 0 t)) (lT m c t) (vT m c t) (w6 m c t) (w7 m c t) (r0 m c t) (r1 m c t) (r2 m c t) (k0_pay33 (F := Ideal) (vT m c t) (w0 m c t) (b0 m c t)) (k0_pay34 (F := Ideal) (vT m c t) (w1 m c t) (b1 m c t)) (k0_pay35 (F := Ideal) (vT m c t) (w2 m c t) (b2 m c t)) (k0_pay36 (F := Ideal) (vT m c t) (w3 m c t) (b3 m c t)) (k0_pay37 (F := Ideal) (vT m c t) (w4 m c t) (b4 m c t)) (k0_pay38 (F := Ideal) (vT m c t) (w5 m c t)) (b5 m c t) (b6 m c t) (b7 m c t) (iblk m c 8 t)
/-- The tile's normalised rows. -/
abbrev hT : FVec Ideal S512x1024 .f32 := k0_pay43 (F := Ideal) (k0_pay2 (F := Ideal) (iblk m c 0 t)) (lT m c t) (vT m c t) (w6 m c t) (w7 m c t) (r0 m c t) (r1 m c t) (r2 m c t) (k0_pay33 (F := Ideal) (vT m c t) (w0 m c t) (b0 m c t)) (k0_pay34 (F := Ideal) (vT m c t) (w1 m c t) (b1 m c t)) (k0_pay35 (F := Ideal) (vT m c t) (w2 m c t) (b2 m c t)) (k0_pay36 (F := Ideal) (vT m c t) (w3 m c t) (b3 m c t)) (k0_pay37 (F := Ideal) (vT m c t) (w4 m c t) (b4 m c t)) (k0_pay38 (F := Ideal) (vT m c t) (w5 m c t)) (b5 m c t) (b6 m c t) (b7 m c t) (iblk m c 8 t) (iblk m c 9 t)
/-- The same, rounded. -/
abbrev hR : FVec Ideal S512x1024 .bf16 := k0_pay44 (F := Ideal) (hT m c t)
/-- The tile's gate rows, first half of the columns. -/
abbrev g0 : FVec Ideal S512x1408 .f32 := k0_pay46 (F := Ideal) (hT m c t) (View.ld (iblk m c 10 t) (Rect.unit ![0, 0] ![1024, 1408] inb_S1024x5632_S1024x1408_0_0))
/-- The tile's gate rows, second half of the columns. -/
abbrev g1 : FVec Ideal S512x1408 .f32 := k0_pay54 (F := Ideal) (hR m c t) (View.ld (iblk m c 10 t) (Rect.unit ![0, 1408] ![1024, 1408] inb_S1024x5632_S1024x1408_0_1408))

/-- The eight masked weight blocks. -/
def ws : Fin 8 → FVec Ideal S128x128 .bf16 := ![w0 m c t, w1 m c t, w2 m c t, w3 m c t, w4 m c t, w5 m c t, w6 m c t, w7 m c t]
/-- The eight bias columns. -/
def bs : Fin 8 → FVec Ideal S128x1 .f32 := ![b0 m c t, b1 m c t, b2 m c t, b3 m c t, b4 m c t, b5 m c t, b6 m c t, b7 m c t]

/-- The masked weight blocks, read from the arguments. -/
theorem ws_at (g : Fin 8) (p s : Fin 128) :
    ws m c t g (ix2 p s) = if s.val ≤ p.val then (m ((c : Thread nD τ).loc main_arg5)) (ix4 0 g p s) else (0 : EReal) := by
  fin_cases g
  · refine (mask0_at _ p s).trans (congrArg (fun e : EReal => if s.val ≤ p.val then e else (0 : EReal)) ?_)
    pointwise
    exact sw_at m c t 0 p s
  · refine (mask1_at _ p s).trans (congrArg (fun e : EReal => if s.val ≤ p.val then e else (0 : EReal)) ?_)
    pointwise
    exact sw_at m c t 1 p s
  · refine (mask2_at _ p s).trans (congrArg (fun e : EReal => if s.val ≤ p.val then e else (0 : EReal)) ?_)
    pointwise
    exact sw_at m c t 2 p s
  · refine (mask3_at _ p s).trans (congrArg (fun e : EReal => if s.val ≤ p.val then e else (0 : EReal)) ?_)
    pointwise
    exact sw_at m c t 3 p s
  · refine (mask4_at _ p s).trans (congrArg (fun e : EReal => if s.val ≤ p.val then e else (0 : EReal)) ?_)
    pointwise
    exact sw_at m c t 4 p s
  · refine (mask5_at _ p s).trans (congrArg (fun e : EReal => if s.val ≤ p.val then e else (0 : EReal)) ?_)
    pointwise
    exact sw_at m c t 5 p s
  · refine (mask6_at _ p s).trans (congrArg (fun e : EReal => if s.val ≤ p.val then e else (0 : EReal)) ?_)
    pointwise
    exact sw_at m c t 6 p s
  · refine (mask7_at _ p s).trans (congrArg (fun e : EReal => if s.val ≤ p.val then e else (0 : EReal)) ?_)
    pointwise
    exact sw_at m c t 7 p s

/-- The bias columns, read from the arguments. -/
theorem bs_at (g : Fin 8) (p : Fin 128) : bs m c t g (ix2 p 0) = (m ((c : Thread nD τ).loc main_arg6)) (ix3 0 g p) := by
  fin_cases g
  · show b0 m c t (ix2 p 0) = _
    unfold b0
    pointwise
    exact sb_at m c t p 0
  · show b1 m c t (ix2 p 0) = _
    unfold b1
    pointwise
    exact sb_at m c t p 1
  · show b2 m c t (ix2 p 0) = _
    unfold b2
    pointwise
    exact sb_at m c t p 2
  · show b3 m c t (ix2 p 0) = _
    unfold b3
    pointwise
    exact sb_at m c t p 3
  · show b4 m c t (ix2 p 0) = _
    unfold b4
    pointwise
    exact sb_at m c t p 4
  · show b5 m c t (ix2 p 0) = _
    unfold b5
    pointwise
    exact sb_at m c t p 5
  · show b6 m c t (ix2 p 0) = _
    unfold b6
    pointwise
    exact sb_at m c t p 6
  · show b7 m c t (ix2 p 0) = _
    unfold b7
    pointwise
    exact sb_at m c t p 7

variable (b : Fin 8) (s : Fin 2048) (i : Fin 512) (hb : b.val = t.val / 4) (hs : s.val = 512 * (t.val % 4) + i.val)
include hb hs

/-- The tile's hidden rows are rows of the whole. -/
theorem z_at (j : Fin 2048) :
    (k0_pay3 (F := Ideal) (iblk m c 0 t) (iblk m c 2 t) (iblk m c 3 t) (iblk m c 4 t)) (ix2 i j) = Z m c b s j := by
  unfold Z
  rw [hid_at]
  have e0 : (fun d => iblk m c 0 t (ix3 0 i d)) = fun d => (m ((c : Thread nD τ).loc main_arg0)) (ix3 b s d) := funext fun d => y_at m c t b s i d hb hs
  have e1 : (fun d => iblk m c 2 t (ix2 0 d)) = Layer.gain 1 (m ((c : Thread nD τ).loc main_arg1)) := funext fun d => gm_at m c t d
  have e2 : (fun k j => iblk m c 3 t (ix2 k j)) = fun k j => (m ((c : Thread nD τ).loc main_arg2)) (ix3 0 k j) := funext fun k => funext fun j => win_at m c t k j
  have e3 : (fun j => iblk m c 4 t (ix2 0 j)) = fun j => (m ((c : Thread nD τ).loc main_arg3)) (ix2 0 j) := funext fun j => bin_at m c t j
  rw [e0, e1, e2, e3]

/-- The left half of them. -/
theorem lT_at (k : Fin 1024) : lT m c t (ix2 i k) = Layer.left (Z m c b s) k :=
  (left_at _ _ _ _ i k).trans (congrArg (fun z => Layer.left z k) (funext fun j => z_at m c t b s i hb hs j))

/-- The normalised right half of them. -/
theorem vT_at (k : Fin 1024) : vT m c t (ix2 i k) = Vn m c b s k := by
  refine (vals_at i k _ _).trans (congrArg₂ (fun p q => Layer.rms p q k) (funext fun d => ?_) (funext fun d => sn_at m c t d))
  exact (right_at _ _ _ _ i d).trans (congrArg (fun z => Layer.right z d) (funext fun j => z_at m c t b s i hb hs j))

omit hs in
/-- The chunk-local sums of the tile are those of the whole. -/
theorem cell_at (hs : s.val = 512 * (t.val % 4) + i.val) (k : Fin 1024) :
    cell (ws m c t) (bs m c t) (vT m c t) ⟨i.val / 128, by omega⟩ ⟨i.val % 128, by omega⟩ k = Ch m c b s k := by
  unfold cell Ch Layer.chunk
  have ep : (⟨i.val % 128, by omega⟩ : Fin 128) = ⟨s.val % 128, by omega⟩ := Fin.ext (by simp only; omega)
  rw [bs_at, ep]
  refine congrArg (fun e : EReal => e + _) (Finset.sum_congr rfl fun x _ => ?_)
  rw [ws_at, vT_at m c t b ⟨s.val / 128 * 128 + x.val, by omega⟩ ⟨128 * (i.val / 128) + x.val, by omega⟩ hb (by simp only; omega)]

/-- The tile's mixed rows are rows of the whole residual sum. -/
theorem yT_at (d : Fin 1024) : yT m c t (ix2 i d) = Y m c b s d := by
  refine (tile_at (vT m c t) _ _ _ _ _ _ _ _ _ _ _ _ _ _ _ _ _ _ _ i d).trans (Eq.trans ?_ (Y_eq m c b s d).symm)
  refine congrArg₂ (fun p q : EReal => p + q) ((in_at _ i d).trans (y_at m c t b s i d hb hs)) (Finset.sum_congr rfl fun k _ => ?_)
  exact congrArg₂ (fun p q : EReal => p * q) (congrArg₂ (fun p q : EReal => p * q) (lT_at m c t b s i hb hs k)
    (cell_at m c t b s i hb hs k)) (wo_at m c t k d)

/-- The tile's normalised rows are rows of the whole. -/
theorem hT_at (d : Fin 1024) : hT m c t (ix2 i d) = Hn m c b s d := by
  unfold Hn hT
  rw [norm_at]
  exact congrArg₂ (fun p q => Layer.rms p q d) (funext fun d => yT_at m c t b s i hb hs d) (funext fun d => g_at m c t d)

/-- Rounding them changes nothing. -/
theorem hR_at (d : Fin 1024) : hR m c t (ix2 i d) = Hn m c b s d :=
  (round_at i d _).trans (hT_at m c t b s i hb hs d)

/-- The first half's gate rows are rows of the whole. -/
theorem g0_at (x : Fin 1408) : g0 m c t (ix2 i x) = G m c b s (Layer.lo x) := by
  unfold G Layer.gate Wu g0
  rw [gate0_at]
  refine Finset.sum_congr rfl fun k _ => ?_
  rw [hT_at m c t b s i hb hs]
  pointwise
  rw [wup_at]
  rfl

/-- The second half's gate rows are rows of the whole. -/
theorem g1_at (x : Fin 1408) : g1 m c t (ix2 i x) = G m c b s (Layer.hi x) := by
  unfold G Layer.gate Wu g1
  rw [gate1_at]
  refine Finset.sum_congr rfl fun k _ => ?_
  rw [hR_at m c t b s i hb hs]
  pointwise
  rw [wup_at]
  rfl

/-- The first half's value rows are rows of the whole. -/
theorem u0_at (x : Fin 1408) :
    k0_pay47 (F := Ideal) (hT m c t) (View.ld (iblk m c 10 t) (Rect.unit ![0, 2816] ![1024, 1408] inb_S1024x5632_S1024x1408_0_2816))
      (ix2 i x) = Layer.val (Hn m c b s) (Wu m c) (Layer.lo x) := by
  unfold Layer.val Wu
  rw [val0_at]
  refine Finset.sum_congr rfl fun k _ => ?_
  rw [hT_at m c t b s i hb hs]
  pointwise
  rw [wup_at]
  rfl

/-- The second half's value rows are rows of the whole. -/
theorem u1_at (x : Fin 1408) :
    k0_pay55 (F := Ideal) (hR m c t) (View.ld (iblk m c 10 t) (Rect.unit ![0, 4224] ![1024, 1408] inb_S1024x5632_S1024x1408_0_4224))
      (ix2 i x) = Layer.val (Hn m c b s) (Wu m c) (Layer.hi x) := by
  unfold Layer.val Wu
  rw [val1_at]
  refine Finset.sum_congr rfl fun k _ => ?_
  rw [hR_at m c t b s i hb hs]
  pointwise
  rw [wup_at]
  refine congrArg (_ * ·) (congrArg (Layer.wUp 1 _ k) (Fin.ext ?_))
  show 4224 + x.val = 2816 + (1408 + x.val)
  omega

/-- The tile's output rows, when the shifted gate rows `p1`, `p2` (first half) and `q1`, `q2` (second half) are the delayed
    rows of the whole. -/
theorem out_tile (p1 p2 q1 q2 : FVec Ideal S512x1408 .f32) (d : Fin 1024)
    (h1 : ∀ x, p1 (ix2 i x) = Layer.back 1 (G m c b) s (Layer.lo x))
    (h2 : ∀ x, p2 (ix2 i x) = Layer.back 2 (G m c b) s (Layer.lo x))
    (k1 : ∀ x, q1 (ix2 i x) = Layer.back 1 (G m c b) s (Layer.hi x))
    (k2 : ∀ x, q2 (ix2 i x) = Layer.back 2 (G m c b) s (Layer.hi x)) :
    k0_pay1 (F := Ideal) (k0_pay62 (F := Ideal) (yT m c t)
      (k0_pay53 (F := Ideal) (k0_pay45 (F := Ideal)) (g0 m c t) (k0_pay47 (F := Ideal) (hT m c t) (View.ld (iblk m c 10 t) (Rect.unit ![0, 2816] ![1024, 1408] inb_S1024x5632_S1024x1408_0_2816))) p1 p2
        (k0_pay52 (F := Ideal) (View.ld (iblk m c 12 t) (Rect.unit ![0, 0] ![1, 1408] inb_S1x2816_S1x1408_0_0))) (View.ld (iblk m c 11 t) (Rect.unit ![0, 0] ![1, 1408] inb_S3x2816_S1x1408_0_0)) (View.ld (iblk m c 11 t) (Rect.unit ![1, 0] ![1, 1408] inb_S3x2816_S1x1408_1_0)) (View.ld (iblk m c 11 t) (Rect.unit ![2, 0] ![1, 1408] inb_S3x2816_S1x1408_2_0)) (View.ld (iblk m c 13 t) (Rect.unit ![0, 0] ![1408, 1024] inb_S2816x1024_S1408x1024_0_0)))
      (g1 m c t) (k0_pay55 (F := Ideal) (hR m c t) (View.ld (iblk m c 10 t) (Rect.unit ![0, 4224] ![1024, 1408] inb_S1024x5632_S1024x1408_0_4224)))
      (k0_pay60 (F := Ideal) q1 q2 (View.ld (iblk m c 12 t) (Rect.unit ![0, 1408] ![1, 1408] inb_S1x2816_S1x1408_0_1408)) (View.ld (iblk m c 11 t) (Rect.unit ![0, 1408] ![1, 1408] inb_S3x2816_S1x1408_0_1408)) (View.ld (iblk m c 11 t) (Rect.unit ![1, 1408] ![1, 1408] inb_S3x2816_S1x1408_1_1408))) (k0_pay61 (F := Ideal) (View.ld (iblk m c 11 t) (Rect.unit ![2, 1408] ![1, 1408] inb_S3x2816_S1x1408_2_1408)))
      (View.ld (iblk m c 13 t) (Rect.unit ![1408, 0] ![1408, 1024] inb_S2816x1024_S1408x1024_1408_0)) (iblk m c 14 t)) (ix3 0 i d)
      = Out m c b s d := by
  unfold Out
  rw [out_at]
  refine congrArg₂ (fun p q => Layer.rms p q d) (funext fun d => ?_) (funext fun d => gl_at m c t d)
  unfold Fo
  rw [half0_at, Layer.ffn_halves, yT_at m c t b s i hb hs]
  refine congrArg (fun e : EReal => Y m c b s d + e) (congrArg₂ (fun p q : EReal => p + q) (Finset.sum_congr rfl fun x _ => ?_) (Finset.sum_congr rfl fun x _ => ?_))
  · rw [h1, h2, g0_at m c t b s i hb hs, u0_at m c t b s i hb hs]
    pointwise
    simp only [cb_at, cw_at, wdn_at]
    rfl
  · rw [k1, k2, g1_at m c t b s i hb hs, u1_at m c t b s i hb hs]
    pointwise
    simp only [cb_at, cw_at, wdn_at]
    rfl

end Cert.KernelIdeal.Points
-- ==== Proof.GatedCarry.lean ====
module

public import proofs.«01_k».proof.Proof.Gen.KernelIdeal.Value
public import proofs.«01_k».proof.Proof.GatedRows
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)
namespace Cert.KernelIdeal.Points
open Cert.KernelIdeal Cert.KernelIdeal.Gen Cert.KernelIdeal.Tile Cert.KernelIdeal.Blocks
variable (m : (ℓ : Loc nD τ sig) → Buf (Elt Ideal) ℓ) (c : Dev nD) (t : Fin cfg0.N)

/-- The gate rows carried out of a grid point, first half: the last eight of its tile. -/
theorem carry0 (b : Fin 8) (s : Fin 2048) (q : Fin 8) (x : Fin 1408) (hb : b.val = t.val / 4)
    (hs : s.val = 512 * (t.val % 4) + 504 + q.val) :
    (outsAt0 m c t.val t.isLt).2.2 (ix3 0 q x) = G m c b s (Layer.lo x) := by
  by_cases h : t.val % 4 = 0
  · rw [outsAt0_A m c t h]
    frame_out
    rw [Pieces.canon3, dif_neg (by simp), Pieces.canon3, dif_pos (by simp)]
    exact (carry0_at x _ _ q).trans (g0_at m c t b s ⟨504 + q.val, by omega⟩ hb (by simp only; omega) x)
  · rw [outsAt0_B m c t h]
    frame_out
    rw [Pieces.canon3, dif_neg (by simp), Pieces.canon3, dif_pos (by simp)]
    exact (carry0_at x _ _ q).trans (g0_at m c t b s ⟨504 + q.val, by omega⟩ hb (by simp only; omega) x)

/-- The gate rows carried out of a grid point, second half. -/
theorem carry1 (b : Fin 8) (s : Fin 2048) (q : Fin 8) (x : Fin 1408) (hb : b.val = t.val / 4)
    (hs : s.val = 512 * (t.val % 4) + 504 + q.val) :
    (outsAt0 m c t.val t.isLt).2.2 (ix3 1 q x) = G m c b s (Layer.hi x) := by
  by_cases h : t.val % 4 = 0
  · rw [outsAt0_A m c t h]
    frame_out
    rw [Pieces.canon3, dif_pos (by simp)]
    exact (carry1_at x _ q).trans (g1_at m c t b s ⟨504 + q.val, by omega⟩ hb (by simp only; omega) x)
  · rw [outsAt0_B m c t h]
    frame_out
    rw [Pieces.canon3, dif_pos (by simp)]
    exact (carry1_at x _ q).trans (g1_at m c t b s ⟨504 + q.val, by omega⟩ hb (by simp only; omega) x)

/-- The last two gate rows a grid point leaves in the second output. -/
theorem last (b : Fin 8) (s : Fin 2048) (q : Fin 2) (j : Fin 2816) (hb : b.val = t.val / 4)
    (hs : s.val = 512 * (t.val % 4) + 510 + q.val) :
    (outsAt0 m c t.val t.isLt).2.1 (ix3 0 q j) = G m c b s j := by
  have key : View.canon
      ([⟨Rect.unit (s := S1x2x2816) ![0, 0, 1408] ![1, 2, 1408] inb_S1x2x2816_S1x2x1408_0_0_1408, k0_pay59 (F := Ideal) (g1 m c t)⟩,
        ⟨Rect.unit (s := S1x2x2816) ![0, 0, 0] ![1, 2, 1408] inb_S1x2x2816_S1x2x1408_0_0_0, k0_pay51 (F := Ideal) (hT m c t)
          (View.ld (iblk m c 10 t) (Rect.unit ![0, 0] ![1024, 1408] inb_S1024x5632_S1024x1408_0_0))⟩] :
        List (View.Piece (Elt Ideal) S1x2x2816 .f32)) (ix3 0 q j)
      = G m c b s j := by
    rw [Pieces.canon3]
    split
    · rename_i h
      refine (last1_at ⟨j.val - 1408, by omega⟩ _ q).trans
        ((g1_at m c t b s ⟨510 + q.val, by omega⟩ hb (by simp only; omega) _).trans ?_)
      refine congrArg (G m c b s) (Fin.ext ?_)
      show 1408 + (j.val - 1408) = j.val
      omega
    · rename_i h
      have hj : j.val < 1408 := by
        by_contra hj
        exact h ⟨by simp, by simp; omega, by omega⟩
      rw [Pieces.canon3, dif_pos (by simp; omega)]
      exact (last0_at ⟨j.val, hj⟩ _ _ q).trans (g0_at m c t b s ⟨510 + q.val, by omega⟩ hb (by simp only; omega) _)
  by_cases h : t.val % 4 = 0
  · rw [outsAt0_A m c t h]
    frame_out
    exact key
  · rw [outsAt0_B m c t h]
    frame_out
    exact key

end Cert.KernelIdeal.Points
-- ==== Proof.Delay.lean ====
module

public import proofs.«01_k».proof.Proof.Layer
public import proofs.«01_k».proof.Proof.Pieces
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Pieces

variable {sig : RefSig} {κ : Kind} {sp : Space}

/-- The gate rows delayed by `n` steps, as the tile reads them back from the shift buffer: rows 8 to 519 hold the tile's own
    gate rows `T`, rows 0 to 7 the rows `C` carried in, and the load starts at row `8 - n`. -/
theorem delayed (n : Nat) (hn : n ≤ 8) (v : View sig κ sp (⟨2, ![520, 1408]⟩ : Shape) .f32)
    (inb : ∀ i, (![8 - n, 0] : Fin 2 → Nat) i + (⟨2, ![512, 1408]⟩ : Shape).size i ≤ (⟨2, ![520, 1408]⟩ : Shape).size i)
    (i8 : ∀ i, (![8, 0] : Fin 2 → Nat) i + (⟨2, ![512, 1408]⟩ : Shape).size i ≤ (⟨2, ![520, 1408]⟩ : Shape).size i)
    (i0 : ∀ i, (![0, 0] : Fin 2 → Nat) i + (⟨2, ![8, 1408]⟩ : Shape).size i ≤ (⟨2, ![520, 1408]⟩ : Shape).size i)
    (T : FVec Ideal (⟨2, ![512, 1408]⟩ : Shape) .f32) (C : FVec Ideal (⟨2, ![8, 1408]⟩ : Shape) .f32)
    (L : List (View.Piece (Elt Ideal) (⟨2, ![520, 1408]⟩ : Shape) .f32)) (i : Fin 512) (x : Fin 1408)
    (G : Fin 2048 → Fin 2816 → EReal) (τ : Nat) (s : Fin 2048) (hs : s.val = 512 * τ + i.val) (j : Fin 2816)
    (hT : ∀ (r' : Fin 512) (s' : Fin 2048), s'.val = 512 * τ + r'.val → T (ix2 r' x) = G s' j)
    (hC0 : τ = 0 → ∀ q : Fin 8, 8 - n ≤ q.val → C (ix2 q x) = (0 : EReal))
    (hC : 0 < τ → ∀ (q : Fin 8) (s' : Fin 2048), s'.val + 8 = 512 * τ + q.val → C (ix2 q x) = G s' j) :
    v.readCov ((⟨Rect.unit (s := (⟨2, ![520, 1408]⟩ : Shape)) ![8, 0] (⟨2, ![512, 1408]⟩ : Shape).size i8, T⟩ :
          View.Piece (Elt Ideal) (⟨2, ![520, 1408]⟩ : Shape) .f32) ::
        (⟨Rect.unit (s := (⟨2, ![520, 1408]⟩ : Shape)) ![0, 0] (⟨2, ![8, 1408]⟩ : Shape).size i0, C⟩ :
          View.Piece (Elt Ideal) (⟨2, ![520, 1408]⟩ : Shape) .f32) :: L)
        (Rect.unit (s := (⟨2, ![520, 1408]⟩ : Shape)) ![8 - n, 0] (⟨2, ![512, 1408]⟩ : Shape).size inb).toLoadRect (ix2 i x)
      = Layer.back n G s j := by
  rw [rows_after (by omega)]
  exact Layer.back_tile n hn G τ i s hs j (fun q => C (ix2 q x)) (fun r => T (ix2 r x)) hT hC0 hC

end Cert.Pieces
-- ==== Proof.GatedOut.lean ====
module

public import proofs.«01_k».proof.Proof.Gen.KernelIdeal.Value
public import proofs.«01_k».proof.Proof.GatedCarry
public import proofs.«01_k».proof.Proof.Delay
public import Idealize.ShloMosaic.Lib.Pipeline.ValueKit
public import Idealize.ShloMosaic.Lib.Pointwise
public import Idealize.ShloMosaic.Lib.Pipeline.ReadBack

@[expose] public section

set_option maxRecDepth 16384
set_option maxHeartbeats 1000000

noncomputable section

open Idealize.ShloMosaic Idealize.ShloMosaic.TcCoe Idealize.SL.Sem
open Idealize.ShloMosaic.Pipeline (Dat)
namespace Cert.KernelIdeal.Points
open Cert.KernelIdeal Cert.KernelIdeal.Gen Cert.KernelIdeal.Tile Cert.KernelIdeal.Blocks
variable (m : (ℓ : Loc nD τ sig) → Buf (Elt Ideal) ℓ) (c : Dev nD) (t : Fin cfg0.N)

/-- The first half's gate rows put in the shift buffer are rows of the whole. -/
theorem copy0 (b : Fin 8) (hb : b.val = t.val / 4) (x : Fin 1408) (r : Fin 512) (s : Fin 2048)
    (hs : s.val = 512 * (t.val % 4) + r.val) :
    k0_pay49 (F := Ideal) (hT m c t) (View.ld (iblk m c 10 t) (Rect.unit ![0, 0] ![1024, 1408] inb_S1024x5632_S1024x1408_0_0)) (ix2 r x)
      = G m c b s (Layer.lo x) :=
  (copy0_at r x _ _).trans (g0_at m c t b s r hb hs x)

/-- The second half's gate rows put in the shift buffer are rows of the whole. -/
theorem copy1 (b : Fin 8) (hb : b.val = t.val / 4) (x : Fin 1408) (r : Fin 512) (s : Fin 2048)
    (hs : s.val = 512 * (t.val % 4) + r.val) :
    k0_pay57 (F := Ideal) (g1 m c t) (ix2 r x) = G m c b s (Layer.hi x) :=
  (copy1_at r x _).trans (g1_at m c t b s r hb hs x)

/-- At the first tile of a sequence the history rows of the first half are zero. -/
theorem start0 (x : Fin 1408) (q : Fin 8) (hq : 6 ≤ q.val) (v : View sig .tc .vmem S2x8x1408 .f32)
    (p4 p5 : FVec Ideal S1x2x1408 .f32) (L : List (View.Piece (Elt Ideal) S2x8x1408 .f32))
    (h4 : ∀ a x, p4 (ix3 0 a x) = (0 : EReal)) :
    v.readCov ((⟨Rect.unit (s := S2x8x1408) ![1, 6, 0] ![1, 2, 1408] inb_S2x8x1408_S1x2x1408_1_6_0, p5⟩ : View.Piece (Elt Ideal) S2x8x1408 .f32) ::
        (⟨Rect.unit (s := S2x8x1408) ![0, 6, 0] ![1, 2, 1408] inb_S2x8x1408_S1x2x1408_0_6_0, p4⟩ : View.Piece (Elt Ideal) S2x8x1408 .f32) :: L)
      (Rect.unit (s := S2x8x1408) ![0, 0, 0] ![1, 8, 1408] inb_S2x8x1408_S1x8x1408_0_0_0).toLoadRect (ix3 0 q x) = (0 : EReal) := by
  rw [Pieces.readCov3 _ _ _ _ _ _ (by simp) (by simp) (by simp), Pieces.canon3, dif_neg (by simp),
    Pieces.canon3, dif_pos (by simp; omega)]
  exact h4 ⟨0 + q.val - 6, by omega⟩ ⟨0 + x.val - 0, by omega⟩

/-- At the first tile of a sequence the history rows of the second half are zero. -/
theorem start1 (x : Fin 1408) (q : Fin 8) (hq : 6 ≤ q.val) (v : View sig .tc .vmem S2x8x1408 .f32)
    (p5 : FVec Ideal S1x2x1408 .f32) (p12 : FVec Ideal S1x8x1408 .f32) (L : List (View.Piece (Elt Ideal) S2x8x1408 .f32))
    (h5 : ∀ a x, p5 (ix3 0 a x) = (0 : EReal)) :
    v.readCov ((⟨Rect.unit (s := S2x8x1408) ![0, 0, 0] ![1, 8, 1408] inb_S2x8x1408_S1x8x1408_0_0_0, p12⟩ : View.Piece (Elt Ideal) S2x8x1408 .f32) ::
        (⟨Rect.unit (s := S2x8x1408) ![1, 6, 0] ![1, 2, 1408] inb_S2x8x1408_S1x2x1408_1_6_0, p5⟩ : View.Piece (Elt Ideal) S2x8x1408 .f32) :: L)
      (Rect.unit (s := S2x8x1408) ![1, 0, 0] ![1, 8, 1408] inb_S2x8x1408_S1x8x1408_1_0_0).toLoadRect (ix3 0 q x) = (0 : EReal) := by
  rw [Pieces.readCov3 _ _ _ _ _ _ (by simp) (by simp) (by simp), Pieces.canon3, dif_neg (by simp),
    Pieces.canon3, dif_pos (by simp; omega)]
  exact h5 ⟨0 + q.val - 6, by omega⟩ ⟨0 + x.val - 0, by omega⟩

/-- The rows stored as history at a first tile, first half. -/
theorem zero0 (a : Fin 2) (x : Fin 1408) :
    k0_pay41 (F := Ideal) (View.ld (iblk m c 1 t) (Rect.unit ![0, 0, 0] ![1, 2, 1408] inb_S1x2x2816_S1x2x1408_0_0_0)) (ix3 0 a x) = (0 : EReal) := by
  rw [start0_at]
  pointwise
  exact hist_at m c t _ _

/-- The rows stored as history at a first tile, second half. -/
theorem zero1 (a : Fin 2) (x : Fin 1408) :
    k0_pay42 (F := Ideal) (View.ld (iblk m c 1 t) (Rect.unit ![0, 0, 1408] ![1, 2, 1408] inb_S1x2x2816_S1x2x1408_0_0_1408)) (ix3 0 a x) = (0 : EReal) := by
  rw [start1_at]
  pointwise
  exact hist_at m c t _ _

/-- At a later tile the history rows are the last rows of the tile before, first half. -/
theorem prev0 (b : Fin 8) (hb : b.val = t.val / 4) (h : ¬t.val % 4 = 0) (hp) (x : Fin 1408) (q : Fin 8) (s : Fin 2048)
    (hs : s.val + 8 = 512 * (t.val % 4) + q.val) :
    (outsAt0 m c (t.val - 1) hp).2.2 (ix3 0 q x) = G m c b s (Layer.lo x) :=
  carry0 m c ⟨t.val - 1, hp⟩ b s q x (by simp only; omega) (by simp only; omega)

/-- At a later tile the history rows are the last rows of the tile before, second half. -/
theorem prev1 (b : Fin 8) (hb : b.val = t.val / 4) (h : ¬t.val % 4 = 0) (hp) (x : Fin 1408) (q : Fin 8) (s : Fin 2048)
    (hs : s.val + 8 = 512 * (t.val % 4) + q.val) :
    (outsAt0 m c (t.val - 1) hp).2.2 (ix3 1 q x) = G m c b s (Layer.hi x) :=
  carry1 m c ⟨t.val - 1, hp⟩ b s q x (by simp only; omega) (by simp only; omega)

/-- What a grid point writes of the first output: the result rows of its tile. -/
theorem out (b : Fin 8) (s : Fin 2048) (i : Fin 512) (d : Fin 1024) (hb : b.val = t.val / 4)
    (hs : s.val = 512 * (t.val % 4) + i.val) :
    (outsAt0 m c t.val t.isLt).1 (ix3 0 i d) = Out m c b s d := by
  by_cases h : t.val % 4 = 0
  · rw [outsAt0_A m c t h]
    frame_out
    refine out_tile m c t b s i hb hs _ _ _ _ d (fun x => ?_) (fun x => ?_) (fun x => ?_) (fun x => ?_)
    · refine Pieces.delayed 1 (by omega) _ _ _ _ _ _ _ i x _ _ s hs _ (copy0 m c t b hb x) ?_ (fun h' => absurd h (by omega))
      intro _ q hq
      exact (old0_at x _ q).trans (start0 x q (by omega) _ _ _ _ (zero0 m c t))
    · refine Pieces.delayed 2 (by omega) _ _ _ _ _ _ _ i x _ _ s hs _ (copy0 m c t b hb x) ?_ (fun h' => absurd h (by omega))
      intro _ q hq
      exact (old0_at x _ q).trans (start0 x q (by omega) _ _ _ _ (zero0 m c t))
    · refine Pieces.delayed 1 (by omega) _ _ _ _ _ _ _ i x _ _ s hs _ (copy1 m c t b hb x) ?_ (fun h' => absurd h (by omega))
      intro _ q hq
      exact (old1_at x _ q).trans (start1 x q (by omega) _ _ _ _ (zero1 m c t))
    · refine Pieces.delayed 2 (by omega) _ _ _ _ _ _ _ i x _ _ s hs _ (copy1 m c t b hb x) ?_ (fun h' => absurd h (by omega))
      intro _ q hq
      exact (old1_at x _ q).trans (start1 x q (by omega) _ _ _ _ (zero1 m c t))
  · rw [outsAt0_B m c t h]
    frame_out
    refine out_tile m c t b s i hb hs _ _ _ _ d (fun x => ?_) (fun x => ?_) (fun x => ?_) (fun x => ?_)
    · refine Pieces.delayed 1 (by omega) _ _ _ _ _ _ _ i x _ _ s hs _ (copy0 m c t b hb x) (fun h' => absurd h' h) ?_
      intro _ q s' hs'
      rw [old0_at]
      pointwise
      refine (congrFun (read_unread_whole _ _ _) _).trans ?_
      exact prev0 m c t b hb h _ x q s' hs'
    · refine Pieces.delayed 2 (by omega) _ _ _ _ _ _ _ i x _ _ s hs _ (copy0 m c t b hb x) (fun h' => absurd h' h) ?_
      intro _ q s' hs'
      rw [old0_at]
      pointwise
      refine (congrFun (read_unread_whole _ _ _) _).trans ?_
      exact prev0 m c t b hb h _ x q s' hs'
    · refine Pieces.delayed 1 (by omega) _ _ _ _ _ _ _ i x _ _ s hs _ (copy1 m c t b hb x) (fun h' => absurd h' h) ?_
      intro _ q s' hs'
      rw [old1_at]
      pointwise
      refine (congrFun (read_unread_whole _ _ _) _).trans ?_
      exact prev1 m c t b hb h _ x q s' hs'
    · refine Pieces.delayed 2 (by omega) _ _ _ _ _ _ _ i x _ _ s hs _ (copy1 m c t b hb x) (fun h' => absurd h' h) ?_
      intro _ q s' hs'
      rw [old1_at]
      pointwise
      refine (congrFun (read_unread_whole _ _ _) _).trans ?_
      exact prev1 m c t b hb h _ x q s' hs'

end Cert.KernelIdeal.Points
-- ==== Proof.GatedArrays.lean ====
module

public import proofs.«01_k».proof.Proof.Gen.KernelIdeal.Value
public import proofs.«01_k».proof.Proof.GatedOut
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)
namespace Cert.KernelIdeal.Points
open Cert.KernelIdeal Cert.KernelIdeal.Gen Cert.KernelIdeal.Tile Cert.KernelIdeal.Blocks
variable (m : (ℓ : Loc nD τ sig) → Buf (Elt Ideal) ℓ) (c : Dev nD)

/-- The first result array: at (b, s, d) the result row of batch `b`, time `s`. -/
def outArr : FVec Ideal S8x2048x1024 .f32 := fun i => Out m c (i 0) (i 1) (i 2)
/-- The second result array: the gate rows of the last two time steps. -/
def bufArr : FVec Ideal S8x2x2816 .f32 := fun i => G m c (i 0) ⟨2046 + (i 1).val, by have := (i 1).isLt; simp at this; omega⟩ (i 2)

/-- The block of each output a grid point writes. -/
theorem oidx : ∀ t : Fin cfg0.N, win0_15.index t = ![t.val / 4, t.val % 4, 0] ∧ win0_16.index t = ![t.val / 4, 0, 0] :=
  (by decide +kernel : ∀ t : Fin grid0.N, _)

/-- The grid points that write back the second output are the last ones of each sequence. -/
theorem last_flush : ∀ t : Fin cfg0.N, (cfg0.win 16).flush t = true → t.val % 4 = 3 :=
  (by decide +kernel : ∀ t : Fin grid0.N, win0_16.flush t = true → t.val % 4 = 3)

/-- After the run the first output array holds the result rows. -/
theorem arr15 : (dats m 0 c).arrAt 15 cfg0.N = outArr m c := by
  refine Dat.arrAt_eq_of_covers (w := 15) (dats m 0 c) (outArr m c) (by decide +kernel) (fun t hf y => ?_)
  blk_simp
  idx_vars y
  obtain rfl : y0 = 0 := Subsingleton.elim _ _
  rw [after0_15]
  have e0 : ((((View.whole main_v30_0).slice (win0_15.rect t)).emb (ix3 0 y1 y2)) 0).val = t.val / 4 := by
    blk_simp [oidx t] <;> omega
  have e1 : ((((View.whole main_v30_0).slice (win0_15.rect t)).emb (ix3 0 y1 y2)) 1).val = 512 * (t.val % 4) + y1.val := by
    blk_simp [oidx t] <;> omega
  have e2 : (((View.whole main_v30_0).slice (win0_15.rect t)).emb (ix3 0 y1 y2)) 2 = y2 := by
    apply Fin.ext
    blk_simp [oidx t] <;> omega
  refine (out m c t _ _ y1 y2 e0 e1).trans ?_
  exact congrArg (Out m c _ _) e2.symm

/-- After the run the second output array holds the last gate rows. -/
theorem arr16 : (dats m 0 c).arrAt 16 cfg0.N = bufArr m c := by
  refine Dat.arrAt_eq_of_covers (w := 16) (dats m 0 c) (bufArr m c) (by decide +kernel) (fun t hf y => ?_)
  blk_simp
  idx_vars y
  obtain rfl : y0 = 0 := Subsingleton.elim _ _
  rw [after0_16]
  have e0 : ((((View.whole main_v30_1).slice (win0_16.rect t)).emb (ix3 0 y1 y2)) 0).val = t.val / 4 := by
    blk_simp [oidx t] <;> omega
  have e1 : ((((View.whole main_v30_1).slice (win0_16.rect t)).emb (ix3 0 y1 y2)) 1).val = y1.val := by
    blk_simp [oidx t] <;> omega
  have e2 : (((View.whole main_v30_1).slice (win0_16.rect t)).emb (ix3 0 y1 y2)) 2 = y2 := by
    apply Fin.ext
    blk_simp [oidx t] <;> omega
  have hl := last_flush t hf
  refine (last m c t _ ⟨2046 + ((((View.whole main_v30_1).slice (win0_16.rect t)).emb (ix3 0 y1 y2)) 1).val, by rw [e1]; omega⟩
    y1 y2 e0 (by show 2046 + _ = _; rw [e1]; omega)).trans ?_
  exact congrArg (G m c _ _) e2.symm

end Cert.KernelIdeal.Points
-- ==== Proof.RefGated.lean ====
module

public import proofs.«01_k».proof.Proof.Gen.ReferenceIdeal.Run
public import proofs.«01_k».proof.Proof.Arrays
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
namespace Cert.ReferenceIdeal.Stages
open Cert.ReferenceIdeal Cert.ReferenceIdeal.Gen Idealize.ShloMosaic.StableHlo

/-- The hidden rows before the gelu: the normalised input times the input projection, plus its bias. -/
def hidden (a0 : FVec Ideal S8x2048x1024 .f32) (a1 : FVec Ideal S2x1024 .f32) (a2 : FVec Ideal S1x1024x2048 .f32) (a3 : FVec Ideal S1x2048 .f32) : FVec Ideal S8x2048x2048 .f32 :=
  addf (Host.dotGeneral dot_S8x2048x1024_S1024x2048_S8x2048x2048_2_0_01_1_n_n none (mulf (mulf a0 (broadcastInDim
    S8x2048x1024 ![0, 1, 2] bcast_S8x2048x1_S8x2048x1024_0_1_2 (Host.rsqrt (addf (Host.divf (broadcastInDim S8x2048x1 ![0,
    1] bcast_S8x2048_S8x2048x1_0_1 (Host.reduceAdd (mulf a0 a0) (constant S_ .f32 0x00000000#32)
    reducesTo_S8x2048x1024_S8x2048_d2 h_S_)) (broadcastInDim S8x2048x1 ![] bcast_S_S8x2048x1 (constant S_ .f32
    0x44800000#32))) (broadcastInDim S8x2048x1 ![] bcast_S_S8x2048x1 (constant S_ .f32 0x358637BD#32)))))) (broadcastInDim
    S8x2048x1024 ![0, 1, 2] bcast_S1x1x1024_S8x2048x1024_0_1_2 (broadcastInDim S1x1x1024 ![2] bcast_S1024_S1x1x1024_2
    (shapeCast _ (extractStridedSlice S1x1024 ![1, 0] a1 slices_S2x1024_S1x1024_1_0) shapeCasts_S1x1024_S1024)))) (shapeCast
    _ a2 shapeCasts_S1x1024x2048_S1024x2048)) (broadcastInDim S8x2048x2048 ![0, 1, 2] bcast_S1x1x2048_S8x2048x2048_0_1_2
    (broadcastInDim S1x1x2048 ![2] bcast_S2048_S1x1x2048_2 (shapeCast _ a3 shapeCasts_S1x2048_S2048)))

/-- The gelu of the hidden rows. -/
def activated (v24 : FVec Ideal S8x2048x2048 .f32) : FVec Ideal S8x2048x2048 .f32 :=
  mulf v24 (mulf (broadcastInDim S8x2048x2048 ![] bcast_S_S8x2048x2048 (constant S_ .f32 0x3F000000#32)) (addf
    (broadcastInDim S8x2048x2048 ![] bcast_S_S8x2048x2048 (constant S_ .f32 0x3F800000#32)) (Host.tanh (mulf (broadcastInDim
    S8x2048x2048 ![] bcast_S_S8x2048x2048 (constant S_ .f32 0x3F4C422A#32)) (addf v24 (mulf (broadcastInDim S8x2048x2048 ![]
    bcast_S_S8x2048x2048 (constant S_ .f32 0x3D372713#32)) (mulf (mulf v24 v24) v24)))))))

/-- The normalised second half of the hidden columns. -/
def values (Z : FVec Ideal S8x2048x2048 .f32) (a4 : FVec Ideal S1x1024 .f32) : FVec Ideal S8x2048x1024 .f32 :=
  mulf (mulf (extractStridedSlice S8x2048x1024 ![0, 0, 1024] Z slices_S8x2048x2048_S8x2048x1024_0_0_1024) (broadcastInDim
    S8x2048x1024 ![0, 1, 2] bcast_S8x2048x1_S8x2048x1024_0_1_2 (Host.rsqrt (addf (Host.divf (broadcastInDim S8x2048x1 ![0,
    1] bcast_S8x2048_S8x2048x1_0_1 (Host.reduceAdd (mulf (extractStridedSlice S8x2048x1024 ![0, 0, 1024] Z
    slices_S8x2048x2048_S8x2048x1024_0_0_1024) (extractStridedSlice S8x2048x1024 ![0, 0, 1024] Z
    slices_S8x2048x2048_S8x2048x1024_0_0_1024)) (constant S_ .f32 0x00000000#32) reducesTo_S8x2048x1024_S8x2048_d2 h_S_))
    (broadcastInDim S8x2048x1 ![] bcast_S_S8x2048x1 (constant S_ .f32 0x44800000#32))) (broadcastInDim S8x2048x1 ![]
    bcast_S_S8x2048x1 (constant S_ .f32 0x358637BD#32)))))) (broadcastInDim S8x2048x1024 ![0, 1, 2]
    bcast_S1x1x1024_S8x2048x1024_0_1_2 (broadcastInDim S1x1x1024 ![2] bcast_S1024_S1x1x1024_2 (shapeCast _ a4
    shapeCasts_S1x1024_S1024)))

/-- The causal mixing inside chunks of 128 time steps. -/
def chunked (Vn : FVec Ideal S8x2048x1024 .f32) (a5 : FVec Ideal S1x8x128x128 .f32) (a6 : FVec Ideal S1x8x128 .f32) : FVec Ideal S8x2048x1024 .f32 :=
  shapeCast _ (addf (transpose S8x16x128x8x128 [1, 2, 4, 0, 3] (Host.dotGeneral
    dot_S8x16x128x8x128_S8x128x128_S8x8x16x128x128_2_2_014_1_3_0 none (shapeCast _ (pad S8x2048x1024 ![0, 0, 0] ![0, 0, 0]
    ![0, 0, 0] Vn (sitofp .f32 (constantI S_ 32 0#32)) pads_S8x2048x1024_S8x2048x1024_000_000_000 h_S_)
    shapeCasts_S8x2048x1024_S8x16x128x8x128) (select (broadcastInDim S8x128x128 ![1, 2] bcast_S128x128_S8x128x128_1_2
    (select (cmpi .sge (addi (iotaInDim S128x128 32 0) (broadcastInDim S128x128 ![] bcast_S_S128x128 (constantI S_ 32
    0#32))) (iotaInDim S128x128 32 1)) (broadcastInDim S128x128 ![] bcast_S_S128x128 (constantI S_ 1 1#1)) (broadcastInDim
    S128x128 ![] bcast_S_S128x128 (constantI S_ 1 0#1)))) (shapeCast _ a5 shapeCasts_S1x8x128x128_S8x128x128)
    (broadcastInDim S8x128x128 ![] bcast_S_S8x128x128 (sitofp .f32 (constantI S_ 32 0#32)))))
    transposes_S8x8x16x128x128_S8x16x128x8x128_1_2_4_0_3) (broadcastInDim S8x16x128x8x128 ![0, 1, 2, 3, 4]
    bcast_S1x1x128x8x1_S8x16x128x8x128_0_1_2_3_4 (broadcastInDim S1x1x128x8x1 ![2, 3] bcast_S128x8_S1x1x128x8x1_2_3
    (transpose S128x8 [1, 0] (shapeCast _ a6 shapeCasts_S1x8x128_S8x128) transposes_S8x128_S128x8_1_0))))
    shapeCasts_S8x16x128x8x128_S8x2048x1024

/-- The input plus the output projection of the gated rows. -/
def mixing (a0 : FVec Ideal S8x2048x1024 .f32) (Z : FVec Ideal S8x2048x2048 .f32) (M : FVec Ideal S8x2048x1024 .f32) (a7 : FVec Ideal S1x1024x1024 .f32) : FVec Ideal S8x2048x1024 .f32 :=
  addf a0 (Host.dotGeneral dot_S8x2048x1024_S1024x1024_S8x2048x1024_2_0_01_1_n_n none (mulf (extractStridedSlice
    S8x2048x1024 ![0, 0, 0] Z slices_S8x2048x2048_S8x2048x1024_0_0_0) M) (shapeCast _ a7
    shapeCasts_S1x1024x1024_S1024x1024))

/-- The normalised rows. -/
def normed (Y : FVec Ideal S8x2048x1024 .f32) (a8 : FVec Ideal S2x1024 .f32) : FVec Ideal S8x2048x1024 .f32 :=
  mulf (mulf Y (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf Y Y) (constant S_ .f32
    0x00000000#32) reducesTo_S8x2048x1024_S8x2048_d2 h_S_)) (broadcastInDim S8x2048x1 ![] bcast_S_S8x2048x1 (constant S_
    .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2]
    bcast_S1024_S1x1x1024_2 (shapeCast _ (extractStridedSlice S1x1024 ![1, 0] a8 slices_S2x1024_S1x1024_1_0)
    shapeCasts_S1x1024_S1024)))

/-- The up projection. -/
def upped (H : FVec Ideal S8x2048x1024 .f32) (a9 : FVec Ideal S2x1024x5632 .f32) : FVec Ideal S8x2048x5632 .f32 :=
  Host.dotGeneral dot_S8x2048x1024_S1024x5632_S8x2048x5632_2_0_01_1_n_n none H (shapeCast _ (extractStridedSlice
    S1x1024x5632 ![1, 0, 0] a9 slices_S2x1024x5632_S1x1024x5632_1_0_0) shapeCasts_S1x1024x5632_S1024x5632)

/-- The gate rows behind two rows of zeros. -/
def padded (U : FVec Ideal S8x2048x5632 .f32) : FVec Ideal S8x2050x2816 .f32 :=
  concatenate S8x2050x2816 1 [⟨S8x2x2816, (broadcastInDim S8x2x2816 ![] bcast_S_S8x2x2816 (constant S_ .f32
    0x00000000#32))⟩, ⟨S8x2048x2816, (extractStridedSlice S8x2048x2816 ![0, 0, 0] U
    slices_S8x2048x5632_S8x2048x2816_0_0_0)⟩] concatenates_S8x2x2816_S8x2048x2816_S8x2050x2816_d1

/-- The causal convolution of the gate rows. -/
def convolved (Fl : FVec Ideal S8x2050x2816 .f32) (a10 : FVec Ideal S2x3x2816 .f32) (a11 : FVec Ideal S2x2816 .f32) : FVec Ideal S8x2048x2816 .f32 :=
  addf (addf (addf (broadcastInDim S8x2048x2816 ![0, 1, 2] bcast_S1x1x2816_S8x2048x2816_0_1_2 (broadcastInDim S1x1x2816
    ![2] bcast_S2816_S1x1x2816_2 (shapeCast _ (extractStridedSlice S1x2816 ![1, 0] a11 slices_S2x2816_S1x2816_1_0)
    shapeCasts_S1x2816_S2816))) (mulf (broadcastInDim S8x2048x2816 ![0, 1, 2] bcast_S1x1x2816_S8x2048x2816_0_1_2
    (broadcastInDim S1x1x2816 ![2] bcast_S2816_S1x1x2816_2 (shapeCast _ (extractStridedSlice S1x2816 ![0, 0] (shapeCast _
    (extractStridedSlice S1x3x2816 ![1, 0, 0] a10 slices_S2x3x2816_S1x3x2816_1_0_0) shapeCasts_S1x3x2816_S3x2816)
    slices_S3x2816_S1x2816_0_0) shapeCasts_S1x2816_S2816))) (extractStridedSlice S8x2048x2816 ![0, 0, 0] Fl
    slices_S8x2050x2816_S8x2048x2816_0_0_0))) (mulf (broadcastInDim S8x2048x2816 ![0, 1, 2]
    bcast_S1x1x2816_S8x2048x2816_0_1_2 (broadcastInDim S1x1x2816 ![2] bcast_S2816_S1x1x2816_2 (shapeCast _
    (extractStridedSlice S1x2816 ![1, 0] (shapeCast _ (extractStridedSlice S1x3x2816 ![1, 0, 0] a10
    slices_S2x3x2816_S1x3x2816_1_0_0) shapeCasts_S1x3x2816_S3x2816) slices_S3x2816_S1x2816_1_0) shapeCasts_S1x2816_S2816)))
    (extractStridedSlice S8x2048x2816 ![0, 1, 0] Fl slices_S8x2050x2816_S8x2048x2816_0_1_0))) (mulf (broadcastInDim
    S8x2048x2816 ![0, 1, 2] bcast_S1x1x2816_S8x2048x2816_0_1_2 (broadcastInDim S1x1x2816 ![2] bcast_S2816_S1x1x2816_2
    (shapeCast _ (extractStridedSlice S1x2816 ![2, 0] (shapeCast _ (extractStridedSlice S1x3x2816 ![1, 0, 0] a10
    slices_S2x3x2816_S1x3x2816_1_0_0) shapeCasts_S1x3x2816_S3x2816) slices_S3x2816_S1x2816_2_0) shapeCasts_S1x2816_S2816)))
    (extractStridedSlice S8x2048x2816 ![0, 2, 0] Fl slices_S8x2050x2816_S8x2048x2816_0_2_0))

/-- The residual sum plus the feed-forward output. -/
def downed (Y : FVec Ideal S8x2048x1024 .f32) (Gc : FVec Ideal S8x2048x2816 .f32) (U : FVec Ideal S8x2048x5632 .f32) (a12 : FVec Ideal S2x2816x1024 .f32) : FVec Ideal S8x2048x1024 .f32 :=
  addf Y (Host.dotGeneral dot_S8x2048x2816_S2816x1024_S8x2048x1024_2_0_01_1_n_n none (mulf (mulf Gc (mulf (broadcastInDim
    S8x2048x2816 ![] bcast_S_S8x2048x2816 (constant S_ .f32 0x3F000000#32)) (addf (broadcastInDim S8x2048x2816 ![]
    bcast_S_S8x2048x2816 (constant S_ .f32 0x3F800000#32)) (Host.tanh (mulf (broadcastInDim S8x2048x2816 ![]
    bcast_S_S8x2048x2816 (constant S_ .f32 0x3F4C422A#32)) (addf Gc (mulf (broadcastInDim S8x2048x2816 ![]
    bcast_S_S8x2048x2816 (constant S_ .f32 0x3D372713#32)) (mulf (mulf Gc Gc) Gc)))))))) (extractStridedSlice S8x2048x2816
    ![0, 0, 2816] U slices_S8x2048x5632_S8x2048x2816_0_0_2816)) (shapeCast _ (extractStridedSlice S1x2816x1024 ![1, 0, 0]
    a12 slices_S2x2816x1024_S1x2816x1024_1_0_0) shapeCasts_S1x2816x1024_S2816x1024))

/-- The final normalisation. -/
def last (O : FVec Ideal S8x2048x1024 .f32) (a13 : FVec Ideal S1024 .f32) : FVec Ideal S8x2048x1024 .f32 :=
  mulf (mulf O (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf O O) (constant S_ .f32
    0x00000000#32) reducesTo_S8x2048x1024_S8x2048_d2 h_S_)) (broadcastInDim S8x2048x1 ![] bcast_S_S8x2048x1 (constant S_
    .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2]
    bcast_S1024_S1x1x1024_2 a13))

variable (b : Fin 8) (s : Fin 2048) (d : Fin 1024)

/-- The hidden rows before the activation. -/
theorem hidden_at (a0 : FVec Ideal S8x2048x1024 .f32) (a1 : FVec Ideal S2x1024 .f32) (a2 : FVec Ideal S1x1024x2048 .f32)
    (a3 : FVec Ideal S1x2048 .f32) (j : Fin 2048) :
    hidden a0 a1 a2 a3 (ix3 b s j) = (∑ k, Layer.rms (fun d => a0 (ix3 b s d)) (Layer.gain 1 a1) k * a2 (ix3 0 k j)) + a3 (ix2 0 j) := by
  pointwise [hidden]
  rfl
/-- The activated hidden rows. -/
theorem activated_at (z : FVec Ideal S8x2048x2048 .f32) (j : Fin 2048) :
    activated z (ix3 b s j) = Layer.gelu (z (ix3 b s j)) := by
  pointwise [activated]
  rfl
/-- The normalised right halves. -/
theorem values_at (z : FVec Ideal S8x2048x2048 .f32) (a4 : FVec Ideal S1x1024 .f32) :
    values z a4 (ix3 b s d) = Layer.rms (Layer.right fun j => z (ix3 b s j)) (fun d => a4 (ix2 0 d)) d := by
  pointwise [values]
  rfl
/-- The chunk-local sums over time. -/
theorem chunked_at (v : FVec Ideal S8x2048x1024 .f32) (a5 : FVec Ideal S1x8x128x128 .f32) (a6 : FVec Ideal S1x8x128 .f32) :
    chunked v a5 a6 (ix3 b s d) = Layer.chunk (fun g t s => a5 (ix4 0 g t s)) (fun g t => a6 (ix3 0 g t)) (fun s d => v (ix3 b s d)) s d := by
  pointwise [chunked]
  unfold Layer.chunk
  refine congrArg (fun e : EReal => e + a6 (ix3 0 ⟨d.val / 128, by omega⟩ ⟨s.val % 128, by omega⟩)) ?_
  refine Finset.sum_congr rfl fun x _ => ?_
  refine Eq.trans ?_ (mul_comm (G := EReal) _ _)
  exact congrArg₂ (fun p q : EReal => p * q) (dif_pos (show s.val / 128 * 128 + x.val < 2048 by omega))
    (Layer.mask_word2 (s.val % 128) x.val (by omega) (by omega) _ _ (sitofp_zero (φ := .f32)))
/-- The input plus the projection of the gated sums. -/
theorem mixing_at (a0 : FVec Ideal S8x2048x1024 .f32) (z : FVec Ideal S8x2048x2048 .f32) (mx : FVec Ideal S8x2048x1024 .f32)
    (a7 : FVec Ideal S1x1024x1024 .f32) :
    mixing a0 z mx a7 (ix3 b s d) = a0 (ix3 b s d) + ∑ k, Layer.left (fun j => z (ix3 b s j)) k * mx (ix3 b s k) * a7 (ix3 0 k d) := by
  pointwise [mixing]
  rfl

/-- The normalised rows. -/
theorem normed_at (y : FVec Ideal S8x2048x1024 .f32) (g : FVec Ideal S2x1024 .f32) :
    normed y g (ix3 b s d) = Layer.rms (fun d => y (ix3 b s d)) (Layer.gain 1 g) d := by
  pointwise [normed]
  rfl

/-- The up projection. -/
theorem upped_at (h : FVec Ideal S8x2048x1024 .f32) (w : FVec Ideal S2x1024x5632 .f32) (j : Fin 5632) :
    upped h w (ix3 b s j) = ∑ k, h (ix3 b s k) * Layer.wUp 1 w k j := by
  pointwise [upped]
  rfl

/-- The gate rows behind two rows of zeros. -/
theorem padded_at (u : FVec Ideal S8x2048x5632 .f32) (q : Fin 2050) (j : Fin 2816) :
    padded u (ix3 b q j) = if h : q.val < 2 then (0 : EReal) else u (ix3 b ⟨q.val - 2, by omega⟩ ⟨j.val, by omega⟩) := by
  pointwise [padded]

/-- The convolution of the padded gate rows is the causal convolution. -/
theorem convolved_at (u : FVec Ideal S8x2048x5632 .f32) (a6 : FVec Ideal S2x3x2816 .f32) (a7 : FVec Ideal S2x2816 .f32)
    (j : Fin 2816) :
    convolved (padded u) a6 a7 (ix3 b s j)
      = Layer.conv (Layer.wConv 1 a6) (Layer.bConv 1 a7) (fun s j => u (ix3 b s ⟨j.val, by omega⟩)) s j := by
  pointwise [convolved]
  rw [padded_at, padded_at, padded_at]
  exact Layer.conv_padded (Layer.wConv 1 a6) (Layer.bConv 1 a7) (fun s j => u (ix3 b s ⟨j.val, by omega⟩)) s j

/-- The residual sum plus the down projection. -/
theorem downed_at (y : FVec Ideal S8x2048x1024 .f32) (gc : FVec Ideal S8x2048x2816 .f32) (u : FVec Ideal S8x2048x5632 .f32)
    (w : FVec Ideal S2x2816x1024 .f32) :
    downed y gc u w (ix3 b s d) = y (ix3 b s d) +
      ∑ j : Fin 2816, Layer.gelu (gc (ix3 b s j)) * u (ix3 b s ⟨2816 + j.val, by omega⟩) * Layer.wDown 1 w j d := by
  pointwise [downed]
  rfl

/-- The final normalisation. -/
theorem last_at (y : FVec Ideal S8x2048x1024 .f32) (g : FVec Ideal S1024 .f32) :
    last y g (ix3 b s d) = Layer.rms (fun d => y (ix3 b s d)) (fun d => g (ix1 d)) d := by
  pointwise [last]
  rfl

/-- The residual rows after the gated layer, as the chain of stages. -/
def resid (a0 : FVec Ideal S8x2048x1024 .f32) (a1 : FVec Ideal S2x1024 .f32) (a2 : FVec Ideal S1x1024x2048 .f32)
    (a3 : FVec Ideal S1x2048 .f32) (a4 : FVec Ideal S1x1024 .f32) (a5 : FVec Ideal S1x8x128x128 .f32)
    (a6 : FVec Ideal S1x8x128 .f32) (a7 : FVec Ideal S1x1024x1024 .f32) : FVec Ideal S8x2048x1024 .f32 :=
  mixing a0 (activated (hidden a0 a1 a2 a3)) (chunked (values (activated (hidden a0 a1 a2 a3)) a4) a5 a6) a7

/-- The residual rows of the run are the chain of stages. -/
theorem resid_eq (m : (ℓ : Loc nD τ sig) → Buf (Elt Ideal) ℓ) (c : Dev nD) :
    Value.res_main_v67 (F := Ideal) (launchContents m c) =
      resid (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := rfl
/-- The up projection of the run, from the residual rows. -/
theorem up_eq (m : (ℓ : Loc nD τ sig) → Buf (Elt Ideal) ℓ) (c : Dev nD) :
    Value.res_main_v92 (F := Ideal) (launchContents m c) =
      upped (normed (Value.res_main_v67 (F := Ideal) (launchContents m c)) (m ((c.tc : Thread nD τ).loc main_arg8)))
        (m ((c.tc : Thread nD τ).loc main_arg9)) := rfl
/-- The rows before the last normalisation, from the residual rows and the up projection. -/
theorem down_eq (m : (ℓ : Loc nD τ sig) → Buf (Elt Ideal) ℓ) (c : Dev nD) :
    Value.res_main_v135 (F := Ideal) (launchContents m c) =
      downed (Value.res_main_v67 (F := Ideal) (launchContents m c))
        (convolved (padded (Value.res_main_v92 (F := Ideal) (launchContents m c))) (m ((c.tc : Thread nD τ).loc main_arg10))
          (m ((c.tc : Thread nD τ).loc main_arg11)))
        (Value.res_main_v92 (F := Ideal) (launchContents m c)) (m ((c.tc : Thread nD τ).loc main_arg12)) := rfl
/-- The padded gate rows, from the up projection. -/
theorem pad_eq (m : (ℓ : Loc nD τ sig) → Buf (Elt Ideal) ℓ) (c : Dev nD) :
    Value.res_main_v95 (F := Ideal) (launchContents m c) = padded (Value.res_main_v92 (F := Ideal) (launchContents m c)) := rfl

/-- The reference's first result, as the chain of stages. -/
theorem first_res (m : (ℓ : Loc nD τ sig) → Buf (Elt Ideal) ℓ) (c : Dev nD) :
    mulf (mulf (Value.res_main_v135 (F := Ideal) (launchContents m c)) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (Value.res_main_v135 (F := Ideal) (launchContents m c)) (Value.res_main_v135 (F := Ideal) (launchContents m c))) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 ((launchContents m c) (Proc.devRef .tc main_arg13))))
      = last (downed (resid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (convolved (padded (upped (normed (resid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)))) (m ((c.tc : Thread nD τ).loc main_arg10)) (m ((c.tc : Thread nD τ).loc main_arg11))) (upped (normed (resid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9))) (m ((c.tc : Thread nD τ).loc main_arg12))) (m ((c.tc : Thread nD τ).loc main_arg13)) := by
  have e : mulf (mulf (Value.res_main_v135 (F := Ideal) (launchContents m c)) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (Value.res_main_v135 (F := Ideal) (launchContents m c)) (Value.res_main_v135 (F := Ideal) (launchContents m c))) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 ((launchContents m c) (Proc.devRef .tc main_arg13))))
      = last (Value.res_main_v135 (F := Ideal) (launchContents m c)) (m ((c.tc : Thread nD τ).loc main_arg13)) := rfl
  rw [e, down_eq, up_eq, resid_eq]

/-- The reference's second result, as the chain of stages. -/
theorem second_res (m : (ℓ : Loc nD τ sig) → Buf (Elt Ideal) ℓ) (c : Dev nD) :
    extractStridedSlice S8x2x2816 ![0, 2048, 0] (Value.res_main_v95 (F := Ideal) (launchContents m c)) slices_S8x2050x2816_S8x2x2816_0_2048_0
      = extractStridedSlice S8x2x2816 ![0, 2048, 0] (padded (upped (normed (resid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)))) slices_S8x2050x2816_S8x2x2816_0_2048_0 := by
  rw [pad_eq, up_eq, resid_eq]

end Cert.ReferenceIdeal.Stages
-- ==== Proof.GatedEquation.lean ====
module

public import proofs.«01_k».proof.Proof.Gen.ReferenceIdeal.Run
public import proofs.«01_k».proof.Proof.GatedArrays
public import proofs.«01_k».proof.Proof.RefGated
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
namespace Cert.GatedEquation
open Cert.ReferenceIdeal.Stages

/-- The reference's second result: the last two rows of the padded gate rows. -/
theorem last_rows (u : FVec Ideal ReferenceIdeal.S8x2048x5632 .f32) (b : Fin 8) (q : Fin 2) (j : Fin 2816) :
    extractStridedSlice ReferenceIdeal.S8x2x2816 ![0, 2048, 0] (padded u)
        ReferenceIdeal.Gen.slices_S8x2050x2816_S8x2x2816_0_2048_0 (ix3 b q j)
      = u (ix3 b ⟨2046 + q.val, by omega⟩ ⟨j.val, by omega⟩) := by
  pointwise
  rw [padded_at, dif_neg (by simp only; omega)]
  exact congrArg (fun k => u (ix3 b k ⟨j.val, by omega⟩)) (Fin.ext (by simp only; omega))

variable (m : (ℓ : Loc KernelIdeal.nD KernelIdeal.τ KernelIdeal.sig) → Buf (Elt Ideal) ℓ) (c : Dev KernelIdeal.nD)

/-- The reference's residual rows from the kernel's arguments. -/
abbrev rY := resid (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) (m ((c.tc : Thread KernelIdeal.nD KernelIdeal.τ).loc KernelIdeal.main_arg7))
/-- The reference's up projection from the kernel's arguments. -/
abbrev rU := upped (normed (rY m c) (m ((c.tc : Thread KernelIdeal.nD KernelIdeal.τ).loc KernelIdeal.main_arg8))) (m ((c.tc : Thread KernelIdeal.nD KernelIdeal.τ).loc KernelIdeal.main_arg9))

/-- The reference's hidden rows are the kernel's. -/
theorem hidden_eq (b : Fin 8) (s : Fin 2048) :
    (fun j => activated (hidden (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3))) (ix3 b s j)) = KernelIdeal.Points.Z m c b s :=
  funext fun j => (activated_at b s _ j).trans (congrArg Layer.gelu (hidden_at b s _ _ _ _ j))

/-- The reference's normalised right halves are the kernel's. -/
theorem values_eq (b : Fin 8) (s : Fin 2048) (d : Fin 1024) :
    values (activated (hidden (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)))) (m ((c.tc : Thread KernelIdeal.nD KernelIdeal.τ).loc KernelIdeal.main_arg4)) (ix3 b s d) = KernelIdeal.Points.Vn m c b s d :=
  (values_at b s d _ _).trans (congrArg (fun z => Layer.rms (Layer.right z) (fun d => (m ((c.tc : Thread KernelIdeal.nD KernelIdeal.τ).loc KernelIdeal.main_arg4)) (ix2 0 d)) d) (hidden_eq m c b s))

/-- The reference's chunk-local sums are the kernel's. -/
theorem chunk_eq (b : Fin 8) (s : Fin 2048) (k : Fin 1024) :
    chunked (values (activated (hidden (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)))) (m ((c.tc : Thread KernelIdeal.nD KernelIdeal.τ).loc KernelIdeal.main_arg4))) (m ((c.tc : Thread KernelIdeal.nD KernelIdeal.τ).loc KernelIdeal.main_arg5)) (m ((c.tc : Thread KernelIdeal.nD KernelIdeal.τ).loc KernelIdeal.main_arg6)) (ix3 b s k) = KernelIdeal.Points.Ch m c b s k :=
  (chunked_at b s k _ _ _).trans (congrArg (fun v => Layer.chunk _ _ v s k) (funext fun s => funext fun d => values_eq m c b s d))

/-- The reference's residual rows are the kernel's. -/
theorem sum_eq (b : Fin 8) (s : Fin 2048) (d : Fin 1024) : rY m c (ix3 b s d) = KernelIdeal.Points.Y m c b s d := by
  refine (mixing_at b s d _ _ _ _).trans (Eq.trans ?_ (KernelIdeal.Points.Y_eq m c b s d).symm)
  refine congrArg (fun e : EReal => _ + e) (Finset.sum_congr rfl fun k _ => ?_)
  exact congrArg₂ (fun p q : EReal => p * q * _) (congrArg (fun z => Layer.left z k) (hidden_eq m c b s)) (chunk_eq m c b s k)

/-- The reference's normalised rows are the kernel's. -/
theorem rows_eq (b : Fin 8) (s : Fin 2048) (d : Fin 1024) :
    normed (rY m c) (m ((c.tc : Thread KernelIdeal.nD KernelIdeal.τ).loc KernelIdeal.main_arg8)) (ix3 b s d) = KernelIdeal.Points.Hn m c b s d := by
  rw [normed_at]
  exact congrArg (fun y => Layer.rms y _ d) (funext fun d => sum_eq m c b s d)

/-- The gate half of the reference's up projection. -/
theorem gate_eq (b : Fin 8) (s : Fin 2048) (j : Fin 2816) :
    rU m c (ix3 b s ⟨j.val, by omega⟩) = KernelIdeal.Points.G m c b s j := by
  unfold rU
  rw [upped_at]
  exact Finset.sum_congr rfl fun k _ => congrArg (fun e : EReal => e * _) (rows_eq m c b s k)

/-- The value half of the reference's up projection. -/
theorem val_eq (b : Fin 8) (s : Fin 2048) (j : Fin 2816) :
    rU m c (ix3 b s ⟨2816 + j.val, by omega⟩)
      = Layer.val (KernelIdeal.Points.Hn m c b s) (KernelIdeal.Points.Wu m c) j := by
  unfold rU
  rw [upped_at]
  exact Finset.sum_congr rfl fun k _ => congrArg (fun e : EReal => e * _) (rows_eq m c b s k)

/-- The rows before the last normalisation are equal. -/
theorem before_eq (b : Fin 8) (s : Fin 2048) (d : Fin 1024) :
    downed (rY m c) (convolved (padded (rU m c)) (m ((c.tc : Thread KernelIdeal.nD KernelIdeal.τ).loc KernelIdeal.main_arg10)) (m ((c.tc : Thread KernelIdeal.nD KernelIdeal.τ).loc KernelIdeal.main_arg11))) (rU m c) (m ((c.tc : Thread KernelIdeal.nD KernelIdeal.τ).loc KernelIdeal.main_arg12)) (ix3 b s d) = KernelIdeal.Points.Fo m c b s d := by
  rw [downed_at, sum_eq]
  show _ = KernelIdeal.Points.Y m c b s d + _
  refine congrArg (fun e : EReal => KernelIdeal.Points.Y m c b s d + e) ?_
  refine Finset.sum_congr rfl fun j _ => ?_
  rw [convolved_at, val_eq, (funext fun s => funext fun j => gate_eq m c b s j :
    (fun (s : Fin 2048) (j : Fin 2816) => rU m c (ix3 b s ⟨j.val, by omega⟩)) = KernelIdeal.Points.G m c b)]
  rfl

/-- The two first results are equal. -/
theorem first_eq :
    last (downed (rY m c) (convolved (padded (rU m c)) (m ((c.tc : Thread KernelIdeal.nD KernelIdeal.τ).loc KernelIdeal.main_arg10)) (m ((c.tc : Thread KernelIdeal.nD KernelIdeal.τ).loc KernelIdeal.main_arg11))) (rU m c) (m ((c.tc : Thread KernelIdeal.nD KernelIdeal.τ).loc KernelIdeal.main_arg12))) (m ((c.tc : Thread KernelIdeal.nD KernelIdeal.τ).loc KernelIdeal.main_arg13)) = KernelIdeal.Points.outArr m c := by
  funext i
  idx_vars i
  rw [last_at]
  exact congrArg (fun y => Layer.rms y _ i2) (funext fun d => before_eq m c i0 i1 d)

/-- The two second results are equal. -/
theorem second_eq :
    extractStridedSlice ReferenceIdeal.S8x2x2816 ![0, 2048, 0] (padded (rU m c))
        ReferenceIdeal.Gen.slices_S8x2050x2816_S8x2x2816_0_2048_0
      = KernelIdeal.Points.bufArr m c := by
  funext i
  idx_vars i
  exact (last_rows _ i0 i1 i2).trans (gate_eq m c i0 _ i2)

end Cert.GatedEquation
-- ==== Proof.GatedClaims.lean ====
module

public import proofs.«01_k».proof.Defs
public import proofs.«01_k».proof.Proof.Gen.Kernel.Frame
public import proofs.«01_k».proof.Proof.Gen.KernelIdeal.Frame
public import proofs.«01_k».proof.Proof.GatedEquation
public import Idealize.ShloMosaic.Lib.Quiescent

@[expose] public section

noncomputable section

open Idealize.ShloMosaic Idealize.ShloMosaic.TcCoe Idealize.SL.Sem

namespace Cert.GatedClaims

/-- The kernel of the gated layer ends quiescent with its arguments unchanged. -/
theorem frame : Cert.quiescent_Kernel (hKernel := Cert.Kernel.Gen.facts) := fun m ρ _ => Cert.Kernel.Gen.frame m ρ
/-- So does its ideal program. -/
theorem frame_ideal : Cert.quiescent_KernelIdeal (hKernelIdeal := Cert.KernelIdeal.Gen.facts) :=
  fun m ρ _ => Cert.KernelIdeal.Gen.frame m ρ
/-- So does the reference, which has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel's two results are the reference's, on arguments that agree. -/
theorem equal : Cert.algebraic_KernelIdeal_ReferenceIdeal (hKernelIdeal := Cert.KernelIdeal.Gen.facts)
    (hReferenceIdeal := Cert.ReferenceIdeal.Gen.facts) := by
  intro m ρ m' ρ' _ hag
  refine ⟨fun c => Cert.KernelIdeal.Points.outArr m c, fun c => Cert.KernelIdeal.Points.bufArr m c, ?_, ?_⟩
  · exact (θ_run Cert.KernelIdeal.defs _ _).mono
      (fun _ h c => ⟨(h c).1.trans (Cert.KernelIdeal.Points.arr15 m c),
        (h c).2.1.trans (Cert.KernelIdeal.Points.arr16 m c), (h c).2.2⟩)
      (Cert.KernelIdeal.Value.run_blocks (F := Ideal) m ρ)
  · refine (θ_run Cert.ReferenceIdeal.defs _ _).mono
      (fun _ h c => ⟨(h c).1.trans ?_, (h c).2.1.trans ?_, (h c).2.2⟩)
      (Cert.ReferenceIdeal.Value.run (F := Ideal) m' ρ')
    · refine (Cert.ReferenceIdeal.Stages.first_res m' c).trans ?_
      obtain ⟨h0, h1, h2, h3, h4, h5, h6, h7, h8, h9, h10, h11, h12, h13⟩ := hag c
      rw [h0, h1, h2, h3, h4, h5, h6, h7, h8, h9, h10, h11, h12, h13]
      exact Cert.GatedEquation.first_eq m c
    · refine (Cert.ReferenceIdeal.Stages.second_res m' c).trans ?_
      obtain ⟨h0, h1, h2, h3, h4, h5, h6, h7, h8, h9, h10, h11, h12, h13⟩ := hag c
      rw [h0, h1, h2, h3, h4, h5, h6, h7, h8, h9]
      exact Cert.GatedEquation.second_eq m c

end Cert.GatedClaims
-- ==== Proof.PostTile.lean ====
module

public import proofs.«01_k».proof.Proof.Gen.Kernel2Ideal.Skeleton
public import proofs.«01_k».proof.Proof.Layer
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.Kernel2Ideal.Tile
open Cert.Kernel2Ideal Cert.Kernel2Ideal.Gen

variable (y : FVec Ideal S1x512x1024 .f32) (a r : FVec Ideal S1x512x512 .bf16) (wa wb : FVec Ideal S512x1024 .bf16)
  (g : FVec Ideal S1x1024 .f32) (h : FVec Ideal S512x1024 .bf16) (w : FVec Ideal S1024x1408 .bf16)
  (i : Fin 512) (d : Fin 1024) (x : Fin 1408)

/-- The residual sum of one tile: the input plus the two projected branches. -/
theorem resid_at : (k0_pay2 (F := Ideal) y a wa r wb) (ix2 i d)
    = y (ix3 0 i d) + ∑ k, a (ix3 0 i k) * wa (ix2 k d) + ∑ k, r (ix3 0 i k) * wb (ix2 k d) := by
  pointwise [k0_pay2]

/-- The normalised rows of one tile. -/
theorem norm_at : (k0_pay6 (F := Ideal) y a wa r wb g) (ix2 i d)
    = Layer.rms (fun d => (k0_pay2 (F := Ideal) y a wa r wb) (ix2 i d)) (fun d => g (ix2 0 d)) d := by
  pointwise [k0_pay6]
  rfl

/-- The gate projection of the first half of the columns. -/
theorem gate0_at : (k0_pay8 (F := Ideal) h w) (ix2 i x) = ∑ k, h (ix2 i k) * w (ix2 k x) := by
  pointwise [k0_pay8]
/-- The value projection of the first half of the columns. -/
theorem val0_at : (k0_pay9 (F := Ideal) h w) (ix2 i x) = ∑ k, h (ix2 i k) * w (ix2 k x) := by
  pointwise [k0_pay9]
/-- The gate projection of the second half of the columns. -/
theorem gate1_at : (k0_pay17 (F := Ideal) h w) (ix2 i x) = ∑ k, h (ix2 i k) * w (ix2 k x) := by
  pointwise [k0_pay17]
/-- The value projection of the second half of the columns. -/
theorem val1_at : (k0_pay18 (F := Ideal) h w) (ix2 i x) = ∑ k, h (ix2 i k) * w (ix2 k x) := by
  pointwise [k0_pay18]

/-- The copy of the gate rows put in the shift buffer, first half. -/
theorem copy0_at : (k0_pay11 (F := Ideal) h w) (ix2 i x) = (k0_pay8 (F := Ideal) h w) (ix2 i x) := by
  pointwise [k0_pay11]
/-- The last eight gate rows, carried to the next tile, first half. -/
theorem carry0_at (q : Fin 8) : (k0_pay12 (F := Ideal) h w) (ix3 0 q x)
    = (k0_pay8 (F := Ideal) h w) (ix2 ⟨504 + q.val, by omega⟩ x) := by
  pointwise [k0_pay12]
/-- The last two gate rows, first half. -/
theorem last0_at (q : Fin 2) : (k0_pay13 (F := Ideal) h w) (ix3 0 q x)
    = (k0_pay8 (F := Ideal) h w) (ix2 ⟨510 + q.val, by omega⟩ x) := by
  pointwise [k0_pay13]
/-- The copy of the gate rows put in the shift buffer, second half. -/
theorem copy1_at (v : FVec Ideal S512x1408 .f32) : (k0_pay21 (F := Ideal) v) (ix2 i x) = v (ix2 i x) := by
  pointwise [k0_pay21]
/-- The last eight gate rows, carried to the next tile, second half. -/
theorem carry1_at (v : FVec Ideal S512x1408 .f32) (q : Fin 8) : (k0_pay22 (F := Ideal) v) (ix3 0 q x)
    = v (ix2 ⟨504 + q.val, by omega⟩ x) := by
  pointwise [k0_pay22]
/-- The last two gate rows, second half. -/
theorem last1_at (v : FVec Ideal S512x1408 .f32) (q : Fin 2) : (k0_pay23 (F := Ideal) v) (ix3 0 q x)
    = v (ix2 ⟨510 + q.val, by omega⟩ x) := by
  pointwise [k0_pay23]
/-- The carried rows as put in the shift buffer, first half. -/
theorem old0_at (v : FVec Ideal S1x8x1408 .f32) (q : Fin 8) : (k0_pay10 (F := Ideal) v) (ix2 q x) = v (ix3 0 q x) := by
  pointwise [k0_pay10]
/-- The carried rows as put in the shift buffer, second half. -/
theorem old1_at (v : FVec Ideal S1x8x1408 .f32) (q : Fin 8) :
    (k0_pay20 (F := Ideal) (k0_pay19 (F := Ideal) v)) (ix2 q x) = v (ix3 0 q x) := by
  pointwise [k0_pay20, k0_pay19]
/-- The history rows a sequence starts with, first half. -/
theorem start0_at (v : FVec Ideal S1x2x1408 .f32) (q : Fin 2) : (k0_pay4 (F := Ideal) v) (ix3 0 q x) = v (ix3 0 q x) := by
  pointwise [k0_pay4]
/-- The history rows a sequence starts with, second half. -/
theorem start1_at (v : FVec Ideal S1x2x1408 .f32) (q : Fin 2) : (k0_pay5 (F := Ideal) v) (ix3 0 q x) = v (ix3 0 q x) := by
  pointwise [k0_pay5]

/-- The convolution of one tile, second half of the columns. -/
theorem conv1_at (gt b1 b2 : FVec Ideal S512x1408 .f32) (cb c0 c1 c2 : FVec Ideal S1x1408 .f32) :
    (k0_pay24 (F := Ideal) gt b1 b2 cb c0 c1 c2) (ix2 i x)
      = cb (ix2 0 x) + c0 (ix2 0 x) * b2 (ix2 i x) + c1 (ix2 0 x) * b1 (ix2 i x) + c2 (ix2 0 x) * gt (ix2 i x) := by
  pointwise [k0_pay24]
/-- The square of that convolution. -/
theorem sq1_at (gt b1 b2 : FVec Ideal S512x1408 .f32) (cb c0 c1 c2 : FVec Ideal S1x1408 .f32) :
    (k0_pay25 (F := Ideal) gt b1 b2 cb c0 c1 c2) (ix2 i x)
      = (k0_pay24 (F := Ideal) gt b1 b2 cb c0 c1 c2) (ix2 i x) * (k0_pay24 (F := Ideal) gt b1 b2 cb c0 c1 c2) (ix2 i x) := by
  pointwise [k0_pay25]

/-- The first half's part of the feed-forward output, from any convolution `gc` it is given as its four terms. -/
theorem half0_at (gt u b1 b2 : FVec Ideal S512x1408 .f32) (cb c0 c1 c2 : FVec Ideal S1x1408 .f32)
    (wd : FVec Ideal S1408x1024 .bf16) :
    (k0_pay16 (F := Ideal) (k0_pay7 (F := Ideal)) gt u b1 (k0_pay14 (F := Ideal) cb) (k0_pay15 (F := Ideal) b2 c0) c1 c2 wd) (ix2 i d)
      = ∑ x, Layer.gelu (cb (ix2 0 x) + c0 (ix2 0 x) * b2 (ix2 i x) + c1 (ix2 0 x) * b1 (ix2 i x) + c2 (ix2 0 x) * gt (ix2 i x))
          * u (ix2 i x) * wd (ix2 x d) := by
  pointwise [k0_pay16, k0_pay7, k0_pay14, k0_pay15]
  rfl

/-- The tile's output: the residual plus the two halves of the feed-forward output. -/
theorem out_at (y1 f0 : FVec Ideal S512x1024 .f32) (u gc sq : FVec Ideal S512x1408 .f32) (wd : FVec Ideal S1408x1024 .bf16)
    (hsq : ∀ i x, sq (ix2 i x) = gc (ix2 i x) * gc (ix2 i x)) :
    (k0_pay1 (F := Ideal) y1 f0 u gc sq wd) (ix3 0 i d)
      = y1 (ix2 i d) + (f0 (ix2 i d) + ∑ x, Layer.gelu (gc (ix2 i x)) * u (ix2 i x) * wd (ix2 x d)) := by
  pointwise [k0_pay1]
  simp only [hsq]
  rfl

end Cert.Kernel2Ideal.Tile
-- ==== Proof.PostBlocks.lean ====
module

public import proofs.«01_k».proof.Proof.Gen.Kernel2Ideal.Value
public import proofs.«01_k».proof.Proof.Arrays
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.Kernel2Ideal.Blocks
open Cert.Kernel2Ideal Cert.Kernel2Ideal.Gen
/-- The gather of whole heads: head `a` of the result is the operand's head at the start index of row `a`. -/
theorem heads_at (x : FVec Ideal S8x64x1024 .f32) (ix : IVec S8x1 32) (a : Fin 8) (q : Fin 64) (d : Fin 1024) (e : Fin 8)
    (he : min (ix (ix2 a 0)).toInt.toNat 7 = e.val) :
    Host.gather gather_S8x64x1024_S8x1_S8x64x1024_12_0_n_n_0_1_1641024 x ix (ix3 a q d) = x (ix3 e q d) := by
  unfold Host.gather
  congr 1
  funext k
  refine Fin.ext ?_
  show gather_S8x64x1024_S8x1_S8x64x1024_12_0_n_n_0_1_1641024.start (ix3 a q d) ix k
      + gather_S8x64x1024_S8x1_S8x64x1024_12_0_n_n_0_1_1641024.batchCoord (ix3 a q d) k
      + gather_S8x64x1024_S8x1_S8x64x1024_12_0_n_n_0_1_1641024.offCoord (ix3 a q d) k = _
  rw [GatherDims.batchCoord_eq_zero _ _ _ (List.not_mem_nil)]
  have hk : k = 0 ∨ k = 1 ∨ k = 2 := by
    match k with
    | ⟨0, _⟩ => exact Or.inl rfl
    | ⟨1, _⟩ => exact Or.inr (Or.inl rfl)
    | ⟨2, _⟩ => exact Or.inr (Or.inr rfl)
  rcases hk with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ gather_S8x64x1024_S8x1_S8x64x1024_12_0_n_n_0_1_1641024.startIndexMap from List.mem_singleton.mpr rfl)]
    rw [show gather_S8x64x1024_S8x1_S8x64x1024_12_0_n_n_0_1_1641024.siIdx (ix3 a q d)
        ⟨List.idxOf (0 : Fin 3) gather_S8x64x1024_S8x1_S8x64x1024_12_0_n_n_0_1_1641024.startIndexMap,
          List.idxOf_lt_length_iff.2 (List.mem_singleton.mpr rfl)⟩ = ix2 a 0 from by
      funext b; refine Fin.ext ?_
      match b with
      | ⟨0, _⟩ => rfl
      | ⟨1, _⟩ => rfl]
    exact he
  · unfold GatherDims.start
    rw [dif_neg (show (1 : Fin 3) ∉ gather_S8x64x1024_S8x1_S8x64x1024_12_0_n_n_0_1_1641024.startIndexMap from
      fun h => absurd (List.mem_singleton.mp h) (by decide))]
    show 0 + 0 + q.val = q.val
    omega
  · unfold GatherDims.start
    rw [dif_neg (show (2 : Fin 3) ∉ gather_S8x64x1024_S8x1_S8x64x1024_12_0_n_n_0_1_1641024.startIndexMap from
      fun h => absurd (List.mem_singleton.mp h) (by decide))]
    show 0 + 0 + d.val = d.val
    omega

/-- The start indices, as the host computes them: the kernel's order of heads. -/
theorem headIx_at (a : Fin 8) :
    min ((broadcastInDim S8x1 ![0] bcast_S8_S8x1_0
        (select (constantI S8 1 0#1)
          (addi (fun i => lit0 (S8.rowMajor i)) (broadcastInDim S8 ![] bcast_S_S8 (constantI S_ 32 8#32))) fun i =>
          lit0 (S8.rowMajor i))) (ix2 a 0)).toInt.toNat 7 = a.val / 2 + 4 * (a.val % 2) := by
  pointwise
  fin_cases a <;> rfl

variable (m : (ℓ : Loc nD τ sig) → Buf (Elt Ideal) ℓ)

/-- The block each window shows at a grid point. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, 0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

variable (c : Dev nD) (t : Fin cfg0.N)

/-- Row `i` of the tile of `x_prompt` at a grid point. -/
theorem x_at (b : Fin 8) (s : Fin 2048) (i : Fin 512) (d : Fin 1024) (hb : b.val = t.val / 4)
    (hs : s.val = 512 * (t.val % 4) + i.val) :
    iblk m c 0 t (ix3 0 i d) = m ((c : Thread nD τ).loc main_arg0) (ix3 b s d) := by
  blk_point [iblk, V, idx t]

/-- Row `i` of the tile of `attn_p`. -/
theorem attn_at (b : Fin 8) (s : Fin 2048) (i : Fin 512) (d : Fin 512) (hb : b.val = t.val / 4)
    (hs : s.val = 512 * (t.val % 4) + i.val) :
    iblk m c 1 t (ix3 0 i d) = m ((c : Thread nD τ).loc main_arg1) (ix3 b s d) := by
  blk_point [iblk, V, idx t]

/-- Row `i` of the tile of `rg_p`. -/
theorem rg_at (b : Fin 8) (s : Fin 2048) (i : Fin 512) (d : Fin 512) (hb : b.val = t.val / 4)
    (hs : s.val = 512 * (t.val % 4) + i.val) :
    iblk m c 2 t (ix3 0 i d) = m ((c : Thread nD τ).loc main_arg2) (ix3 b s d) := by
  blk_point [iblk, V, idx t]

/-- The history rows a sequence starts with are zero. -/
theorem hist_at (q : Fin 2) (j : Fin 2816) : iblk m c 3 t (ix3 0 q j) = (0 : EReal) := by
  have e : ∀ i, V m c main_v26 i = (0 : EReal) := fun i => by
    entry_read
    pointwise
  show V m c main_v26 _ = (0 : EReal)
  exact e _

/-- The output projection's rows for the attention columns, in the kernel's order of heads. -/
theorem wa_at (k : Fin 512) (d : Fin 1024) :
    iblk m c 4 t (ix2 k d) = m ((c : Thread nD τ).loc main_arg3) (ix3 0 (Layer.headCol k) d) := by
  have e : iblk m c 4 t (ix2 k d) = V m c main_v9 (ix2 k d) := by blk_ext [iblk, idx t]
  rw [e]
  entry_read
  pointwise [Layer.headCol]
  rw [heads_at _ _ _ _ _ ⟨k.val / 64 / 2 + 4 * (k.val / 64 % 2), by omega⟩ (headIx_at _)]
  pointwise

/-- The output projection's rows for the recurrent columns. -/
theorem wb_at (k : Fin 512) (d : Fin 1024) :
    iblk m c 5 t (ix2 k d) = m ((c : Thread nD τ).loc main_arg3) (ix3 0 ⟨512 + k.val, by omega⟩ d) := by
  have e : iblk m c 5 t (ix2 k d) = V m c main_v11 (ix2 k d) := by blk_ext [iblk, idx t]
  rw [e]
  entry_read
  pointwise

/-- The gain of the normalisation. -/
theorem g_at (d : Fin 1024) :
    iblk m c 6 t (ix2 0 d) = Layer.gain 0 (m ((c : Thread nD τ).loc main_arg4)) d := by
  have e : iblk m c 6 t (ix2 0 d) = V m c main_v14 (ix2 0 d) := by blk_ext [iblk, idx t]
  rw [e]
  entry_read
  pointwise [Layer.gain]

/-- The up projection. -/
theorem wup_at (k : Fin 1024) (j : Fin 5632) :
    iblk m c 7 t (ix2 k j) = Layer.wUp 0 (m ((c : Thread nD τ).loc main_arg5)) k j := by
  have e : iblk m c 7 t (ix2 k j) = V m c main_v17 (ix2 k j) := by blk_ext [iblk, idx t]
  rw [e]
  entry_read
  pointwise [Layer.wUp]

/-- The convolution weights. -/
theorem cw_at (k : Fin 3) (j : Fin 2816) :
    iblk m c 8 t (ix2 k j) = Layer.wConv 0 (m ((c : Thread nD τ).loc main_arg6)) k j := by
  have e : iblk m c 8 t (ix2 k j) = V m c main_v19 (ix2 k j) := by blk_ext [iblk, idx t]
  rw [e]
  entry_read
  pointwise [Layer.wConv]

/-- The convolution bias. -/
theorem cb_at (j : Fin 2816) :
    iblk m c 9 t (ix2 0 j) = Layer.bConv 0 (m ((c : Thread nD τ).loc main_arg7)) j := by
  have e : iblk m c 9 t (ix2 0 j) = V m c main_v22 (ix2 0 j) := by blk_ext [iblk, idx t]
  rw [e]
  entry_read
  pointwise [Layer.bConv]

/-- The down projection. -/
theorem wdn_at (j : Fin 2816) (d : Fin 1024) :
    iblk m c 10 t (ix2 j d) = Layer.wDown 0 (m ((c : Thread nD τ).loc main_arg8)) j d := by
  have e : iblk m c 10 t (ix2 j d) = V m c main_v25 (ix2 j d) := by blk_ext [iblk, idx t]
  rw [e]
  entry_read
  pointwise [Layer.wDown]

end Cert.Kernel2Ideal.Blocks
-- ==== Proof.PostRows.lean ====
module

public import proofs.«01_k».proof.Proof.Gen.Kernel2Ideal.Value
public import proofs.«01_k».proof.Proof.PostTile
public import proofs.«01_k».proof.Proof.PostBlocks
public import proofs.«01_k».proof.Proof.Pieces
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.Kernel2Ideal.Points
open Cert.Kernel2Ideal Cert.Kernel2Ideal.Gen Cert.Kernel2Ideal.Tile Cert.Kernel2Ideal.Blocks
variable (m : (ℓ : Loc nD τ sig) → Buf (Elt Ideal) ℓ) (c : Dev nD)

/-- The residual sum of the whole arrays, from the arguments. -/
def Y (b : Fin 8) (s : Fin 2048) (d : Fin 1024) : EReal :=
  Layer.mixed (m ((c : Thread nD τ).loc main_arg0)) (m ((c : Thread nD τ).loc main_arg1))
    (m ((c : Thread nD τ).loc main_arg2)) (m ((c : Thread nD τ).loc main_arg3)) b s d
/-- Its normalised rows. -/
def Hn (b : Fin 8) (s : Fin 2048) : Fin 1024 → EReal := Layer.rms (Y m c b s) (Layer.gain 0 (m ((c : Thread nD τ).loc main_arg4)))
/-- The up projection, from the arguments. -/
def Wu : Fin 1024 → Fin 5632 → EReal := Layer.wUp 0 (m ((c : Thread nD τ).loc main_arg5))
/-- The gate rows. -/
def G (b : Fin 8) (s : Fin 2048) : Fin 2816 → EReal := Layer.gate (Hn m c b s) (Wu m c)
/-- The result rows: the residual sum plus the feed-forward layer. -/
def Out (b : Fin 8) (s : Fin 2048) (d : Fin 1024) : EReal :=
  Y m c b s d + Layer.ffn (Hn m c b) (Wu m c) (Layer.wConv 0 (m ((c : Thread nD τ).loc main_arg6)))
    (Layer.bConv 0 (m ((c : Thread nD τ).loc main_arg7))) (Layer.wDown 0 (m ((c : Thread nD τ).loc main_arg8))) s d

variable (t : Fin cfg0.N)

/-- The tile's residual rows. -/
abbrev yT : FVec Ideal S512x1024 .f32 :=
  k0_pay2 (F := Ideal) (iblk m c 0 t) (iblk m c 1 t) (iblk m c 4 t) (iblk m c 2 t) (iblk m c 5 t)
/-- The tile's normalised rows. -/
abbrev hT : FVec Ideal S512x1024 .bf16 :=
  k0_pay6 (F := Ideal) (iblk m c 0 t) (iblk m c 1 t) (iblk m c 4 t) (iblk m c 2 t) (iblk m c 5 t) (iblk m c 6 t)
/-- The tile's gate rows, first half of the columns. -/
abbrev g0 : FVec Ideal S512x1408 .f32 :=
  k0_pay8 (F := Ideal) (hT m c t) (View.ld (iblk m c 7 t) (Rect.unit ![0, 0] ![1024, 1408] inb_S1024x5632_S1024x1408_0_0))
/-- The tile's gate rows, second half of the columns. -/
abbrev g1 : FVec Ideal S512x1408 .f32 :=
  k0_pay17 (F := Ideal) (hT m c t) (View.ld (iblk m c 7 t) (Rect.unit ![0, 1408] ![1024, 1408] inb_S1024x5632_S1024x1408_0_1408))

variable (b : Fin 8) (s : Fin 2048) (i : Fin 512) (hb : b.val = t.val / 4) (hs : s.val = 512 * (t.val % 4) + i.val)
include hb hs

/-- The tile's residual rows are rows of the whole residual sum. -/
theorem yT_at (d : Fin 1024) : yT m c t (ix2 i d) = Y m c b s d := by
  unfold Y Layer.mixed yT
  rw [resid_at, x_at m c t b s i d hb hs]
  refine congrArg₂ (fun p q : EReal => p + q) (congrArg (fun p : EReal => _ + p) (Finset.sum_congr rfl fun k _ => ?_)) (Finset.sum_congr rfl fun k _ => ?_)
  · rw [attn_at m c t b s i k hb hs, wa_at]
  · rw [rg_at m c t b s i k hb hs, wb_at]

/-- The tile's normalised rows are rows of the whole. -/
theorem hT_at (d : Fin 1024) : hT m c t (ix2 i d) = Hn m c b s d := by
  unfold Hn hT
  rw [norm_at]
  refine congrArg₂ (fun p q => Layer.rms p q d) (funext fun d => yT_at m c t b s i hb hs d) (funext fun d => g_at m c t d)

/-- The first half's gate rows are rows of the whole. -/
theorem g0_at (x : Fin 1408) : g0 m c t (ix2 i x) = G m c b s (Layer.lo x) := by
  unfold G Layer.gate Wu g0
  rw [gate0_at]
  refine Finset.sum_congr rfl fun k _ => ?_
  rw [hT_at m c t b s i hb hs]
  pointwise
  rw [wup_at]
  rfl

/-- The second half's gate rows are rows of the whole. -/
theorem g1_at (x : Fin 1408) : g1 m c t (ix2 i x) = G m c b s (Layer.hi x) := by
  unfold G Layer.gate Wu g1
  rw [gate1_at]
  refine Finset.sum_congr rfl fun k _ => ?_
  rw [hT_at m c t b s i hb hs]
  pointwise
  rw [wup_at]
  rfl

/-- The first half's value rows are rows of the whole. -/
theorem u0_at (x : Fin 1408) :
    k0_pay9 (F := Ideal) (hT m c t) (View.ld (iblk m c 7 t) (Rect.unit ![0, 2816] ![1024, 1408] inb_S1024x5632_S1024x1408_0_2816))
      (ix2 i x) = Layer.val (Hn m c b s) (Wu m c) (Layer.lo x) := by
  unfold Layer.val Wu
  rw [val0_at]
  refine Finset.sum_congr rfl fun k _ => ?_
  rw [hT_at m c t b s i hb hs]
  pointwise
  rw [wup_at]
  rfl

/-- The second half's value rows are rows of the whole. -/
theorem u1_at (x : Fin 1408) :
    k0_pay18 (F := Ideal) (hT m c t) (View.ld (iblk m c 7 t) (Rect.unit ![0, 4224] ![1024, 1408] inb_S1024x5632_S1024x1408_0_4224))
      (ix2 i x) = Layer.val (Hn m c b s) (Wu m c) (Layer.hi x) := by
  unfold Layer.val Wu
  rw [val1_at]
  refine Finset.sum_congr rfl fun k _ => ?_
  rw [hT_at m c t b s i hb hs]
  pointwise
  rw [wup_at]
  refine congrArg (_ * ·) (congrArg (Layer.wUp 0 _ k) (Fin.ext ?_))
  show 4224 + x.val = 2816 + (1408 + x.val)
  omega

/-- The tile's output rows, when the shifted gate rows `p1`, `p2` (first half) and `q1`, `q2` (second half) are the delayed
    rows of the whole. -/
theorem out_tile (p1 p2 q1 q2 : FVec Ideal S512x1408 .f32) (d : Fin 1024)
    (h1 : ∀ x, p1 (ix2 i x) = Layer.back 1 (G m c b) s (Layer.lo x))
    (h2 : ∀ x, p2 (ix2 i x) = Layer.back 2 (G m c b) s (Layer.lo x))
    (k1 : ∀ x, q1 (ix2 i x) = Layer.back 1 (G m c b) s (Layer.hi x))
    (k2 : ∀ x, q2 (ix2 i x) = Layer.back 2 (G m c b) s (Layer.hi x)) :
    k0_pay1 (F := Ideal) (yT m c t)
      (k0_pay16 (F := Ideal) (k0_pay7 (F := Ideal)) (g0 m c t)
        (k0_pay9 (F := Ideal) (hT m c t) (View.ld (iblk m c 7 t) (Rect.unit ![0, 2816] ![1024, 1408] inb_S1024x5632_S1024x1408_0_2816)))
        p1
        (k0_pay14 (F := Ideal) (View.ld (iblk m c 9 t) (Rect.unit ![0, 0] ![1, 1408] inb_S1x2816_S1x1408_0_0)))
        (k0_pay15 (F := Ideal) p2 (View.ld (iblk m c 8 t) (Rect.unit ![0, 0] ![1, 1408] inb_S3x2816_S1x1408_0_0)))
        (View.ld (iblk m c 8 t) (Rect.unit ![1, 0] ![1, 1408] inb_S3x2816_S1x1408_1_0))
        (View.ld (iblk m c 8 t) (Rect.unit ![2, 0] ![1, 1408] inb_S3x2816_S1x1408_2_0))
        (View.ld (iblk m c 10 t) (Rect.unit ![0, 0] ![1408, 1024] inb_S2816x1024_S1408x1024_0_0)))
      (k0_pay18 (F := Ideal) (hT m c t) (View.ld (iblk m c 7 t) (Rect.unit ![0, 4224] ![1024, 1408] inb_S1024x5632_S1024x1408_0_4224)))
      (k0_pay24 (F := Ideal) (g1 m c t) q1 q2
        (View.ld (iblk m c 9 t) (Rect.unit ![0, 1408] ![1, 1408] inb_S1x2816_S1x1408_0_1408))
        (View.ld (iblk m c 8 t) (Rect.unit ![0, 1408] ![1, 1408] inb_S3x2816_S1x1408_0_1408))
        (View.ld (iblk m c 8 t) (Rect.unit ![1, 1408] ![1, 1408] inb_S3x2816_S1x1408_1_1408))
        (View.ld (iblk m c 8 t) (Rect.unit ![2, 1408] ![1, 1408] inb_S3x2816_S1x1408_2_1408)))
      (k0_pay25 (F := Ideal) (g1 m c t) q1 q2
        (View.ld (iblk m c 9 t) (Rect.unit ![0, 1408] ![1, 1408] inb_S1x2816_S1x1408_0_1408))
        (View.ld (iblk m c 8 t) (Rect.unit ![0, 1408] ![1, 1408] inb_S3x2816_S1x1408_0_1408))
        (View.ld (iblk m c 8 t) (Rect.unit ![1, 1408] ![1, 1408] inb_S3x2816_S1x1408_1_1408))
        (View.ld (iblk m c 8 t) (Rect.unit ![2, 1408] ![1, 1408] inb_S3x2816_S1x1408_2_1408)))
      (View.ld (iblk m c 10 t) (Rect.unit ![1408, 0] ![1408, 1024] inb_S2816x1024_S1408x1024_1408_0)) (ix3 0 i d)
      = Out m c b s d := by
  unfold Out
  rw [out_at (hsq := fun i x => sq1_at i x _ _ _ _ _ _ _), half0_at, Layer.ffn_halves, yT_at m c t b s i hb hs]
  refine congrArg (_ + ·) (congrArg₂ (· + ·) (Finset.sum_congr rfl fun x _ => ?_) (Finset.sum_congr rfl fun x _ => ?_))
  · rw [h1, h2, g0_at m c t b s i hb hs, u0_at m c t b s i hb hs]
    pointwise
    simp only [cb_at, cw_at, wdn_at]
    rfl
  · rw [conv1_at, k1, k2, g1_at m c t b s i hb hs, u1_at m c t b s i hb hs]
    pointwise
    simp only [cb_at, cw_at, wdn_at]
    rfl

end Cert.Kernel2Ideal.Points
-- ==== Proof.PostCarry.lean ====
module

public import proofs.«01_k».proof.Proof.Gen.Kernel2Ideal.Value
public import proofs.«01_k».proof.Proof.PostRows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.Kernel2Ideal.Points
open Cert.Kernel2Ideal Cert.Kernel2Ideal.Gen Cert.Kernel2Ideal.Tile Cert.Kernel2Ideal.Blocks
variable (m : (ℓ : Loc nD τ sig) → Buf (Elt Ideal) ℓ) (c : Dev nD) (t : Fin cfg0.N)

/-- The gate rows carried out of a grid point, first half: the last eight of its tile. -/
theorem carry0 (b : Fin 8) (s : Fin 2048) (q : Fin 8) (x : Fin 1408) (hb : b.val = t.val / 4)
    (hs : s.val = 512 * (t.val % 4) + 504 + q.val) :
    (outsAt0 m c t.val t.isLt).2.2 (ix3 0 q x) = G m c b s (Layer.lo x) := by
  by_cases h : t.val % 4 = 0
  · rw [outsAt0_A m c t h]
    frame_out
    rw [Pieces.canon3, dif_neg (by simp), Pieces.canon3, dif_pos (by simp)]
    exact (carry0_at _ _ x q).trans (g0_at m c t b s ⟨504 + q.val, by omega⟩ hb (by simp only; omega) x)
  · rw [outsAt0_B m c t h]
    frame_out
    rw [Pieces.canon3, dif_neg (by simp), Pieces.canon3, dif_pos (by simp)]
    exact (carry0_at _ _ x q).trans (g0_at m c t b s ⟨504 + q.val, by omega⟩ hb (by simp only; omega) x)

/-- The gate rows carried out of a grid point, second half. -/
theorem carry1 (b : Fin 8) (s : Fin 2048) (q : Fin 8) (x : Fin 1408) (hb : b.val = t.val / 4)
    (hs : s.val = 512 * (t.val % 4) + 504 + q.val) :
    (outsAt0 m c t.val t.isLt).2.2 (ix3 1 q x) = G m c b s (Layer.hi x) := by
  by_cases h : t.val % 4 = 0
  · rw [outsAt0_A m c t h]
    frame_out
    rw [Pieces.canon3, dif_pos (by simp)]
    exact (carry1_at x _ q).trans (g1_at m c t b s ⟨504 + q.val, by omega⟩ hb (by simp only; omega) x)
  · rw [outsAt0_B m c t h]
    frame_out
    rw [Pieces.canon3, dif_pos (by simp)]
    exact (carry1_at x _ q).trans (g1_at m c t b s ⟨504 + q.val, by omega⟩ hb (by simp only; omega) x)

/-- The last two gate rows a grid point leaves in the second output. -/
theorem last (b : Fin 8) (s : Fin 2048) (q : Fin 2) (j : Fin 2816) (hb : b.val = t.val / 4)
    (hs : s.val = 512 * (t.val % 4) + 510 + q.val) :
    (outsAt0 m c t.val t.isLt).2.1 (ix3 0 q j) = G m c b s j := by
  have key : View.canon
      ([⟨Rect.unit (s := S1x2x2816) ![0, 0, 1408] ![1, 2, 1408] inb_S1x2x2816_S1x2x1408_0_0_1408, k0_pay23 (F := Ideal) (g1 m c t)⟩,
        ⟨Rect.unit (s := S1x2x2816) ![0, 0, 0] ![1, 2, 1408] inb_S1x2x2816_S1x2x1408_0_0_0, k0_pay13 (F := Ideal) (hT m c t)
          (View.ld (iblk m c 7 t) (Rect.unit ![0, 0] ![1024, 1408] inb_S1024x5632_S1024x1408_0_0))⟩] :
        List (View.Piece (Elt Ideal) S1x2x2816 .f32)) (ix3 0 q j)
      = G m c b s j := by
    rw [Pieces.canon3]
    split
    · rename_i h
      refine (last1_at ⟨j.val - 1408, by omega⟩ _ q).trans
        ((g1_at m c t b s ⟨510 + q.val, by omega⟩ hb (by simp only; omega) _).trans ?_)
      refine congrArg (G m c b s) (Fin.ext ?_)
      show 1408 + (j.val - 1408) = j.val
      omega
    · rename_i h
      have hj : j.val < 1408 := by
        by_contra hj
        exact h ⟨by simp, by simp; omega, by omega⟩
      rw [Pieces.canon3, dif_pos (by simp; omega)]
      exact (last0_at _ _ ⟨j.val, hj⟩ q).trans (g0_at m c t b s ⟨510 + q.val, by omega⟩ hb (by simp only; omega) _)
  by_cases h : t.val % 4 = 0
  · rw [outsAt0_A m c t h]
    frame_out
    exact key
  · rw [outsAt0_B m c t h]
    frame_out
    exact key

end Cert.Kernel2Ideal.Points
-- ==== Proof.PostOut.lean ====
module

public import proofs.«01_k».proof.Proof.Gen.Kernel2Ideal.Value
public import proofs.«01_k».proof.Proof.PostCarry
public import proofs.«01_k».proof.Proof.Delay
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
namespace Cert.Kernel2Ideal.Points
open Cert.Kernel2Ideal Cert.Kernel2Ideal.Gen Cert.Kernel2Ideal.Tile Cert.Kernel2Ideal.Blocks
variable (m : (ℓ : Loc nD τ sig) → Buf (Elt Ideal) ℓ) (c : Dev nD) (t : Fin cfg0.N)

/-- The first half's gate rows put in the shift buffer are rows of the whole. -/
theorem copy0 (b : Fin 8) (hb : b.val = t.val / 4) (x : Fin 1408) (r : Fin 512) (s : Fin 2048)
    (hs : s.val = 512 * (t.val % 4) + r.val) :
    k0_pay11 (F := Ideal) (hT m c t) (View.ld (iblk m c 7 t) (Rect.unit ![0, 0] ![1024, 1408] inb_S1024x5632_S1024x1408_0_0)) (ix2 r x)
      = G m c b s (Layer.lo x) :=
  (copy0_at _ _ r x).trans (g0_at m c t b s r hb hs x)

/-- The second half's gate rows put in the shift buffer are rows of the whole. -/
theorem copy1 (b : Fin 8) (hb : b.val = t.val / 4) (x : Fin 1408) (r : Fin 512) (s : Fin 2048)
    (hs : s.val = 512 * (t.val % 4) + r.val) :
    k0_pay21 (F := Ideal) (g1 m c t) (ix2 r x) = G m c b s (Layer.hi x) :=
  (copy1_at r x _).trans (g1_at m c t b s r hb hs x)

/-- At the first tile of a sequence the history rows of the first half are zero. -/
theorem start0 (x : Fin 1408) (q : Fin 8) (hq : 6 ≤ q.val) (v : View sig .tc .vmem S2x8x1408 .f32)
    (p4 p5 : FVec Ideal S1x2x1408 .f32) (L : List (View.Piece (Elt Ideal) S2x8x1408 .f32))
    (h4 : ∀ a x, p4 (ix3 0 a x) = (0 : EReal)) :
    v.readCov ((⟨Rect.unit (s := S2x8x1408) ![1, 6, 0] ![1, 2, 1408] inb_S2x8x1408_S1x2x1408_1_6_0, p5⟩ : View.Piece (Elt Ideal) S2x8x1408 .f32) ::
        (⟨Rect.unit (s := S2x8x1408) ![0, 6, 0] ![1, 2, 1408] inb_S2x8x1408_S1x2x1408_0_6_0, p4⟩ : View.Piece (Elt Ideal) S2x8x1408 .f32) :: L)
      (Rect.unit (s := S2x8x1408) ![0, 0, 0] ![1, 8, 1408] inb_S2x8x1408_S1x8x1408_0_0_0).toLoadRect (ix3 0 q x) = (0 : EReal) := by
  rw [Pieces.readCov3 _ _ _ _ _ _ (by simp) (by simp) (by simp), Pieces.canon3, dif_neg (by simp),
    Pieces.canon3, dif_pos (by simp; omega)]
  exact h4 ⟨0 + q.val - 6, by omega⟩ ⟨0 + x.val - 0, by omega⟩

/-- At the first tile of a sequence the history rows of the second half are zero. -/
theorem start1 (x : Fin 1408) (q : Fin 8) (hq : 6 ≤ q.val) (v : View sig .tc .vmem S2x8x1408 .f32)
    (p5 : FVec Ideal S1x2x1408 .f32) (p12 : FVec Ideal S1x8x1408 .f32) (L : List (View.Piece (Elt Ideal) S2x8x1408 .f32))
    (h5 : ∀ a x, p5 (ix3 0 a x) = (0 : EReal)) :
    v.readCov ((⟨Rect.unit (s := S2x8x1408) ![0, 0, 0] ![1, 8, 1408] inb_S2x8x1408_S1x8x1408_0_0_0, p12⟩ : View.Piece (Elt Ideal) S2x8x1408 .f32) ::
        (⟨Rect.unit (s := S2x8x1408) ![1, 6, 0] ![1, 2, 1408] inb_S2x8x1408_S1x2x1408_1_6_0, p5⟩ : View.Piece (Elt Ideal) S2x8x1408 .f32) :: L)
      (Rect.unit (s := S2x8x1408) ![1, 0, 0] ![1, 8, 1408] inb_S2x8x1408_S1x8x1408_1_0_0).toLoadRect (ix3 0 q x) = (0 : EReal) := by
  rw [Pieces.readCov3 _ _ _ _ _ _ (by simp) (by simp) (by simp), Pieces.canon3, dif_neg (by simp),
    Pieces.canon3, dif_pos (by simp; omega)]
  exact h5 ⟨0 + q.val - 6, by omega⟩ ⟨0 + x.val - 0, by omega⟩

/-- The rows stored as history at a first tile, first half. -/
theorem zero0 (a : Fin 2) (x : Fin 1408) :
    k0_pay4 (F := Ideal) (View.ld (iblk m c 3 t) (Rect.unit ![0, 0, 0] ![1, 2, 1408] inb_S1x2x2816_S1x2x1408_0_0_0)) (ix3 0 a x) = (0 : EReal) := by
  rw [start0_at]
  pointwise
  exact hist_at m c t _ _

/-- The rows stored as history at a first tile, second half. -/
theorem zero1 (a : Fin 2) (x : Fin 1408) :
    k0_pay5 (F := Ideal) (View.ld (iblk m c 3 t) (Rect.unit ![0, 0, 1408] ![1, 2, 1408] inb_S1x2x2816_S1x2x1408_0_0_1408)) (ix3 0 a x) = (0 : EReal) := by
  rw [start1_at]
  pointwise
  exact hist_at m c t _ _

/-- At a later tile the history rows are the last rows of the tile before, first half. -/
theorem prev0 (b : Fin 8) (hb : b.val = t.val / 4) (h : ¬t.val % 4 = 0) (hp) (x : Fin 1408) (q : Fin 8) (s : Fin 2048)
    (hs : s.val + 8 = 512 * (t.val % 4) + q.val) :
    (outsAt0 m c (t.val - 1) hp).2.2 (ix3 0 q x) = G m c b s (Layer.lo x) :=
  carry0 m c ⟨t.val - 1, hp⟩ b s q x (by simp only; omega) (by simp only; omega)

/-- At a later tile the history rows are the last rows of the tile before, second half. -/
theorem prev1 (b : Fin 8) (hb : b.val = t.val / 4) (h : ¬t.val % 4 = 0) (hp) (x : Fin 1408) (q : Fin 8) (s : Fin 2048)
    (hs : s.val + 8 = 512 * (t.val % 4) + q.val) :
    (outsAt0 m c (t.val - 1) hp).2.2 (ix3 1 q x) = G m c b s (Layer.hi x) :=
  carry1 m c ⟨t.val - 1, hp⟩ b s q x (by simp only; omega) (by simp only; omega)

/-- What a grid point writes of the first output: the result rows of its tile. -/
theorem out (b : Fin 8) (s : Fin 2048) (i : Fin 512) (d : Fin 1024) (hb : b.val = t.val / 4)
    (hs : s.val = 512 * (t.val % 4) + i.val) :
    (outsAt0 m c t.val t.isLt).1 (ix3 0 i d) = Out m c b s d := by
  by_cases h : t.val % 4 = 0
  · rw [outsAt0_A m c t h]
    frame_out
    refine out_tile m c t b s i hb hs _ _ _ _ d (fun x => ?_) (fun x => ?_) (fun x => ?_) (fun x => ?_)
    · refine Pieces.delayed 1 (by omega) _ _ _ _ _ _ _ i x _ _ s hs _ (copy0 m c t b hb x) ?_ (fun h' => absurd h (by omega))
      intro _ q hq
      exact (old0_at x _ q).trans (start0 x q (by omega) _ _ _ _ (zero0 m c t))
    · refine Pieces.delayed 2 (by omega) _ _ _ _ _ _ _ i x _ _ s hs _ (copy0 m c t b hb x) ?_ (fun h' => absurd h (by omega))
      intro _ q hq
      exact (old0_at x _ q).trans (start0 x q (by omega) _ _ _ _ (zero0 m c t))
    · refine Pieces.delayed 1 (by omega) _ _ _ _ _ _ _ i x _ _ s hs _ (copy1 m c t b hb x) ?_ (fun h' => absurd h (by omega))
      intro _ q hq
      exact (old1_at x _ q).trans (start1 x q (by omega) _ _ _ _ (zero1 m c t))
    · refine Pieces.delayed 2 (by omega) _ _ _ _ _ _ _ i x _ _ s hs _ (copy1 m c t b hb x) ?_ (fun h' => absurd h (by omega))
      intro _ q hq
      exact (old1_at x _ q).trans (start1 x q (by omega) _ _ _ _ (zero1 m c t))
  · rw [outsAt0_B m c t h]
    frame_out
    refine out_tile m c t b s i hb hs _ _ _ _ d (fun x => ?_) (fun x => ?_) (fun x => ?_) (fun x => ?_)
    · refine Pieces.delayed 1 (by omega) _ _ _ _ _ _ _ i x _ _ s hs _ (copy0 m c t b hb x) (fun h' => absurd h' h) ?_
      intro _ q s' hs'
      rw [old0_at]
      pointwise
      refine (congrFun (read_unread_whole _ _ _) _).trans ?_
      exact prev0 m c t b hb h _ x q s' hs'
    · refine Pieces.delayed 2 (by omega) _ _ _ _ _ _ _ i x _ _ s hs _ (copy0 m c t b hb x) (fun h' => absurd h' h) ?_
      intro _ q s' hs'
      rw [old0_at]
      pointwise
      refine (congrFun (read_unread_whole _ _ _) _).trans ?_
      exact prev0 m c t b hb h _ x q s' hs'
    · refine Pieces.delayed 1 (by omega) _ _ _ _ _ _ _ i x _ _ s hs _ (copy1 m c t b hb x) (fun h' => absurd h' h) ?_
      intro _ q s' hs'
      rw [old1_at]
      pointwise
      refine (congrFun (read_unread_whole _ _ _) _).trans ?_
      exact prev1 m c t b hb h _ x q s' hs'
    · refine Pieces.delayed 2 (by omega) _ _ _ _ _ _ _ i x _ _ s hs _ (copy1 m c t b hb x) (fun h' => absurd h' h) ?_
      intro _ q s' hs'
      rw [old1_at]
      pointwise
      refine (congrFun (read_unread_whole _ _ _) _).trans ?_
      exact prev1 m c t b hb h _ x q s' hs'

end Cert.Kernel2Ideal.Points
-- ==== Proof.PostArrays.lean ====
module

public import proofs.«01_k».proof.Proof.Gen.Kernel2Ideal.Value
public import proofs.«01_k».proof.Proof.PostOut
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.Kernel2Ideal.Points
open Cert.Kernel2Ideal Cert.Kernel2Ideal.Gen Cert.Kernel2Ideal.Tile Cert.Kernel2Ideal.Blocks
variable (m : (ℓ : Loc nD τ sig) → Buf (Elt Ideal) ℓ) (c : Dev nD)

/-- The first result array: at (b, s, d) the result row of batch `b`, time `s`. -/
def outArr : FVec Ideal S8x2048x1024 .f32 := fun i => Out m c (i 0) (i 1) (i 2)
/-- The second result array: the gate rows of the last two time steps. -/
def bufArr : FVec Ideal S8x2x2816 .f32 := fun i => G m c (i 0) ⟨2046 + (i 1).val, by have := (i 1).isLt; simp at this; omega⟩ (i 2)

/-- The block of each output a grid point writes. -/
theorem oidx : ∀ t : Fin cfg0.N, win0_11.index t = ![t.val / 4, t.val % 4, 0] ∧ win0_12.index t = ![t.val / 4, 0, 0] :=
  (by decide +kernel : ∀ t : Fin grid0.N, _)

/-- The grid points that write back the second output are the last ones of each sequence. -/
theorem last_flush : ∀ t : Fin cfg0.N, (cfg0.win 12).flush t = true → t.val % 4 = 3 :=
  (by decide +kernel : ∀ t : Fin grid0.N, win0_12.flush t = true → t.val % 4 = 3)

/-- After the run the first output array holds the result rows. -/
theorem arr11 : (dats m 0 c).arrAt 11 cfg0.N = outArr m c := by
  refine Dat.arrAt_eq_of_covers (w := 11) (dats m 0 c) (outArr m c) (by decide +kernel) (fun t hf y => ?_)
  blk_simp
  idx_vars y
  obtain rfl : y0 = 0 := Subsingleton.elim _ _
  rw [after0_11]
  have e0 : ((((View.whole main_v27_0).slice (win0_11.rect t)).emb (ix3 0 y1 y2)) 0).val = t.val / 4 := by
    blk_simp [oidx t] <;> omega
  have e1 : ((((View.whole main_v27_0).slice (win0_11.rect t)).emb (ix3 0 y1 y2)) 1).val = 512 * (t.val % 4) + y1.val := by
    blk_simp [oidx t] <;> omega
  have e2 : (((View.whole main_v27_0).slice (win0_11.rect t)).emb (ix3 0 y1 y2)) 2 = y2 := by
    apply Fin.ext
    blk_simp [oidx t] <;> omega
  refine (out m c t _ _ y1 y2 e0 e1).trans ?_
  exact congrArg (Out m c _ _) e2.symm

/-- After the run the second output array holds the last gate rows. -/
theorem arr12 : (dats m 0 c).arrAt 12 cfg0.N = bufArr m c := by
  refine Dat.arrAt_eq_of_covers (w := 12) (dats m 0 c) (bufArr m c) (by decide +kernel) (fun t hf y => ?_)
  blk_simp
  idx_vars y
  obtain rfl : y0 = 0 := Subsingleton.elim _ _
  rw [after0_12]
  have e0 : ((((View.whole main_v27_1).slice (win0_12.rect t)).emb (ix3 0 y1 y2)) 0).val = t.val / 4 := by
    blk_simp [oidx t] <;> omega
  have e1 : ((((View.whole main_v27_1).slice (win0_12.rect t)).emb (ix3 0 y1 y2)) 1).val = y1.val := by
    blk_simp [oidx t] <;> omega
  have e2 : (((View.whole main_v27_1).slice (win0_12.rect t)).emb (ix3 0 y1 y2)) 2 = y2 := by
    apply Fin.ext
    blk_simp [oidx t] <;> omega
  have hl := last_flush t hf
  refine (last m c t _ ⟨2046 + ((((View.whole main_v27_1).slice (win0_12.rect t)).emb (ix3 0 y1 y2)) 1).val, by rw [e1]; omega⟩
    y1 y2 e0 (by show 2046 + _ = _; rw [e1]; omega)).trans ?_
  exact congrArg (G m c _ _) e2.symm

end Cert.Kernel2Ideal.Points
-- ==== Proof.RefPost.lean ====
module

public import proofs.«01_k».proof.Proof.Gen.Reference2Ideal.Run
public import proofs.«01_k».proof.Proof.Arrays
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
namespace Cert.Reference2Ideal.Stages
open Cert.Reference2Ideal Cert.Reference2Ideal.Gen

/-- The input plus the projection of the two branches side by side, the heads of the first put back in order. -/
def mixing (a0 : FVec Ideal S8x2048x1024 .f32) (a1 : FVec Ideal S8x2048x512 .bf16) (a2 : FVec Ideal S8x2048x512 .bf16) (a3 : FVec Ideal S1x1024x1024 .f32) : FVec Ideal S8x2048x1024 .f32 :=
  addf a0 (Host.dotGeneral dot_S8x2048x1024_S1024x1024_S8x2048x1024_2_0_01_1_n_n none (concatenate S8x2048x1024 2
    [⟨S8x2048x512, (shapeCast _ (transpose S8x2048x2x4x64 [0, 1, 3, 2, 4] (shapeCast _ a1
    shapeCasts_S8x2048x512_S8x2048x4x2x64) transposes_S8x2048x4x2x64_S8x2048x2x4x64_0_1_3_2_4)
    shapeCasts_S8x2048x2x4x64_S8x2048x512)⟩, ⟨S8x2048x512, a2⟩] concatenates_S8x2048x512_S8x2048x512_S8x2048x1024_d2)
    (shapeCast _ a3 shapeCasts_S1x1024x1024_S1024x1024))

/-- The normalised rows. -/
def normed (Y : FVec Ideal S8x2048x1024 .f32) (a4 : FVec Ideal S2x1024 .f32) : FVec Ideal S8x2048x1024 .f32 :=
  mulf (mulf Y (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf Y Y) (constant S_ .f32
    0x00000000#32) reducesTo_S8x2048x1024_S8x2048_d2 h_S_)) (broadcastInDim S8x2048x1 ![] bcast_S_S8x2048x1 (constant S_
    .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2]
    bcast_S1024_S1x1x1024_2 (shapeCast _ (extractStridedSlice S1x1024 ![0, 0] a4 slices_S2x1024_S1x1024_0_0)
    shapeCasts_S1x1024_S1024)))

/-- The up projection. -/
def upped (H : FVec Ideal S8x2048x1024 .f32) (a5 : FVec Ideal S2x1024x5632 .f32) : FVec Ideal S8x2048x5632 .f32 :=
  Host.dotGeneral dot_S8x2048x1024_S1024x5632_S8x2048x5632_2_0_01_1_n_n none H (shapeCast _ (extractStridedSlice
    S1x1024x5632 ![0, 0, 0] a5 slices_S2x1024x5632_S1x1024x5632_0_0_0) shapeCasts_S1x1024x5632_S1024x5632)

/-- The gate rows behind two rows of zeros. -/
def padded (U : FVec Ideal S8x2048x5632 .f32) : FVec Ideal S8x2050x2816 .f32 :=
  concatenate S8x2050x2816 1 [⟨S8x2x2816, (broadcastInDim S8x2x2816 ![] bcast_S_S8x2x2816 (constant S_ .f32
    0x00000000#32))⟩, ⟨S8x2048x2816, (extractStridedSlice S8x2048x2816 ![0, 0, 0] U
    slices_S8x2048x5632_S8x2048x2816_0_0_0)⟩] concatenates_S8x2x2816_S8x2048x2816_S8x2050x2816_d1

/-- The causal convolution of the gate rows. -/
def convolved (Fl : FVec Ideal S8x2050x2816 .f32) (a6 : FVec Ideal S2x3x2816 .f32) (a7 : FVec Ideal S2x2816 .f32) : FVec Ideal S8x2048x2816 .f32 :=
  addf (addf (addf (broadcastInDim S8x2048x2816 ![0, 1, 2] bcast_S1x1x2816_S8x2048x2816_0_1_2 (broadcastInDim S1x1x2816
    ![2] bcast_S2816_S1x1x2816_2 (shapeCast _ (extractStridedSlice S1x2816 ![0, 0] a7 slices_S2x2816_S1x2816_0_0)
    shapeCasts_S1x2816_S2816))) (mulf (broadcastInDim S8x2048x2816 ![0, 1, 2] bcast_S1x1x2816_S8x2048x2816_0_1_2
    (broadcastInDim S1x1x2816 ![2] bcast_S2816_S1x1x2816_2 (shapeCast _ (extractStridedSlice S1x2816 ![0, 0] (shapeCast _
    (extractStridedSlice S1x3x2816 ![0, 0, 0] a6 slices_S2x3x2816_S1x3x2816_0_0_0) shapeCasts_S1x3x2816_S3x2816)
    slices_S3x2816_S1x2816_0_0) shapeCasts_S1x2816_S2816))) (extractStridedSlice S8x2048x2816 ![0, 0, 0] Fl
    slices_S8x2050x2816_S8x2048x2816_0_0_0))) (mulf (broadcastInDim S8x2048x2816 ![0, 1, 2]
    bcast_S1x1x2816_S8x2048x2816_0_1_2 (broadcastInDim S1x1x2816 ![2] bcast_S2816_S1x1x2816_2 (shapeCast _
    (extractStridedSlice S1x2816 ![1, 0] (shapeCast _ (extractStridedSlice S1x3x2816 ![0, 0, 0] a6
    slices_S2x3x2816_S1x3x2816_0_0_0) shapeCasts_S1x3x2816_S3x2816) slices_S3x2816_S1x2816_1_0) shapeCasts_S1x2816_S2816)))
    (extractStridedSlice S8x2048x2816 ![0, 1, 0] Fl slices_S8x2050x2816_S8x2048x2816_0_1_0))) (mulf (broadcastInDim
    S8x2048x2816 ![0, 1, 2] bcast_S1x1x2816_S8x2048x2816_0_1_2 (broadcastInDim S1x1x2816 ![2] bcast_S2816_S1x1x2816_2
    (shapeCast _ (extractStridedSlice S1x2816 ![2, 0] (shapeCast _ (extractStridedSlice S1x3x2816 ![0, 0, 0] a6
    slices_S2x3x2816_S1x3x2816_0_0_0) shapeCasts_S1x3x2816_S3x2816) slices_S3x2816_S1x2816_2_0) shapeCasts_S1x2816_S2816)))
    (extractStridedSlice S8x2048x2816 ![0, 2, 0] Fl slices_S8x2050x2816_S8x2048x2816_0_2_0))

/-- The residual sum plus the feed-forward output. -/
def downed (Y : FVec Ideal S8x2048x1024 .f32) (Gc : FVec Ideal S8x2048x2816 .f32) (U : FVec Ideal S8x2048x5632 .f32) (a8 : FVec Ideal S2x2816x1024 .f32) : FVec Ideal S8x2048x1024 .f32 :=
  addf Y (Host.dotGeneral dot_S8x2048x2816_S2816x1024_S8x2048x1024_2_0_01_1_n_n none (mulf (mulf Gc (mulf (broadcastInDim
    S8x2048x2816 ![] bcast_S_S8x2048x2816 (constant S_ .f32 0x3F000000#32)) (addf (broadcastInDim S8x2048x2816 ![]
    bcast_S_S8x2048x2816 (constant S_ .f32 0x3F800000#32)) (Host.tanh (mulf (broadcastInDim S8x2048x2816 ![]
    bcast_S_S8x2048x2816 (constant S_ .f32 0x3F4C422A#32)) (addf Gc (mulf (broadcastInDim S8x2048x2816 ![]
    bcast_S_S8x2048x2816 (constant S_ .f32 0x3D372713#32)) (mulf (mulf Gc Gc) Gc)))))))) (extractStridedSlice S8x2048x2816
    ![0, 0, 2816] U slices_S8x2048x5632_S8x2048x2816_0_0_2816)) (shapeCast _ (extractStridedSlice S1x2816x1024 ![0, 0, 0] a8
    slices_S2x2816x1024_S1x2816x1024_0_0_0) shapeCasts_S1x2816x1024_S2816x1024))

/-- The reference's first result is the last stage of the chain. -/
theorem result_eq (m : (ℓ : Loc nD τ sig) → Buf (Elt Ideal) ℓ) (c : Dev nD) :
    Value.res_main_v74 (F := Ideal) m c =
      let Y := mixing (m ((c.tc : Thread nD τ).loc main_arg0)) (m ((c.tc : Thread nD τ).loc main_arg1))
        (m ((c.tc : Thread nD τ).loc main_arg2)) (m ((c.tc : Thread nD τ).loc main_arg3))
      let U := upped (normed Y (m ((c.tc : Thread nD τ).loc main_arg4))) (m ((c.tc : Thread nD τ).loc main_arg5))
      downed Y (convolved (padded U) (m ((c.tc : Thread nD τ).loc main_arg6)) (m ((c.tc : Thread nD τ).loc main_arg7))) U
        (m ((c.tc : Thread nD τ).loc main_arg8)) := rfl

variable (b : Fin 8) (s : Fin 2048) (d : Fin 1024)

/-- The heads' columns in natural order correspond one to one to the columns of the attention array. -/
def heads : Fin 512 ≃ Fin 512 where
  toFun x := ⟨x.val / 64 % 4 * 128 + x.val / 256 * 64 + x.val % 64, by omega⟩
  invFun k := ⟨(k.val / 64 / 2 + 4 * (k.val / 64 % 2)) * 64 + k.val % 64, by omega⟩
  left_inv x := Fin.ext (by
    have h1 : (x.val / 64 % 4 * 128 + x.val / 256 * 64 + x.val % 64) / 64 = x.val / 64 % 4 * 2 + x.val / 256 := by omega
    have h2 : (x.val / 64 % 4 * 128 + x.val / 256 * 64 + x.val % 64) % 64 = x.val % 64 := by omega
    have h3 : (x.val / 64 % 4 * 2 + x.val / 256) / 2 = x.val / 64 % 4 := by omega
    have h4 : (x.val / 64 % 4 * 2 + x.val / 256) % 2 = x.val / 64 / 4 := by omega
    simp only [h1, h2, h3, h4]
    omega)
  right_inv k := Fin.ext (by
    have h1 : ((k.val / 64 / 2 + 4 * (k.val / 64 % 2)) * 64 + k.val % 64) / 64 = k.val / 64 / 2 + 4 * (k.val / 64 % 2) := by omega
    have h2 : ((k.val / 64 / 2 + 4 * (k.val / 64 % 2)) * 64 + k.val % 64) % 64 = k.val % 64 := by omega
    have h3 : ((k.val / 64 / 2 + 4 * (k.val / 64 % 2)) * 64 + k.val % 64) / 256 = k.val / 64 % 2 := by omega
    have h4 : k.val / 64 / 2 < 4 := by omega
    simp only [h1, h2, h3]
    omega)

/-- The residual sum of the reference is the residual sum over the two branches. -/
theorem mixing_at (a0 : FVec Ideal S8x2048x1024 .f32) (a1 a2 : FVec Ideal S8x2048x512 .bf16) (a3 : FVec Ideal S1x1024x1024 .f32) :
    mixing a0 a1 a2 a3 (ix3 b s d) = Layer.mixed a0 a1 a2 a3 b s d := by
  pointwise [mixing]
  unfold Layer.mixed
  rw [← add_assoc]
  refine congrArg (fun e : EReal => a0 (ix3 b s d) + e + _) ?_
  refine Fintype.sum_equiv heads _ _ fun x => ?_
  refine congrArg (fun k : Fin 1024 => a1 (ix3 b s (heads x)) * a3 (ix3 0 k d)) (Fin.ext ?_)
  exact (congrArg Fin.val (heads.left_inv x)).symm

/-- The normalised rows. -/
theorem normed_at (y : FVec Ideal S8x2048x1024 .f32) (g : FVec Ideal S2x1024 .f32) :
    normed y g (ix3 b s d) = Layer.rms (fun d => y (ix3 b s d)) (Layer.gain 0 g) d := by
  pointwise [normed]
  rfl

/-- The up projection. -/
theorem upped_at (h : FVec Ideal S8x2048x1024 .f32) (w : FVec Ideal S2x1024x5632 .f32) (j : Fin 5632) :
    upped h w (ix3 b s j) = ∑ k, h (ix3 b s k) * Layer.wUp 0 w k j := by
  pointwise [upped]
  rfl

/-- The gate rows behind two rows of zeros. -/
theorem padded_at (u : FVec Ideal S8x2048x5632 .f32) (q : Fin 2050) (j : Fin 2816) :
    padded u (ix3 b q j) = if h : q.val < 2 then (0 : EReal) else u (ix3 b ⟨q.val - 2, by omega⟩ ⟨j.val, by omega⟩) := by
  pointwise [padded]

/-- The convolution of the padded gate rows is the causal convolution. -/
theorem convolved_at (u : FVec Ideal S8x2048x5632 .f32) (a6 : FVec Ideal S2x3x2816 .f32) (a7 : FVec Ideal S2x2816 .f32)
    (j : Fin 2816) :
    convolved (padded u) a6 a7 (ix3 b s j)
      = Layer.conv (Layer.wConv 0 a6) (Layer.bConv 0 a7) (fun s j => u (ix3 b s ⟨j.val, by omega⟩)) s j := by
  pointwise [convolved]
  rw [padded_at, padded_at, padded_at]
  exact Layer.conv_padded (Layer.wConv 0 a6) (Layer.bConv 0 a7) (fun s j => u (ix3 b s ⟨j.val, by omega⟩)) s j

/-- The residual sum plus the down projection. -/
theorem downed_at (y : FVec Ideal S8x2048x1024 .f32) (gc : FVec Ideal S8x2048x2816 .f32) (u : FVec Ideal S8x2048x5632 .f32)
    (w : FVec Ideal S2x2816x1024 .f32) :
    downed y gc u w (ix3 b s d) = y (ix3 b s d) +
      ∑ j : Fin 2816, Layer.gelu (gc (ix3 b s j)) * u (ix3 b s ⟨2816 + j.val, by omega⟩) * Layer.wDown 0 w j d := by
  pointwise [downed]
  rfl

end Cert.Reference2Ideal.Stages
-- ==== Proof.PostEquation.lean ====
module

public import proofs.«01_k».proof.Proof.Gen.Reference2Ideal.Run
public import proofs.«01_k».proof.Proof.PostArrays
public import proofs.«01_k».proof.Proof.RefPost
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
namespace Cert.PostEquation
open Cert.Reference2Ideal.Stages

/-- The reference's second result: the last two rows of the padded gate rows. -/
theorem last_rows (u : FVec Ideal Reference2Ideal.S8x2048x5632 .f32) (b : Fin 8) (q : Fin 2) (j : Fin 2816) :
    extractStridedSlice Reference2Ideal.S8x2x2816 ![0, 2048, 0] (padded u)
        Reference2Ideal.Gen.slices_S8x2050x2816_S8x2x2816_0_2048_0 (ix3 b q j)
      = u (ix3 b ⟨2046 + q.val, by omega⟩ ⟨j.val, by omega⟩) := by
  pointwise
  rw [padded_at, dif_neg (by simp only; omega)]
  exact congrArg (fun k => u (ix3 b k ⟨j.val, by omega⟩)) (Fin.ext (by simp only; omega))

variable (m : (ℓ : Loc Kernel2Ideal.nD Kernel2Ideal.τ Kernel2Ideal.sig) → Buf (Elt Ideal) ℓ) (c : Dev Kernel2Ideal.nD)

/-- The reference's residual rows from the kernel's arguments. -/
abbrev rY := mixing (m ((c.tc : Thread Kernel2Ideal.nD Kernel2Ideal.τ).loc Kernel2Ideal.main_arg0))
  (m ((c.tc : Thread Kernel2Ideal.nD Kernel2Ideal.τ).loc Kernel2Ideal.main_arg1))
  (m ((c.tc : Thread Kernel2Ideal.nD Kernel2Ideal.τ).loc Kernel2Ideal.main_arg2))
  (m ((c.tc : Thread Kernel2Ideal.nD Kernel2Ideal.τ).loc Kernel2Ideal.main_arg3))
/-- The reference's up projection from the kernel's arguments. -/
abbrev rU := upped (normed (rY m c) (m ((c.tc : Thread Kernel2Ideal.nD Kernel2Ideal.τ).loc Kernel2Ideal.main_arg4)))
  (m ((c.tc : Thread Kernel2Ideal.nD Kernel2Ideal.τ).loc Kernel2Ideal.main_arg5))

/-- The reference's residual rows are the kernel's. -/
theorem sum_eq (b : Fin 8) (s : Fin 2048) (d : Fin 1024) : rY m c (ix3 b s d) = Kernel2Ideal.Points.Y m c b s d :=
  mixing_at b s d _ _ _ _

/-- The reference's normalised rows are the kernel's. -/
theorem rows_eq (b : Fin 8) (s : Fin 2048) (d : Fin 1024) :
    normed (rY m c) (m ((c.tc : Thread Kernel2Ideal.nD Kernel2Ideal.τ).loc Kernel2Ideal.main_arg4)) (ix3 b s d)
      = Kernel2Ideal.Points.Hn m c b s d := by
  rw [normed_at]
  exact congrArg (fun y => Layer.rms y _ d) (funext fun d => mixing_at b s d _ _ _ _)

/-- The gate half of the reference's up projection. -/
theorem gate_eq (b : Fin 8) (s : Fin 2048) (j : Fin 2816) :
    rU m c (ix3 b s ⟨j.val, by omega⟩) = Kernel2Ideal.Points.G m c b s j := by
  unfold rU
  rw [upped_at]
  exact Finset.sum_congr rfl fun k _ => congrArg (fun e : EReal => e * _) (rows_eq m c b s k)

/-- The value half of the reference's up projection. -/
theorem val_eq (b : Fin 8) (s : Fin 2048) (j : Fin 2816) :
    rU m c (ix3 b s ⟨2816 + j.val, by omega⟩)
      = Layer.val (Kernel2Ideal.Points.Hn m c b s) (Kernel2Ideal.Points.Wu m c) j := by
  unfold rU
  rw [upped_at]
  exact Finset.sum_congr rfl fun k _ => congrArg (fun e : EReal => e * _) (rows_eq m c b s k)

/-- The two first results are equal. -/
theorem first_eq :
    downed (rY m c) (convolved (padded (rU m c)) (m ((c.tc : Thread Kernel2Ideal.nD Kernel2Ideal.τ).loc Kernel2Ideal.main_arg6))
        (m ((c.tc : Thread Kernel2Ideal.nD Kernel2Ideal.τ).loc Kernel2Ideal.main_arg7))) (rU m c)
        (m ((c.tc : Thread Kernel2Ideal.nD Kernel2Ideal.τ).loc Kernel2Ideal.main_arg8))
      = Kernel2Ideal.Points.outArr m c := by
  funext i
  idx_vars i
  rw [downed_at, sum_eq]
  show _ = Kernel2Ideal.Points.Y m c i0 i1 i2 + _
  refine congrArg (fun e : EReal => Kernel2Ideal.Points.Y m c i0 i1 i2 + e) ?_
  refine Finset.sum_congr rfl fun j _ => ?_
  rw [convolved_at, val_eq, (funext fun s => funext fun j => gate_eq m c i0 s j :
    (fun (s : Fin 2048) (j : Fin 2816) => rU m c (ix3 i0 s ⟨j.val, by omega⟩)) = Kernel2Ideal.Points.G m c i0)]
  rfl

/-- The two second results are equal. -/
theorem second_eq :
    extractStridedSlice Reference2Ideal.S8x2x2816 ![0, 2048, 0] (padded (rU m c))
        Reference2Ideal.Gen.slices_S8x2050x2816_S8x2x2816_0_2048_0
      = Kernel2Ideal.Points.bufArr m c := by
  funext i
  idx_vars i
  exact (last_rows _ i0 i1 i2).trans (gate_eq m c i0 _ i2)

end Cert.PostEquation
-- ==== Proof.PostClaims.lean ====
module

public import proofs.«01_k».proof.Defs
public import proofs.«01_k».proof.Proof.Gen.Kernel2.Frame
public import proofs.«01_k».proof.Proof.Gen.Kernel2Ideal.Frame
public import proofs.«01_k».proof.Proof.PostEquation
public import Idealize.ShloMosaic.Lib.Quiescent

@[expose] public section

noncomputable section

open Idealize.ShloMosaic Idealize.ShloMosaic.TcCoe Idealize.SL.Sem

namespace Cert.PostClaims

/-- The kernel of the first layer's output side ends quiescent with its arguments unchanged. -/
theorem frame : Cert.quiescent_Kernel2 (hKernel2 := Cert.Kernel2.Gen.facts) := fun m ρ _ => Cert.Kernel2.Gen.frame m ρ
/-- So does its ideal program. -/
theorem frame_ideal : Cert.quiescent_Kernel2Ideal (hKernel2Ideal := Cert.Kernel2Ideal.Gen.facts) :=
  fun m ρ _ => Cert.Kernel2Ideal.Gen.frame m ρ
/-- So does the reference, which has no semaphore. -/
theorem frame_reference : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The kernel's two results are the reference's, on arguments that agree. -/
theorem equal : Cert.algebraic_Kernel2Ideal_Reference2Ideal (hKernel2Ideal := Cert.Kernel2Ideal.Gen.facts)
    (hReference2Ideal := Cert.Reference2Ideal.Gen.facts) := by
  intro m ρ m' ρ' _ hag
  refine ⟨fun c => Cert.Kernel2Ideal.Points.outArr m c, fun c => Cert.Kernel2Ideal.Points.bufArr m c, ?_, ?_⟩
  · exact (θ_run Cert.Kernel2Ideal.defs _ _).mono
      (fun _ h c => ⟨(h c).1.trans (Cert.Kernel2Ideal.Points.arr11 m c),
        (h c).2.1.trans (Cert.Kernel2Ideal.Points.arr12 m c), (h c).2.2⟩)
      (Cert.Kernel2Ideal.Value.run_blocks (F := Ideal) m ρ)
  · refine (θ_run Cert.Reference2Ideal.defs _ _).mono
      (fun _ h c => ⟨(h c).1.trans ?_, (h c).2.1.trans ?_, (h c).2.2⟩)
      (Cert.Reference2Ideal.Value.run (F := Ideal) m' ρ')
    · rw [Cert.Reference2Ideal.Stages.result_eq]
      obtain ⟨h0, h1, h2, h3, h4, h5, h6, h7, h8⟩ := hag c
      rw [h0, h1, h2, h3, h4, h5, h6, h7, h8]
      exact Cert.PostEquation.first_eq m c
    · obtain ⟨h0, h1, h2, h3, h4, h5, h6, h7, h8⟩ := hag c
      rw [h0, h1, h2, h3, h4, h5]
      exact Cert.PostEquation.second_eq m c

end Cert.PostClaims
-- ==== Proof.Proj.lean ====
module

public import proofs.«01_k».proof.Proof.Arrays
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Layer

/-- One row of the input projection of the first layer: the normalised input row times the projection's columns. -/
def projRow (x : Fin 1024 → EReal) (G : FVec Ideal (⟨2, ![2, 1024]⟩ : Shape) .f32)
    (W : FVec Ideal (⟨3, ![1, 1024, 2376]⟩ : Shape) .f32) (j : Fin 2376) : EReal :=
  ∑ k : Fin 1024, rms x (gain 0 G) k * W (ix3 0 k j)

/-- The rows of the prompt, by batch and time. -/
def proj (X : FVec Ideal (⟨3, ![8, 2048, 1024]⟩ : Shape) .f32) (G : FVec Ideal (⟨2, ![2, 1024]⟩ : Shape) .f32)
    (W : FVec Ideal (⟨3, ![1, 1024, 2376]⟩ : Shape) .f32) (b : Fin 8) (s : Fin 2048) : Fin 2376 → EReal :=
  projRow (fun d => X (ix3 b s d)) G W

/-- The projection's columns as the kernel lays them out: the query columns in the kernel's order of heads, the columns up to
    the index weights, 56 columns of zeros, and the two branches' columns. -/
def laid (W : FVec Ideal (⟨3, ![1, 1024, 2376]⟩ : Shape) .f32) (k : Fin 1024) (j : Fin 2432) : EReal :=
  if h : j.val < 512 then W (ix3 0 k ⟨(j.val / 64 / 2 + 4 * (j.val / 64 % 2)) * 64 + j.val % 64, by omega⟩)
  else if h : j.val < 1352 then W (ix3 0 k ⟨j.val, by omega⟩)
  else if h : j.val < 1408 then 0
  else W (ix3 0 k ⟨j.val - 56, by omega⟩)

/-- The same columns of one projected row. -/
def cols (P : Fin 2376 → EReal) (j : Fin 2432) : EReal :=
  if h : j.val < 512 then P ⟨(j.val / 64 / 2 + 4 * (j.val / 64 % 2)) * 64 + j.val % 64, by omega⟩
  else if h : j.val < 1352 then P ⟨j.val, by omega⟩
  else if h : j.val < 1408 then 0
  else P ⟨j.val - 56, by omega⟩

/-- A normalised row times the columns as the kernel lays them out is the projected row laid out the same way. -/
theorem laid_sum (x : Fin 1024 → EReal) (G : FVec Ideal (⟨2, ![2, 1024]⟩ : Shape) .f32)
    (W : FVec Ideal (⟨3, ![1, 1024, 2376]⟩ : Shape) .f32) (j : Fin 2432) :
    ∑ k : Fin 1024, rms x (gain 0 G) k * laid W k j = cols (projRow x G W) j := by
  unfold laid cols
  split
  · rfl
  · split
    · rfl
    · split
      · simp only [mul_zero, Finset.sum_const_zero]
      · rfl

end Cert.Layer
-- ==== Proof.ProjTile.lean ====
module

public import proofs.«01_k».proof.Proof.Gen.Kernel3Ideal.Value
public import proofs.«01_k».proof.Proof.Proj
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Tile
open Cert.Kernel3Ideal Cert.Kernel3Ideal.Gen

variable (y : FVec Ideal S512x1024 .f32) (g : FVec Ideal S1x1024 .f32) (w : FVec Ideal S1024x2432 .bf16)
  (i : Fin 512)

/-- One tile of the projection: the normalised rows times the columns. -/
theorem z_at (j : Fin 2432) : (k0_pay3 (F := Ideal) y g w) (ix2 i j)
    = ∑ k, Layer.rms (fun d => y (ix2 i d)) (fun d => g (ix2 0 d)) k * w (ix2 k j) := by
  pointwise [k0_pay3]
  rfl

/-- The scaled query columns. -/
theorem q_at (j : Fin 512) : (k0_pay9 (F := Ideal) y g w) (ix2 i j)
    = (k0_pay3 (F := Ideal) y g w) (ix2 i ⟨j.val, by omega⟩) * Ideal.ofBits FTy.f32 1040187392#32 := by
  pointwise [k0_pay9]

/-- The scaled index query columns. -/
theorem qi_at (j : Fin 512) : (k0_pay10 (F := Ideal) (k0_pay4 (F := Ideal) y g w)) (ix2 i j)
    = (k0_pay3 (F := Ideal) y g w) (ix2 i ⟨768 + j.val, by omega⟩) * Ideal.ofBits FTy.f32 1040187392#32 := by
  pointwise [k0_pay10, k0_pay4]

end Cert.Kernel3Ideal.Tile
-- ==== Proof.ProjBlocks.lean ====
module

public import proofs.«01_k».proof.Proof.Gen.Kernel3Ideal.Value
public import proofs.«01_k».proof.Proof.Proj
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Blocks
open Cert.Kernel3Ideal Cert.Kernel3Ideal.Gen
/-- The gather of whole heads: head `a` of the result is the operand's head at the start index of row `a`. -/
theorem heads_at (x : FVec Ideal S1024x8x64 .f32) (ix : IVec S8x1 32) (d : Fin 1024) (a : Fin 8) (q : Fin 64) (e : Fin 8)
    (he : min (ix (ix2 a 0)).toInt.toNat 7 = e.val) :
    Host.gather gather_S1024x8x64_S8x1_S1024x8x64_02_1_n_n_1_1_1024164 x ix (ix3 d a q) = x (ix3 d e q) := by
  unfold Host.gather
  congr 1
  funext k
  refine Fin.ext ?_
  show gather_S1024x8x64_S8x1_S1024x8x64_02_1_n_n_1_1_1024164.start (ix3 d a q) ix k
      + gather_S1024x8x64_S8x1_S1024x8x64_02_1_n_n_1_1_1024164.batchCoord (ix3 d a q) k
      + gather_S1024x8x64_S8x1_S1024x8x64_02_1_n_n_1_1_1024164.offCoord (ix3 d a q) k = _
  rw [GatherDims.batchCoord_eq_zero _ _ _ (List.not_mem_nil)]
  have hk : k = 0 ∨ k = 1 ∨ k = 2 := by
    match k with
    | ⟨0, _⟩ => exact Or.inl rfl
    | ⟨1, _⟩ => exact Or.inr (Or.inl rfl)
    | ⟨2, _⟩ => exact Or.inr (Or.inr rfl)
  rcases hk with rfl | rfl | rfl
  · unfold GatherDims.start
    rw [dif_neg (show (0 : Fin 3) ∉ gather_S1024x8x64_S8x1_S1024x8x64_02_1_n_n_1_1_1024164.startIndexMap from
      fun h => absurd (List.mem_singleton.mp h) (by decide))]
    show 0 + 0 + d.val = d.val
    omega
  · rw [GatherDims.offCoord_eq_zero _ _ _ (fun h => ((GatherDims.mem_sKept _ _).mp h).1 (List.mem_singleton.mpr rfl))]
    unfold GatherDims.start
    rw [dif_pos (show (1 : Fin 3) ∈ gather_S1024x8x64_S8x1_S1024x8x64_02_1_n_n_1_1_1024164.startIndexMap from List.mem_singleton.mpr rfl)]
    rw [show gather_S1024x8x64_S8x1_S1024x8x64_02_1_n_n_1_1_1024164.siIdx (ix3 d a q)
        ⟨List.idxOf (1 : Fin 3) gather_S1024x8x64_S8x1_S1024x8x64_02_1_n_n_1_1_1024164.startIndexMap,
          List.idxOf_lt_length_iff.2 (List.mem_singleton.mpr rfl)⟩ = ix2 a 0 from by
      funext b; refine Fin.ext ?_
      match b with
      | ⟨0, _⟩ => rfl
      | ⟨1, _⟩ => rfl]
    exact he
  · unfold GatherDims.start
    rw [dif_neg (show (2 : Fin 3) ∉ gather_S1024x8x64_S8x1_S1024x8x64_02_1_n_n_1_1_1024164.startIndexMap from
      fun h => absurd (List.mem_singleton.mp h) (by decide))]
    show 0 + 0 + q.val = q.val
    omega

/-- The start indices, as the host computes them: the kernel's order of heads. -/
theorem headIx_at (a : Fin 8) :
    min ((broadcastInDim S8x1 ![0] bcast_S8_S8x1_0
        (select (constantI S8 1 0#1)
          (addi (fun i => lit0 (S8.rowMajor i)) (broadcastInDim S8 ![] bcast_S_S8 (constantI S_ 32 8#32))) fun i =>
          lit0 (S8.rowMajor i))) (ix2 a 0)).toInt.toNat 7 = a.val / 2 + 4 * (a.val % 2) := by
  pointwise
  fin_cases a <;> rfl

variable (m : (ℓ : Loc nD τ sig) → Buf (Elt Ideal) ℓ)

/-- The block each input window shows at a grid point. -/
theorem idx : ∀ t : Fin cfg0.N, win0_0.index t = ![t.val, 0] ∧ win0_1.index t = ![0, 0] ∧ win0_2.index t = ![0, 0] :=
  (by decide +kernel : ∀ t : Fin grid0.N, _)

variable (c : Dev nD) (t : Fin cfg0.N)

/-- Row `i` of the tile of the input rows at a grid point. -/
theorem x_at (b : Fin 8) (s : Fin 2048) (i : Fin 512) (d : Fin 1024) (h : b.val * 2048 + s.val = 512 * t.val + i.val) :
    iblk m c 0 t (ix2 i d) = m ((c : Thread nD τ).loc main_arg0) (ix3 b s d) := by
  have ht : t.val < 32 := t.isLt
  have e : iblk m c 0 t (ix2 i d) = V m c main_v22 (ix2 ⟨512 * t.val + i.val, by omega⟩ d) := by blk_point [iblk, idx t]
  rw [e]
  entry_read
  pointwise
  congr 1
  congr 1 <;> exact Fin.ext (by simp only; omega)

/-- The gain of the normalisation. -/
theorem g_at (d : Fin 1024) :
    iblk m c 1 t (ix2 0 d) = Layer.gain 0 (m ((c : Thread nD τ).loc main_arg1)) d := by
  have e : iblk m c 1 t (ix2 0 d) = V m c main_v21 (ix2 0 d) := by blk_ext [iblk, idx t]
  rw [e]
  entry_read
  pointwise [Layer.gain]

/-- The columns the host lays out side by side, one part at a time. -/
theorem parts_at (W : FVec Ideal S1024x2376 .f32) (q : FVec Ideal S1024x512 .f32) (z : FVec Ideal S1024x56 .f32) (hz : ∀ k j, z (ix2 k j) = (0 : EReal))
    (k : Fin 1024) (j : Fin 2432) :
    concatenate S1024x2432 1 [⟨S1024x512, q⟩, ⟨S1024x128, extractStridedSlice S1024x128 ![0, 512] W slices_S1024x2376_S1024x128_0_512⟩,
      ⟨S1024x128, extractStridedSlice S1024x128 ![0, 640] W slices_S1024x2376_S1024x128_0_640⟩,
      ⟨S1024x512, extractStridedSlice S1024x512 ![0, 768] W slices_S1024x2376_S1024x512_0_768⟩,
      ⟨S1024x64, extractStridedSlice S1024x64 ![0, 1280] W slices_S1024x2376_S1024x64_0_1280⟩,
      ⟨S1024x8, extractStridedSlice S1024x8 ![0, 1344] W slices_S1024x2376_S1024x8_0_1344⟩, ⟨S1024x56, z⟩,
      ⟨S1024x512, extractStridedSlice S1024x512 ![0, 1352] W slices_S1024x2376_S1024x512_0_1352⟩,
      ⟨S1024x512, extractStridedSlice S1024x512 ![0, 1864] W slices_S1024x2376_S1024x512_0_1864⟩]
      concatenates_S1024x512_S1024x128_S1024x128_S1024x512_S1024x64_S1024x8_S1024x56_S1024x512_S1024x512_S1024x2432_d1 (ix2 k j)
      = if h : j.val < 512 then q (ix2 k ⟨j.val, h⟩)
        else if h : j.val < 1352 then W (ix2 k ⟨j.val, by omega⟩)
        else if h : j.val < 1408 then (0 : EReal) else W (ix2 k ⟨j.val - 56, by omega⟩) := by
  pointwise
  simp only [hz]
  split
  · rfl
  rename_i h1
  repeat' split
  all_goals first
    | exact absurd ‹_› (by omega)
    | rfl
    | (exact congrArg W (congrArg (ix2 k) (Fin.ext (by simp only; omega))))

/-- The query columns in the kernel's order of heads, as the host computes them. -/
def heads (W : FVec Ideal S1024x2376 .f32) : FVec Ideal S1024x512 .f32 :=
  shapeCast _ (Host.gather gather_S1024x8x64_S8x1_S1024x8x64_02_1_n_n_1_1_1024164
    (shapeCast _ (extractStridedSlice S1024x512 ![0, 0] W slices_S1024x2376_S1024x512_0_0) shapeCasts_S1024x512_S1024x8x64)
    (broadcastInDim S8x1 ![0] bcast_S8_S8x1_0
        (select (constantI S8 1 0#1)
          (addi (fun i => lit0 (S8.rowMajor i)) (broadcastInDim S8 ![] bcast_S_S8 (constantI S_ 32 8#32))) fun i =>
          lit0 (S8.rowMajor i)))) shapeCasts_S1024x8x64_S1024x512

/-- A query column in the kernel's order of heads. -/
theorem head_at (W : FVec Ideal S1024x2376 .f32) (k : Fin 1024) (j : Fin 512) :
    heads W (ix2 k j) = W (ix2 k ⟨(j.val / 64 / 2 + 4 * (j.val / 64 % 2)) * 64 + j.val % 64, by omega⟩) := by
  pointwise [heads]
  rw [heads_at _ _ _ _ _ ⟨j.val / 64 / 2 + 4 * (j.val / 64 % 2), by omega⟩ (headIx_at _)]
  pointwise

/-- The array of the projection's columns, as the host computes it. -/
def columns (W : FVec Ideal S1x1024x2376 .f32) : FVec Ideal S1024x2432 .bf16 :=
  truncf .bf16 (concatenate S1024x2432 1 [⟨S1024x512, heads (shapeCast _ W shapeCasts_S1x1024x2376_S1024x2376)⟩,
      ⟨S1024x128, extractStridedSlice S1024x128 ![0, 512] (shapeCast _ W shapeCasts_S1x1024x2376_S1024x2376) slices_S1024x2376_S1024x128_0_512⟩,
      ⟨S1024x128, extractStridedSlice S1024x128 ![0, 640] (shapeCast _ W shapeCasts_S1x1024x2376_S1024x2376) slices_S1024x2376_S1024x128_0_640⟩,
      ⟨S1024x512, extractStridedSlice S1024x512 ![0, 768] (shapeCast _ W shapeCasts_S1x1024x2376_S1024x2376) slices_S1024x2376_S1024x512_0_768⟩,
      ⟨S1024x64, extractStridedSlice S1024x64 ![0, 1280] (shapeCast _ W shapeCasts_S1x1024x2376_S1024x2376) slices_S1024x2376_S1024x64_0_1280⟩,
      ⟨S1024x8, extractStridedSlice S1024x8 ![0, 1344] (shapeCast _ W shapeCasts_S1x1024x2376_S1024x2376) slices_S1024x2376_S1024x8_0_1344⟩,
      ⟨S1024x56, broadcastInDim S1024x56 ![] bcast_S_S1024x56 (constant (F := Ideal) S_ .f32 0x00000000#32)⟩,
      ⟨S1024x512, extractStridedSlice S1024x512 ![0, 1352] (shapeCast _ W shapeCasts_S1x1024x2376_S1024x2376) slices_S1024x2376_S1024x512_0_1352⟩,
      ⟨S1024x512, extractStridedSlice S1024x512 ![0, 1864] (shapeCast _ W shapeCasts_S1x1024x2376_S1024x2376) slices_S1024x2376_S1024x512_0_1864⟩]
      concatenates_S1024x512_S1024x128_S1024x128_S1024x512_S1024x64_S1024x8_S1024x56_S1024x512_S1024x512_S1024x2432_d1) bitsLt_bf16_f32

/-- Narrowing changes no value. -/
theorem narrow_at (v : FVec Ideal S1024x2432 .f32) (i : S1024x2432.Idx) : truncf .bf16 v bitsLt_bf16_f32 i = v i := rfl

/-- The projection without its leading axis. -/
theorem flat_at (w : FVec Ideal S1x1024x2376 .f32) (k : Fin 1024) (j : Fin 2376) :
    shapeCast S1024x2376 w shapeCasts_S1x1024x2376_S1024x2376 (ix2 k j) = w (ix3 0 k j) := by
  pointwise

/-- The columns of zeros. -/
theorem zeros_at (k : Fin 1024) (j : Fin 56) :
    (broadcastInDim S1024x56 ![] bcast_S_S1024x56 (constant (F := Ideal) S_ .f32 0x00000000#32)) (ix2 k j) = (0 : EReal) := by
  pointwise

/-- The array of columns, one element at a time. -/
theorem columns_at (W : FVec Ideal S1x1024x2376 .f32) (k : Fin 1024) (j : Fin 2432) : columns W (ix2 k j) = Layer.laid W k j := by
  unfold columns
  rw [narrow_at, parts_at _ _ _ zeros_at]
  unfold Layer.laid
  split
  · rw [head_at, flat_at]
  split
  · rw [flat_at]
  split
  · rfl
  · rw [flat_at]

/-- The array that the call reads is the array of columns. -/
theorem cols_eq : V m c main_v18 = columns (m ((c : Thread nD τ).loc main_arg2)) := by
  unfold columns
  after_results_simp <;> (try dsimp only [Matrix.cons_val]) <;> (try after_results_simp) <;> rfl

/-- The projection's columns. -/
theorem w_at (k : Fin 1024) (j : Fin 2432) :
    iblk m c 2 t (ix2 k j) = Layer.laid (m ((c : Thread nD τ).loc main_arg2)) k j := by
  have e : iblk m c 2 t (ix2 k j) = V m c main_v18 (ix2 k j) := by blk_ext [iblk, idx t]
  rw [e, cols_eq, columns_at]

end Cert.Kernel3Ideal.Blocks
-- ==== Proof.ProjPieces.lean ====
module

public import proofs.«01_k».proof.Proof.Gen.Kernel3Ideal.Value
public import proofs.«01_k».proof.Proof.Proj
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Tile
open Cert.Kernel3Ideal Cert.Kernel3Ideal.Gen

/-- A tile of 512 rows by 512 columns laid out as four blocks of rows, the four groups of 128 columns one after the other. -/
def blocks (v : FVec Ideal S512x512 .bf16) : FVec Ideal S4x512x128 .bf16 := fun y =>
  v (ix2 ⟨128 * (y 0).val + (y 1).val % 128, by have := (y 0).isLt; simp at this; omega⟩
    ⟨128 * ((y 1).val / 128) + (y 2).val, by have := (y 1).isLt; have := (y 2).isLt; simp at *; omega⟩)

/-- The sixteen stores of the query output lay the tile out so. -/
theorem q_pieces (v : FVec Ideal S512x512 .bf16) (y : S4x512x128.Idx) :
    View.canon ([⟨r0_21, k0_pay1 v⟩, ⟨r0_20, k0_pay41 v⟩, ⟨r0_19, k0_pay39 v⟩, ⟨r0_18, k0_pay37 v⟩, ⟨r0_17, k0_pay35 (k0_pay34 v)⟩, ⟨r0_16, k0_pay32 v⟩, ⟨r0_15, k0_pay30 v⟩, ⟨r0_14, k0_pay28 v⟩, ⟨r0_13, k0_pay26 v⟩, ⟨r0_12, k0_pay24 v⟩, ⟨r0_11, k0_pay22 v⟩, ⟨r0_10, k0_pay20 v⟩, ⟨r0_9, k0_pay17 v⟩, ⟨r0_8, k0_pay15 v⟩, ⟨r0_7, k0_pay13 v⟩, ⟨r0_6, k0_pay11 v⟩] : List (View.Piece (Elt Ideal) S4x512x128 .bf16)) y = blocks v y := by
  refine View.canon_apply_of_pieces (Val := Elt Ideal) (blocks v) _ ?_ y (cover0_3 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  all_goals
    intro x
    idx_vars x
    obtain rfl : x0 = 0 := Subsingleton.elim _ _
    pointwise [k0_pay1, k0_pay41, k0_pay39, k0_pay37, k0_pay35, k0_pay32, k0_pay30, k0_pay28, k0_pay26, k0_pay24, k0_pay22, k0_pay20, k0_pay17, k0_pay15, k0_pay13, k0_pay11, k0_pay34, blocks]
    refine congrArg v (congrArg₂ ix2 (Fin.ext ?_) (Fin.ext ?_))
    all_goals
      blk_simp
      simp only [Fin.coe_ofNat_eq_mod, Nat.reduceMod]
      omega

/-- So do those of the index query output. -/
theorem qi_pieces (u : FVec Ideal S512x512 .f32) (y : S4x512x128.Idx) :
    View.canon ([⟨r0_21, k0_pay2 (k0_pay10 u)⟩, ⟨r0_20, k0_pay42 (k0_pay10 u)⟩, ⟨r0_19, k0_pay40 (k0_pay10 u)⟩, ⟨r0_18, k0_pay38 (k0_pay10 u)⟩, ⟨r0_17, k0_pay36 (k0_pay10 u)⟩, ⟨r0_16, k0_pay33 (k0_pay10 u)⟩, ⟨r0_15, k0_pay31 (k0_pay10 u)⟩, ⟨r0_14, k0_pay29 (k0_pay10 u)⟩, ⟨r0_13, k0_pay27 (k0_pay10 u)⟩, ⟨r0_12, k0_pay25 (k0_pay10 u)⟩, ⟨r0_11, k0_pay23 (k0_pay10 u)⟩, ⟨r0_10, k0_pay21 (k0_pay10 u)⟩, ⟨r0_9, k0_pay19 (k0_pay18 u)⟩, ⟨r0_8, k0_pay16 u⟩, ⟨r0_7, k0_pay14 u⟩, ⟨r0_6, k0_pay12 u⟩] : List (View.Piece (Elt Ideal) S4x512x128 .bf16)) y = blocks (k0_pay10 u) y := by
  refine View.canon_apply_of_pieces (Val := Elt Ideal) (blocks (k0_pay10 (F := Ideal) u)) _ ?_ y (cover0_4 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  all_goals
    intro x
    idx_vars x
    obtain rfl : x0 = 0 := Subsingleton.elim _ _
    pointwise [k0_pay2, k0_pay42, k0_pay40, k0_pay38, k0_pay36, k0_pay33, k0_pay31, k0_pay29, k0_pay27, k0_pay25, k0_pay23, k0_pay21, k0_pay19, k0_pay16, k0_pay14, k0_pay12, k0_pay18, blocks]
    refine congrArg (k0_pay10 (F := Ideal) u) (congrArg₂ ix2 (Fin.ext ?_) (Fin.ext ?_))
    all_goals
      blk_simp
      simp only [Fin.coe_ofNat_eq_mod, Nat.reduceMod]
      omega

end Cert.Kernel3Ideal.Tile
-- ==== Proof.ProjArrays.lean ====
module

public import proofs.«01_k».proof.Proof.ProjTile
public import proofs.«01_k».proof.Proof.ProjBlocks
public import proofs.«01_k».proof.Proof.ProjPieces
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Points
open Cert.Kernel3Ideal Cert.Kernel3Ideal.Gen Cert.Kernel3Ideal.Tile Cert.Kernel3Ideal.Blocks
variable (m : (ℓ : Loc nD τ sig) → Buf (Elt Ideal) ℓ) (c : Dev nD)

/-- The projected row of batch `r / 2048` and time `r % 2048`, its columns as the kernel lays them out. -/
def row (r : Fin 16384) (j : Fin 2432) : EReal :=
  Layer.cols (Layer.proj (m ((c : Thread nD τ).loc main_arg0)) (m ((c : Thread nD τ).loc main_arg1)) (m ((c : Thread nD τ).loc main_arg2)) ⟨r.val / 2048, by omega⟩ ⟨r.val % 2048, by omega⟩) j

/-- The query array: blocks of 128 rows, four groups of 128 columns one after the other. -/
def qArr : FVec Ideal S128x512x128 .bf16 := fun i =>
  row m c ⟨128 * (i 0).val + (i 1).val % 128, by have := (i 0).isLt; simp at this; omega⟩
    ⟨128 * ((i 1).val / 128) + (i 2).val, by have := (i 1).isLt; have := (i 2).isLt; simp at *; omega⟩ * Ideal.ofBits FTy.f32 1040187392#32
/-- The index query array, laid out the same way. -/
def qiArr : FVec Ideal S128x512x128 .bf16 := fun i =>
  row m c ⟨128 * (i 0).val + (i 1).val % 128, by have := (i 0).isLt; simp at this; omega⟩
    ⟨768 + (128 * ((i 1).val / 128) + (i 2).val), by have := (i 1).isLt; have := (i 2).isLt; simp at *; omega⟩ * Ideal.ofBits FTy.f32 1040187392#32
/-- The keys and values, side by side. -/
def kvArr : FVec Ideal S16384x256 .f32 := fun i => row m c (i 0) ⟨512 + (i 1).val, by have := (i 1).isLt; simp at this; omega⟩
/-- The index keys and index weights, side by side, and columns of zeros. -/
def ixArr : FVec Ideal S16384x128 .f32 := fun i => row m c (i 0) ⟨1280 + (i 1).val, by have := (i 1).isLt; simp at this; omega⟩
/-- The gate branch. -/
def gateArr : FVec Ideal S16384x512 .f32 := fun i => row m c (i 0) ⟨1408 + (i 1).val, by have := (i 1).isLt; simp at this; omega⟩
/-- The recurrent branch. -/
def xrArr : FVec Ideal S16384x512 .f32 := fun i => row m c (i 0) ⟨1920 + (i 1).val, by have := (i 1).isLt; simp at this; omega⟩

section
variable (t : Fin cfg0.N)

/-- What a grid point projects. -/
abbrev z : FVec Ideal S512x2432 .f32 :=
  k0_pay3 (F := Ideal) (View.ld (iblk m c 0 t) r0_0) (View.ld (iblk m c 1 t) r0_1) (View.ld (iblk m c 2 t) r0_2)

/-- The projected rows of a grid point's tile. -/
theorem z_row (r : Fin 16384) (i : Fin 512) (h : r.val = 512 * t.val + i.val) (j : Fin 2432) :
    z m c t (ix2 i j) = row m c r j := by
  have e0 : View.ld (iblk m c 0 t) r0_0 = iblk m c 0 t := View.ld_unit_zero (by funext a; fin_cases a <;> rfl) _ _
  have e1 : View.ld (iblk m c 1 t) r0_1 = iblk m c 1 t := View.ld_unit_zero (by funext a; fin_cases a <;> rfl) _ _
  have e2 : View.ld (iblk m c 2 t) r0_2 = iblk m c 2 t := View.ld_unit_zero (by funext a; fin_cases a <;> rfl) _ _
  unfold z row Layer.proj
  rw [e0, e1, e2, z_at, ← Layer.laid_sum]
  refine Finset.sum_congr rfl fun k _ => ?_
  rw [w_at]
  refine congrArg (fun e : EReal => e * Layer.laid _ k j) ?_
  refine congrFun (congrArg₂ Layer.rms (funext fun d => ?_) (funext fun d => g_at m c t d)) k
  exact x_at m c t ⟨r.val / 2048, by omega⟩ ⟨r.val % 2048, by omega⟩ i d (by simp only; omega)

end

/-- The block of each output a grid point writes. -/
theorem oidx : ∀ t : Fin cfg0.N, win0_3.index t = ![t.val, 0, 0] ∧ win0_4.index t = ![t.val, 0, 0] ∧ win0_5.index t = ![t.val, 0]
    ∧ win0_6.index t = ![t.val, 0] ∧ win0_7.index t = ![t.val, 0] ∧ win0_8.index t = ![t.val, 0] :=
  (by decide +kernel : ∀ t : Fin grid0.N, _)

/-- After the run output array 0 holds the query array. -/
theorem arr3 : (dats m 0 c).arrAt 3 cfg0.N = qArr m c := by
  refine Dat.arrAt_eq_of_covers (w := 3) (dats m 0 c) (qArr m c) (by decide +kernel) (fun t hf y => ?_)
  have ht : t.val < 32 := t.isLt
  blk_simp
  idx_vars y
  rw [after0_3]
  have e0 : ((((View.whole main_v23_0).slice (win0_3.rect t)).emb (ix3 y0 y1 y2)) 0).val = 4 * t.val + y0.val := by
    blk_simp [oidx t] <;> omega
  have e1 : ((((View.whole main_v23_0).slice (win0_3.rect t)).emb (ix3 y0 y1 y2)) 1).val = y1.val := by
    blk_simp [oidx t] <;> omega
  have e2 : ((((View.whole main_v23_0).slice (win0_3.rect t)).emb (ix3 y0 y1 y2)) 2).val = y2.val := by
    blk_simp [oidx t] <;> omega
  refine (q_pieces (k0_pay44 (iblk m c 0 t) (iblk m c 1 t) (iblk m c 2 t)) (ix3 y0 y1 y2)).trans ?_
  refine (q_at _ _ _ _ _).trans ?_
  refine congrArg (fun e : EReal => e * Ideal.ofBits FTy.f32 1040187392#32) ?_
  refine (z_row m c t ⟨128 * (4 * t.val + y0.val) + y1.val % 128, by omega⟩ _ (by simp only [ix3_0, ix3_1]; omega) _).trans ?_
  refine congrArg₂ (row m c) (Fin.ext ?_) (Fin.ext ?_)
  · show 128 * (4 * t.val + y0.val) + y1.val % 128 = 128 * _ + _ % 128
    rw [e0, e1]
  · show 128 * (y1.val / 128) + y2.val = 128 * (_ / 128) + _
    rw [e1, e2]

/-- After the run output array 1 holds the index query array. -/
theorem arr4 : (dats m 0 c).arrAt 4 cfg0.N = qiArr m c := by
  refine Dat.arrAt_eq_of_covers (w := 4) (dats m 0 c) (qiArr m c) (by decide +kernel) (fun t hf y => ?_)
  have ht : t.val < 32 := t.isLt
  blk_simp
  idx_vars y
  rw [after0_4]
  have e0 : ((((View.whole main_v23_1).slice (win0_4.rect t)).emb (ix3 y0 y1 y2)) 0).val = 4 * t.val + y0.val := by
    blk_simp [oidx t] <;> omega
  have e1 : ((((View.whole main_v23_1).slice (win0_4.rect t)).emb (ix3 y0 y1 y2)) 1).val = y1.val := by
    blk_simp [oidx t] <;> omega
  have e2 : ((((View.whole main_v23_1).slice (win0_4.rect t)).emb (ix3 y0 y1 y2)) 2).val = y2.val := by
    blk_simp [oidx t] <;> omega
  refine (qi_pieces (k0_pay43 (iblk m c 0 t) (iblk m c 1 t) (iblk m c 2 t)) (ix3 y0 y1 y2)).trans ?_
  refine (qi_at _ _ _ _ _).trans ?_
  refine congrArg (fun e : EReal => e * Ideal.ofBits FTy.f32 1040187392#32) ?_
  refine (z_row m c t ⟨128 * (4 * t.val + y0.val) + y1.val % 128, by omega⟩ _ (by simp only [ix3_0, ix3_1]; omega) _).trans ?_
  refine congrArg₂ (row m c) (Fin.ext ?_) (Fin.ext ?_)
  · show 128 * (4 * t.val + y0.val) + y1.val % 128 = 128 * _ + _ % 128
    rw [e0, e1]
  · show 768 + (128 * (y1.val / 128) + y2.val) = 768 + (128 * (_ / 128) + _)
    rw [e1, e2]

/-- After the run output array 2 holds the keys and values. -/
theorem arr5 : (dats m 0 c).arrAt 5 cfg0.N = kvArr m c := by
  refine Dat.arrAt_eq_of_covers (w := 5) (dats m 0 c) (kvArr m c) (by decide +kernel) (fun t hf y => ?_)
  have ht : t.val < 32 := t.isLt
  blk_simp
  idx_vars y
  rw [after0_5]
  have e0 : ((((View.whole main_v23_2).slice (win0_5.rect t)).emb (ix2 y0 y1)) 0).val = 512 * t.val + y0.val := by
    blk_simp [oidx t] <;> omega
  have e1 : ((((View.whole main_v23_2).slice (win0_5.rect t)).emb (ix2 y0 y1)) 1).val = y1.val := by
    blk_simp [oidx t] <;> omega
  refine (Value.canon5_eq _ _ _ (ix2 y0 y1)).trans ?_
  refine Eq.trans (b := z m c t (ix2 y0 ⟨512 + y1.val, by omega⟩)) (congrArg (z m c t) ?_) ?_
  · funext a
    refine Fin.ext ?_
    fin_cases a
    · rfl
    · show y1.val + 512 = 512 + y1.val
      omega
  refine (z_row m c t ⟨512 * t.val + y0.val, by omega⟩ y0 rfl _).trans ?_
  refine congrArg₂ (row m c) (Fin.ext ?_) (Fin.ext ?_)
  · exact e0.symm
  · show 512 + y1.val = 512 + _
    rw [e1]

/-- After the run output array 3 holds the index keys and weights. -/
theorem arr6 : (dats m 0 c).arrAt 6 cfg0.N = ixArr m c := by
  refine Dat.arrAt_eq_of_covers (w := 6) (dats m 0 c) (ixArr m c) (by decide +kernel) (fun t hf y => ?_)
  have ht : t.val < 32 := t.isLt
  blk_simp
  idx_vars y
  rw [after0_6]
  have e0 : ((((View.whole main_v23_3).slice (win0_6.rect t)).emb (ix2 y0 y1)) 0).val = 512 * t.val + y0.val := by
    blk_simp [oidx t] <;> omega
  have e1 : ((((View.whole main_v23_3).slice (win0_6.rect t)).emb (ix2 y0 y1)) 1).val = y1.val := by
    blk_simp [oidx t] <;> omega
  refine (Value.canon6_eq _ _ _ (ix2 y0 y1)).trans ?_
  refine Eq.trans (b := z m c t (ix2 y0 ⟨1280 + y1.val, by omega⟩)) (congrArg (z m c t) ?_) ?_
  · funext a
    refine Fin.ext ?_
    fin_cases a
    · rfl
    · show y1.val + 1280 = 1280 + y1.val
      omega
  refine (z_row m c t ⟨512 * t.val + y0.val, by omega⟩ y0 rfl _).trans ?_
  refine congrArg₂ (row m c) (Fin.ext ?_) (Fin.ext ?_)
  · exact e0.symm
  · show 1280 + y1.val = 1280 + _
    rw [e1]

/-- After the run output array 4 holds the gate branch. -/
theorem arr7 : (dats m 0 c).arrAt 7 cfg0.N = gateArr m c := by
  refine Dat.arrAt_eq_of_covers (w := 7) (dats m 0 c) (gateArr m c) (by decide +kernel) (fun t hf y => ?_)
  have ht : t.val < 32 := t.isLt
  blk_simp
  idx_vars y
  rw [after0_7]
  have e0 : ((((View.whole main_v23_4).slice (win0_7.rect t)).emb (ix2 y0 y1)) 0).val = 512 * t.val + y0.val := by
    blk_simp [oidx t] <;> omega
  have e1 : ((((View.whole main_v23_4).slice (win0_7.rect t)).emb (ix2 y0 y1)) 1).val = y1.val := by
    blk_simp [oidx t] <;> omega
  refine (Value.canon7_eq _ _ _ (ix2 y0 y1)).trans ?_
  refine Eq.trans (b := z m c t (ix2 y0 ⟨1408 + y1.val, by omega⟩)) (congrArg (z m c t) ?_) ?_
  · funext a
    refine Fin.ext ?_
    fin_cases a
    · rfl
    · show y1.val + 1408 = 1408 + y1.val
      omega
  refine (z_row m c t ⟨512 * t.val + y0.val, by omega⟩ y0 rfl _).trans ?_
  refine congrArg₂ (row m c) (Fin.ext ?_) (Fin.ext ?_)
  · exact e0.symm
  · show 1408 + y1.val = 1408 + _
    rw [e1]

/-- After the run output array 5 holds the recurrent branch. -/
theorem arr8 : (dats m 0 c).arrAt 8 cfg0.N = xrArr m c := by
  refine Dat.arrAt_eq_of_covers (w := 8) (dats m 0 c) (xrArr m c) (by decide +kernel) (fun t hf y => ?_)
  have ht : t.val < 32 := t.isLt
  blk_simp
  idx_vars y
  rw [after0_8]
  have e0 : ((((View.whole main_v23_5).slice (win0_8.rect t)).emb (ix2 y0 y1)) 0).val = 512 * t.val + y0.val := by
    blk_simp [oidx t] <;> omega
  have e1 : ((((View.whole main_v23_5).slice (win0_8.rect t)).emb (ix2 y0 y1)) 1).val = y1.val := by
    blk_simp [oidx t] <;> omega
  refine (Value.canon8_eq _ _ _ (ix2 y0 y1)).trans ?_
  refine Eq.trans (b := z m c t (ix2 y0 ⟨1920 + y1.val, by omega⟩)) (congrArg (z m c t) ?_) ?_
  · funext a
    refine Fin.ext ?_
    fin_cases a
    · rfl
    · show y1.val + 1920 = 1920 + y1.val
      omega
  refine (z_row m c t ⟨512 * t.val + y0.val, by omega⟩ y0 rfl _).trans ?_
  refine congrArg₂ (row m c) (Fin.ext ?_) (Fin.ext ?_)
  · exact e0.symm
  · show 1920 + y1.val = 1920 + _
    rw [e1]

end Cert.Kernel3Ideal.Points
-- ==== Proof.RefProj.lean ====
module

public import proofs.«01_k».proof.Proof.Gen.Reference3Ideal.Run
public import proofs.«01_k».proof.Proof.Proj
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference3Ideal.Stages
open Cert.Reference3Ideal Cert.Reference3Ideal.Gen

/-- The projected rows. -/
def projected (a0 : FVec Ideal S8x2048x1024 .f32) (a1 : FVec Ideal S2x1024 .f32) (a2 : FVec Ideal S1x1024x2376 .f32) :
    FVec Ideal S8x2048x2376 .f32 :=
  Host.dotGeneral dot_S8x2048x1024_S1024x2376_S8x2048x2376_2_0_01_1_n_n none (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x2376_S1024x2376)

/-- The query array, from the projected rows. -/
def queries (Z : FVec Ideal S8x2048x2376 .f32) : FVec Ideal S128x512x128 .bf16 :=
  truncf .bf16 (shapeCast _ (transpose S128x4x128x2x64 [0, 3, 1, 2, 4] (shapeCast _ (mulf (extractStridedSlice S8x2048x512 ![0, 0, 0] Z slices_S8x2048x2376_S8x2048x512_0_0_0) (broadcastInDim S8x2048x512 ![] bcast_S_S8x2048x512 (constant S_ .f32 0x3E000000#32))) shapeCasts_S8x2048x512_S128x128x2x4x64) transposes_S128x128x2x4x64_S128x4x128x2x64_0_3_1_2_4) shapeCasts_S128x4x128x2x64_S128x512x128) bitsLt_bf16_f32

/-- The index query array, from the projected rows. -/
def indexQueries (Z : FVec Ideal S8x2048x2376 .f32) : FVec Ideal S128x512x128 .bf16 :=
  truncf .bf16 (shapeCast _ (transpose S128x4x128x128 [0, 2, 1, 3] (shapeCast _ (mulf (extractStridedSlice S8x2048x512 ![0, 0, 768] Z slices_S8x2048x2376_S8x2048x512_0_0_768) (broadcastInDim S8x2048x512 ![] bcast_S_S8x2048x512 (constant S_ .f32 0x3E000000#32))) shapeCasts_S8x2048x512_S128x128x4x128) transposes_S128x128x4x128_S128x4x128x128_0_2_1_3) shapeCasts_S128x4x128x128_S128x512x128) bitsLt_bf16_f32

/-- The keys beside the values, from the projected rows. -/
def keysValues (Z : FVec Ideal S8x2048x2376 .f32) : FVec Ideal S16384x256 .f32 :=
  shapeCast _ (concatenate S8x2048x256 2 [⟨S8x2048x128, (extractStridedSlice S8x2048x128 ![0, 0, 512] Z slices_S8x2048x2376_S8x2048x128_0_0_512)⟩, ⟨S8x2048x128, (extractStridedSlice S8x2048x128 ![0, 0, 640] Z slices_S8x2048x2376_S8x2048x128_0_0_640)⟩] concatenates_S8x2048x128_S8x2048x128_S8x2048x256_d2) shapeCasts_S8x2048x256_S16384x256

/-- The index keys, index weights and columns of zeros, from the projected rows. -/
def indexKeys (Z : FVec Ideal S8x2048x2376 .f32) : FVec Ideal S16384x128 .f32 :=
  shapeCast _ (concatenate S8x2048x128 2 [⟨S8x2048x64, (extractStridedSlice S8x2048x64 ![0, 0, 1280] Z slices_S8x2048x2376_S8x2048x64_0_0_1280)⟩, ⟨S8x2048x8, (extractStridedSlice S8x2048x8 ![0, 0, 1344] Z slices_S8x2048x2376_S8x2048x8_0_0_1344)⟩, ⟨S8x2048x56, (broadcastInDim S8x2048x56 ![] bcast_S_S8x2048x56 (constant S_ .f32 0x00000000#32) : FVec Ideal S8x2048x56 .f32)⟩] concatenates_S8x2048x64_S8x2048x8_S8x2048x56_S8x2048x128_d2) shapeCasts_S8x2048x128_S16384x128

/-- The gate branch, from the projected rows. -/
def gates (Z : FVec Ideal S8x2048x2376 .f32) : FVec Ideal S16384x512 .f32 :=
  shapeCast _ (extractStridedSlice S8x2048x512 ![0, 0, 1352] Z slices_S8x2048x2376_S8x2048x512_0_0_1352) shapeCasts_S8x2048x512_S16384x512

/-- The recurrent branch, from the projected rows. -/
def recurrents (Z : FVec Ideal S8x2048x2376 .f32) : FVec Ideal S16384x512 .f32 :=
  shapeCast _ (extractStridedSlice S8x2048x512 ![0, 0, 1864] Z slices_S8x2048x2376_S8x2048x512_0_0_1864) shapeCasts_S8x2048x512_S16384x512

/-- The projected rows, one element at a time. -/
theorem projected_at (a0 : FVec Ideal S8x2048x1024 .f32) (a1 : FVec Ideal S2x1024 .f32) (a2 : FVec Ideal S1x1024x2376 .f32)
    (b : Fin 8) (s : Fin 2048) (j : Fin 2376) : projected a0 a1 a2 (ix3 b s j) = Layer.proj a0 a1 a2 b s j := by
  pointwise [projected]
  rfl

variable (Z : FVec Ideal S8x2048x2376 .f32)

/-- The query array, one element at a time. -/
theorem queries_at (n : Fin 128) (p : Fin 512) (l : Fin 128) : queries Z (ix3 n p l)
    = Z (ix3 ⟨(128 * n.val + p.val % 128) / 2048, by omega⟩ ⟨(128 * n.val + p.val % 128) % 2048, by omega⟩
        ⟨(p.val / 128 + 4 * (l.val / 64)) * 64 + l.val % 64, by omega⟩) * Ideal.ofBits FTy.f32 1040187392#32 := by
  pointwise [queries]
  refine congrArg (fun e : EReal => e * Ideal.ofBits FTy.f32 1040187392#32) ?_
  refine congrArg Z ?_
  refine congr (congrArg₂ ix3 (Fin.ext ?_) (Fin.ext ?_)) (Fin.ext ?_) <;> simp only <;> omega

/-- The index query array, one element at a time. -/
theorem indexQueries_at (n : Fin 128) (p : Fin 512) (l : Fin 128) : indexQueries Z (ix3 n p l)
    = Z (ix3 ⟨(128 * n.val + p.val % 128) / 2048, by omega⟩ ⟨(128 * n.val + p.val % 128) % 2048, by omega⟩
        ⟨768 + (128 * (p.val / 128) + l.val), by omega⟩) * Ideal.ofBits FTy.f32 1040187392#32 := by
  pointwise [indexQueries]
  refine congrArg (fun e : EReal => e * Ideal.ofBits FTy.f32 1040187392#32) ?_
  refine congrArg Z ?_
  refine congr (congrArg₂ ix3 (Fin.ext ?_) (Fin.ext ?_)) (Fin.ext ?_) <;> simp only <;> omega

/-- The keys and values, one element at a time. -/
theorem keysValues_at (r : Fin 16384) (j : Fin 256) : keysValues Z (ix2 r j)
    = Z (ix3 ⟨r.val / 2048, by omega⟩ ⟨r.val % 2048, by omega⟩ ⟨512 + j.val, by omega⟩) := by
  pointwise [keysValues]
  split
  · rfl
  · exact congrArg Z (congrArg (ix3 _ _) (Fin.ext (by simp only; omega)))

/-- The index keys and weights, one element at a time. -/
theorem indexKeys_at (r : Fin 16384) (j : Fin 128) : indexKeys Z (ix2 r j)
    = if h : j.val < 72 then Z (ix3 ⟨r.val / 2048, by omega⟩ ⟨r.val % 2048, by omega⟩ ⟨1280 + j.val, by omega⟩) else (0 : EReal) := by
  pointwise [indexKeys]
  by_cases h : j.val < 64
  · rw [dif_pos h, dif_pos (by omega)]
  · rw [dif_neg h]
    by_cases h' : j.val < 72
    · rw [dif_pos (by omega), dif_pos h']
      exact congrArg Z (congrArg (ix3 _ _) (Fin.ext (by simp only; omega)))
    · rw [dif_neg (by omega), dif_neg h']

/-- The gate branch, one element at a time. -/
theorem gates_at (r : Fin 16384) (j : Fin 512) : gates Z (ix2 r j)
    = Z (ix3 ⟨r.val / 2048, by omega⟩ ⟨r.val % 2048, by omega⟩ ⟨1352 + j.val, by omega⟩) := by
  pointwise [gates]

/-- The recurrent branch, one element at a time. -/
theorem recurrents_at (r : Fin 16384) (j : Fin 512) : recurrents Z (ix2 r j)
    = Z (ix3 ⟨r.val / 2048, by omega⟩ ⟨r.val % 2048, by omega⟩ ⟨1864 + j.val, by omega⟩) := by
  pointwise [recurrents]

end Cert.Reference3Ideal.Stages
-- ==== Proof.ProjEquation.lean ====
module

public import proofs.«01_k».proof.Proof.Gen.Reference3Ideal.Run
public import proofs.«01_k».proof.Proof.ProjArrays
public import proofs.«01_k».proof.Proof.RefProj
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
namespace Cert.ProjEquation
open Cert.Reference3Ideal.Stages Cert.Kernel3Ideal.Points
variable (m : (ℓ : Loc Kernel3Ideal.nD Kernel3Ideal.τ Kernel3Ideal.sig) → Buf (Elt Ideal) ℓ) (c : Dev Kernel3Ideal.nD)

/-- The reference's projected rows from the kernel's arguments. -/
abbrev rZ := projected (m ((c.tc : Thread Kernel3Ideal.nD Kernel3Ideal.τ).loc Kernel3Ideal.main_arg0))
  (m ((c.tc : Thread Kernel3Ideal.nD Kernel3Ideal.τ).loc Kernel3Ideal.main_arg1))
  (m ((c.tc : Thread Kernel3Ideal.nD Kernel3Ideal.τ).loc Kernel3Ideal.main_arg2))

/-- A query column of the kernel's projected row is a column of the reference's. -/
theorem row_low (r : Fin 16384) (j : Fin 2432) (h : j.val < 512) : row m c r j
    = rZ m c (ix3 ⟨r.val / 2048, by omega⟩ ⟨r.val % 2048, by omega⟩ ⟨(j.val / 64 / 2 + 4 * (j.val / 64 % 2)) * 64 + j.val % 64, by omega⟩) := by
  unfold rZ
  rw [projected_at]
  exact dif_pos h

/-- So is a column up to the index weights. -/
theorem row_mid (r : Fin 16384) (j : Fin 2432) (h : ¬ j.val < 512) (h' : j.val < 1352) : row m c r j
    = rZ m c (ix3 ⟨r.val / 2048, by omega⟩ ⟨r.val % 2048, by omega⟩ ⟨j.val, by omega⟩) := by
  unfold rZ
  rw [projected_at]
  exact (dif_neg h).trans (dif_pos h')

/-- The columns after them are zero. -/
theorem row_zero (r : Fin 16384) (j : Fin 2432) (h : ¬ j.val < 1352) (h' : j.val < 1408) : row m c r j = 0 :=
  (dif_neg (by omega)).trans ((dif_neg h).trans (dif_pos h'))

/-- The two branches' columns stand 56 columns further in the kernel's row. -/
theorem row_high (r : Fin 16384) (j : Fin 2432) (h : ¬ j.val < 1408) : row m c r j
    = rZ m c (ix3 ⟨r.val / 2048, by omega⟩ ⟨r.val % 2048, by omega⟩ ⟨j.val - 56, by omega⟩) := by
  unfold rZ
  rw [projected_at]
  exact (dif_neg (by omega)).trans ((dif_neg (by omega)).trans (dif_neg h))

/-- The reference's queries are the kernel's. -/
theorem queries_eq : queries (rZ m c) = qArr m c := by
  funext y
  idx_vars y
  have h0 : y0.val < 128 := y0.isLt
  have h1 : y1.val < 512 := y1.isLt
  have h2 : y2.val < 128 := y2.isLt
  rw [queries_at]
  refine congrArg (fun e : EReal => e * Ideal.ofBits FTy.f32 1040187392#32) ?_
  refine Eq.trans ?_ (row_low m c ⟨128 * y0.val + y1.val % 128, by omega⟩ ⟨128 * (y1.val / 128) + y2.val, by omega⟩
    (by simp only; omega)).symm
  refine congrArg (rZ m c) (congrArg (ix3 _ _) (Fin.ext ?_))
  have e1 : (128 * (y1.val / 128) + y2.val) / 64 = 2 * (y1.val / 128) + y2.val / 64 := by omega
  have e2 : (128 * (y1.val / 128) + y2.val) % 64 = y2.val % 64 := by omega
  have e3 : (2 * (y1.val / 128) + y2.val / 64) / 2 = y1.val / 128 := by omega
  have e4 : (2 * (y1.val / 128) + y2.val / 64) % 2 = y2.val / 64 := by omega
  simp only [e1, e2, e3, e4]

/-- The reference's index queries are the kernel's. -/
theorem indexQueries_eq : indexQueries (rZ m c) = qiArr m c := by
  funext y
  idx_vars y
  have h0 : y0.val < 128 := y0.isLt
  have h1 : y1.val < 512 := y1.isLt
  have h2 : y2.val < 128 := y2.isLt
  rw [indexQueries_at]
  refine congrArg (fun e : EReal => e * Ideal.ofBits FTy.f32 1040187392#32) ?_
  exact (row_mid m c ⟨128 * y0.val + y1.val % 128, by omega⟩ ⟨768 + (128 * (y1.val / 128) + y2.val), by omega⟩
    (by simp only; omega) (by simp only; omega)).symm

/-- The reference's keys and values are the kernel's. -/
theorem keysValues_eq : keysValues (rZ m c) = kvArr m c := by
  funext y
  idx_vars y
  rw [keysValues_at]
  exact (row_mid m c y0 ⟨512 + y1.val, by omega⟩ (by simp only; omega) (by simp only; omega)).symm

/-- The reference's index keys and weights are the kernel's. -/
theorem indexKeys_eq : indexKeys (rZ m c) = ixArr m c := by
  funext y
  idx_vars y
  rw [indexKeys_at]
  by_cases h : y1.val < 72
  · rw [dif_pos h]
    exact (row_mid m c y0 ⟨1280 + y1.val, by omega⟩ (by simp only; omega) (by simp only; omega)).symm
  · rw [dif_neg h]
    exact (row_zero m c y0 ⟨1280 + y1.val, by omega⟩ (by simp only; omega) (by simp only; omega)).symm

/-- The reference's gate branch is the kernel's. -/
theorem gates_eq : gates (rZ m c) = gateArr m c := by
  funext y
  idx_vars y
  rw [gates_at]
  refine Eq.trans ?_ (row_high m c y0 ⟨1408 + y1.val, by omega⟩ (by simp only; omega)).symm
  exact congrArg (rZ m c) (congrArg (ix3 _ _) (Fin.ext (by simp only; omega)))

/-- The reference's recurrent branch is the kernel's. -/
theorem recurrents_eq : recurrents (rZ m c) = xrArr m c := by
  funext y
  idx_vars y
  rw [recurrents_at]
  refine Eq.trans ?_ (row_high m c y0 ⟨1920 + y1.val, by omega⟩ (by simp only; omega)).symm
  exact congrArg (rZ m c) (congrArg (ix3 _ _) (Fin.ext (by simp only; omega)))

end Cert.ProjEquation
-- ==== Proof.ProjClaims.lean ====
module

public import proofs.«01_k».proof.Defs
public import proofs.«01_k».proof.Proof.Gen.Kernel3.Frame
public import proofs.«01_k».proof.Proof.Gen.Kernel3Ideal.Frame
public import proofs.«01_k».proof.Proof.ProjEquation
public import Idealize.ShloMosaic.Lib.Quiescent

@[expose] public section

noncomputable section

open Idealize.ShloMosaic Idealize.ShloMosaic.TcCoe Idealize.SL.Sem

namespace Cert.ProjClaims
open Cert.Reference3Ideal.Stages

/-- The kernel of the first layer's projection ends quiescent with its arguments unchanged. -/
theorem frame : Cert.quiescent_Kernel3 (hKernel3 := Cert.Kernel3.Gen.facts) := fun m ρ _ => Cert.Kernel3.Gen.frame m ρ
/-- So does its ideal program. -/
theorem frame_ideal : Cert.quiescent_Kernel3Ideal (hKernel3Ideal := Cert.Kernel3Ideal.Gen.facts) :=
  fun m ρ _ => Cert.Kernel3Ideal.Gen.frame m ρ
/-- So does the reference, which has no semaphore. -/
theorem frame_reference : Cert.quiescent_Reference3Ideal (hReference3Ideal := Cert.Reference3Ideal.Gen.facts) := fun m ρ _ =>
  (θ_run Cert.Reference3Ideal.defs _ _).mono
    (fun r h => ⟨fun c => (h c).2.2.2.2.2.2, sem_eq_zero_of_no_sems (by decide) r.2⟩)
    (Cert.Reference3Ideal.Value.run (F := Ideal) m ρ)

/-- The kernel's six results are the reference's, on arguments that agree. -/
theorem equal : Cert.algebraic_Kernel3Ideal_Reference3Ideal (hKernel3Ideal := Cert.Kernel3Ideal.Gen.facts)
    (hReference3Ideal := Cert.Reference3Ideal.Gen.facts) := by
  intro m ρ m' ρ' _ hag
  refine ⟨fun c => Cert.Kernel3Ideal.Points.qArr m c, fun c => Cert.Kernel3Ideal.Points.qiArr m c,
    fun c => Cert.Kernel3Ideal.Points.kvArr m c, fun c => Cert.Kernel3Ideal.Points.ixArr m c,
    fun c => Cert.Kernel3Ideal.Points.gateArr m c, fun c => Cert.Kernel3Ideal.Points.xrArr m c, ?_, ?_⟩
  · exact (θ_run Cert.Kernel3Ideal.defs _ _).mono
      (fun _ h c => ⟨(h c).1.trans (Cert.Kernel3Ideal.Points.arr3 m c),
        (h c).2.1.trans (Cert.Kernel3Ideal.Points.arr4 m c), (h c).2.2.1.trans (Cert.Kernel3Ideal.Points.arr5 m c),
        (h c).2.2.2.1.trans (Cert.Kernel3Ideal.Points.arr6 m c), (h c).2.2.2.2.1.trans (Cert.Kernel3Ideal.Points.arr7 m c),
        (h c).2.2.2.2.2.1.trans (Cert.Kernel3Ideal.Points.arr8 m c), (h c).2.2.2.2.2.2⟩)
      (Cert.Kernel3Ideal.Value.run_blocks (F := Ideal) m ρ)
  · refine (θ_run Cert.Reference3Ideal.defs _ _).mono
      (fun _ h c => ⟨(h c).1.trans ?_, (h c).2.1.trans ?_, (h c).2.2.1.trans ?_, (h c).2.2.2.1.trans ?_,
        (h c).2.2.2.2.1.trans ?_, (h c).2.2.2.2.2.1.trans ?_, (h c).2.2.2.2.2.2⟩)
      (Cert.Reference3Ideal.Value.run (F := Ideal) m' ρ')
    all_goals
      obtain ⟨h0, h1, h2⟩ := hag c
      rw [h0, h1, h2]
    · exact Cert.ProjEquation.queries_eq m c
    · exact Cert.ProjEquation.indexQueries_eq m c
    · exact Cert.ProjEquation.keysValues_eq m c
    · exact Cert.ProjEquation.indexKeys_eq m c
    · exact Cert.ProjEquation.gates_eq m c
    · exact Cert.ProjEquation.recurrents_eq m c

end Cert.ProjClaims
-- ==== Proof.SampTile.lean ====
module

public import proofs.«01_k».proof.Proof.Gen.Kernel6Ideal.Value
public import proofs.«01_k».proof.Proof.ProjBlocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Tile
open Cert.Kernel6Ideal Cert.Kernel6Ideal.Gen

section
variable (y : FVec Ideal S32x1024 .f32) (g : FVec Ideal S1x1024 .f32) (w : FVec Ideal S1024x2432 .bf16) (i : Fin 32)

/-- The projection of the samples' rows: the normalised rows times the columns. -/
theorem z_at (j : Fin 2432) : (k0_pay5 (F := Ideal) y g w) (ix2 i j)
    = ∑ k, Layer.rms (fun d => y (ix2 i d)) (fun d => g (ix2 0 d)) k * w (ix2 k j) := by
  pointwise [k0_pay5]
  rfl

/-- The scaled query columns. -/
theorem q_at (j : Fin 512) : (k0_pay6 (F := Ideal) y g w) (ix2 i j)
    = (k0_pay5 (F := Ideal) y g w) (ix2 i ⟨j.val, by omega⟩) * Ideal.ofBits FTy.f32 1040187392#32 := by
  pointwise [k0_pay6]

end

/-- The mask of the first 64 lanes. -/
theorem mask_at (i : Fin 32) (l : Fin 128) :
    k0_pay12 (iota .tc S32x128 32 [1] iota_S32x128_d1_w32) (ix2 i l) = if l.val < 64 then 1#1 else 0#1 := by
  pointwise [k0_pay12]
  revert l
  decide

/-- The query columns of a row spread over eight heads: each head has its own half of 128 lanes, and zero in the other. -/
def spread (u : FVec Ideal S32x512 .f32) : FVec Ideal S8x32x128 .f32 := fun y =>
  if (y 2).val / 64 = (y 0).val % 2 then
    u (ix2 (y 1) ⟨128 * ((y 0).val / 2) + (y 2).val, by have := (y 0).isLt; have := (y 2).isLt; simp at *; omega⟩)
  else (0 : EReal)

/-- The eight stores of the query output spread the row so. -/
theorem q_pieces (u : FVec Ideal S32x512 .f32) (v : IVec S32x128 32)
    (hv : ∀ i l, k0_pay12 v (ix2 i l) = if l.val < 64 then 1#1 else 0#1) (y : S8x32x128.Idx) :
    View.canon ([⟨r0_13, k0_pay4 u (k0_pay12 v)⟩, ⟨r0_12, k0_pay3 u (k0_pay12 v)⟩, ⟨r0_11, k0_pay1 (k0_pay21 u v)⟩,
      ⟨r0_10, k0_pay20 u v⟩, ⟨r0_9, k0_pay18 u v⟩, ⟨r0_8, k0_pay17 u v⟩, ⟨r0_7, k0_pay15 u v⟩, ⟨r0_6, k0_pay14 u v⟩] :
      List (View.Piece (Elt Ideal) S8x32x128 .f32)) y = spread u y := by
  refine View.canon_apply_of_pieces (Val := Elt Ideal) (spread u) _ ?_ y (cover0_3 _ _ _ _ _ _ _ _ y)
  intro pc hpc
  simp only [List.mem_cons, List.not_mem_nil, or_false] at hpc
  rcases hpc with rfl | rfl | rfl | rfl | rfl | rfl | rfl | rfl
  all_goals
    intro x
    idx_vars x
    obtain rfl : x0 = 0 := Subsingleton.elim _ _
    pointwise [k0_pay1, k0_pay2, k0_pay3, k0_pay4, k0_pay13, k0_pay14, k0_pay15, k0_pay16, k0_pay17, k0_pay18, k0_pay19,
      k0_pay20, k0_pay21, spread, hv]
    have h2 : x2.val < 128 := x2.isLt
    by_cases hl : x2.val < 64
    all_goals
      first | rw [if_pos hl] | rw [if_neg hl]
      first
        | (refine Eq.trans ?_ (if_pos (by
              blk_simp
              try simp only [Fin.coe_ofNat_eq_mod, Nat.reduceMod]
              omega)).symm
           refine congrArg u (congrArg₂ ix2 (Fin.ext ?_) (Fin.ext ?_))
           all_goals
             blk_simp
             try simp only [Fin.coe_ofNat_eq_mod, Nat.reduceMod]
             try omega)
        | (refine Eq.trans ?_ (if_neg (by
              blk_simp
              try simp only [Fin.coe_ofNat_eq_mod, Nat.reduceMod]
              omega)).symm
           rfl)

end Cert.Kernel6Ideal.Tile
-- ==== Proof.SampArrays.lean ====
module

public import proofs.«01_k».proof.Proof.SampTile
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Points
open Cert.Kernel6Ideal Cert.Kernel6Ideal.Gen Cert.Kernel6Ideal.Tile
variable (m : (ℓ : Loc nD τ sig) → Buf (Elt Ideal) ℓ) (c : Dev nD)

/-- The projected row of a sample, its columns as the kernel lays them out. -/
def row (i : Fin 32) (j : Fin 2432) : EReal :=
  Layer.cols (Layer.projRow (fun d => m ((c : Thread nD τ).loc main_arg0) (ix3 i 0 d)) (m ((c : Thread nD τ).loc main_arg1))
    (m ((c : Thread nD τ).loc main_arg2))) j

/-- The scaled query columns of every row. -/
def scaled : FVec Ideal S32x512 .f32 := fun y =>
  row m c (y 0) ⟨(y 1).val, by have := (y 1).isLt; simp at this; omega⟩ * Ideal.ofBits FTy.f32 1040187392#32

/-- The query array: eight heads, each in its half of 128 lanes. -/
def qArr : FVec Ideal S8x32x128 .f32 := spread (scaled m c)
/-- The scaled index queries. -/
def qiArr : FVec Ideal S32x512 .f32 := fun y =>
  row m c (y 0) ⟨768 + (y 1).val, by have := (y 1).isLt; simp at this; omega⟩ * Ideal.ofBits FTy.f32 1040187392#32
/-- The keys and values, side by side. -/
def kvArr : FVec Ideal S32x256 .f32 := fun y => row m c (y 0) ⟨512 + (y 1).val, by have := (y 1).isLt; simp at this; omega⟩
/-- The index keys and index weights, side by side, and columns of zeros. -/
def ixArr : FVec Ideal S32x128 .f32 := fun y => row m c (y 0) ⟨1280 + (y 1).val, by have := (y 1).isLt; simp at this; omega⟩
/-- The gate branch. -/
def gateArr : FVec Ideal S32x512 .f32 := fun y => row m c (y 0) ⟨1408 + (y 1).val, by have := (y 1).isLt; simp at this; omega⟩
/-- The recurrent branch. -/
def xrArr : FVec Ideal S32x512 .f32 := fun y => row m c (y 0) ⟨1920 + (y 1).val, by have := (y 1).isLt; simp at this; omega⟩

/-- The block each input window shows at the grid point. -/
theorem idx : ∀ t : Fin cfg0.N, win0_0.index t = ![0, 0] ∧ win0_1.index t = ![0, 0] ∧ win0_2.index t = ![0, 0] :=
  (by decide +kernel : ∀ t : Fin grid0.N, _)

section
variable (t : Fin cfg0.N)

/-- A row of the samples. -/
theorem x_at (i : Fin 32) (d : Fin 1024) : iblk m c 0 t (ix2 i d) = m ((c : Thread nD τ).loc main_arg0) (ix3 i 0 d) := by
  have e : iblk m c 0 t (ix2 i d) = V m c main_v22 (ix2 i d) := by blk_ext [iblk, idx t]
  rw [e]
  entry_read
  pointwise

/-- The gain of the normalisation. -/
theorem g_at (d : Fin 1024) : iblk m c 1 t (ix2 0 d) = Layer.gain 0 (m ((c : Thread nD τ).loc main_arg1)) d := by
  have e : iblk m c 1 t (ix2 0 d) = V m c main_v21 (ix2 0 d) := by blk_ext [iblk, idx t]
  rw [e]
  entry_read
  pointwise [Layer.gain]

/-- The array of columns that the call reads is that of the prompt's call. -/
theorem cols_eq : V m c main_v18 = Kernel3Ideal.Blocks.columns (m ((c : Thread nD τ).loc main_arg2)) := by
  unfold Kernel3Ideal.Blocks.columns
  after_results_simp <;> (try dsimp only [Matrix.cons_val]) <;> (try after_results_simp) <;> rfl

/-- The projection's columns. -/
theorem w_at (k : Fin 1024) (j : Fin 2432) : iblk m c 2 t (ix2 k j) = Layer.laid (m ((c : Thread nD τ).loc main_arg2)) k j := by
  have e : iblk m c 2 t (ix2 k j) = V m c main_v18 (ix2 k j) := by blk_ext [iblk, idx t]
  rw [e, cols_eq, Kernel3Ideal.Blocks.columns_at]

/-- What the grid point projects. -/
abbrev z : FVec Ideal S32x2432 .f32 :=
  k0_pay5 (F := Ideal) (View.ld (iblk m c 0 t) r0_0) (View.ld (iblk m c 1 t) r0_1) (View.ld (iblk m c 2 t) r0_2)

/-- The projected rows. -/
theorem z_row (i : Fin 32) (j : Fin 2432) : z m c t (ix2 i j) = row m c i j := by
  have e0 : View.ld (iblk m c 0 t) r0_0 = iblk m c 0 t := View.ld_unit_zero (by funext a; fin_cases a <;> rfl) _ _
  have e1 : View.ld (iblk m c 1 t) r0_1 = iblk m c 1 t := View.ld_unit_zero (by funext a; fin_cases a <;> rfl) _ _
  have e2 : View.ld (iblk m c 2 t) r0_2 = iblk m c 2 t := View.ld_unit_zero (by funext a; fin_cases a <;> rfl) _ _
  unfold z row
  rw [e0, e1, e2, z_at, ← Layer.laid_sum]
  refine Finset.sum_congr rfl fun k _ => ?_
  rw [w_at]
  refine congrArg (fun e : EReal => e * Layer.laid _ k j) ?_
  exact congrFun (congrArg₂ Layer.rms (funext fun d => x_at m c t i d) (funext fun d => g_at m c t d)) k

end

/-- The block of each output is the whole array. -/
theorem oidx : ∀ t : Fin cfg0.N, win0_3.index t = ![0, 0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)

/-- After the run output array 0 holds the query array. -/
theorem arr3 : (dats m 0 c).arrAt 3 cfg0.N = qArr m c := by
  refine Dat.arrAt_eq_of_covers (w := 3) (dats m 0 c) (qArr m c) (by decide +kernel) (fun t hf y => ?_)
  blk_simp
  idx_vars y
  rw [after0_3]
  refine (q_pieces (k0_pay23 (iblk m c 0 t) (iblk m c 1 t) (iblk m c 2 t)) (k0_pay22 (iblk m c 0 t) (iblk m c 1 t) (iblk m c 2 t))
    mask_at (ix3 y0 y1 y2)).trans ?_
  have e : (((View.whole main_v23_0).slice (win0_3.rect t)).emb (ix3 y0 y1 y2)) = ix3 y0 y1 y2 := by
    funext a
    refine Fin.ext ?_
    fin_cases a <;> blk_simp [oidx t]
  refine Eq.trans ?_ (congrArg (qArr m c) e).symm
  refine congrFun (congrArg spread (funext fun u => ?_)) _
  idx_vars u
  refine (q_at _ _ _ _ _).trans ?_
  refine congrArg (fun e : EReal => e * Ideal.ofBits FTy.f32 1040187392#32) ?_
  exact z_row m c t u0 _

/-- After the run output array 1 holds the scaled index queries. -/
theorem arr4 : (dats m 0 c).arrAt 4 cfg0.N = qiArr m c := by
  refine Dat.arrAt_eq_of_covers (w := 4) (dats m 0 c) (qiArr m c) (by decide +kernel) (fun t hf y => ?_)
  blk_simp
  idx_vars y
  rw [after0_4]
  have e : (((View.whole main_v23_1).slice (win0_4.rect t)).emb (ix2 y0 y1)) = ix2 y0 y1 := by
    funext a
    refine Fin.ext ?_
    fin_cases a <;> blk_simp [oidx t]
  refine Eq.trans ?_ (congrArg (qiArr m c) e).symm
  refine (Value.canon4_eq _ _ _ (ix2 y0 y1)).trans ?_
  refine congrArg (fun e : EReal => e * Ideal.ofBits FTy.f32 1040187392#32) ?_
  refine Eq.trans (b := z m c t (ix2 y0 ⟨768 + y1.val, by omega⟩)) (congrArg (z m c t) ?_) (z_row m c t y0 _)
  funext a
  refine Fin.ext ?_
  fin_cases a
  · rfl
  · show y1.val + 768 = 768 + y1.val
    omega

/-- After the run output array 2 holds the keys and values, side by side. -/
theorem arr5 : (dats m 0 c).arrAt 5 cfg0.N = kvArr m c := by
  refine Dat.arrAt_eq_of_covers (w := 5) (dats m 0 c) (kvArr m c) (by decide +kernel) (fun t hf y => ?_)
  blk_simp
  idx_vars y
  rw [after0_5]
  have e : (((View.whole main_v23_2).slice (win0_5.rect t)).emb (ix2 y0 y1)) = ix2 y0 y1 := by
    funext a
    refine Fin.ext ?_
    fin_cases a <;> blk_simp [oidx t]
  refine Eq.trans ?_ (congrArg (kvArr m c) e).symm
  refine (Value.canon5_eq _ _ _ (ix2 y0 y1)).trans ?_
  refine Eq.trans (b := z m c t (ix2 y0 ⟨512 + y1.val, by omega⟩)) (congrArg (z m c t) ?_) (z_row m c t y0 _)
  funext a
  refine Fin.ext ?_
  fin_cases a
  · rfl
  · show y1.val + 512 = 512 + y1.val
    omega

/-- After the run output array 3 holds the index keys and index weights, side by side, and columns of zeros. -/
theorem arr6 : (dats m 0 c).arrAt 6 cfg0.N = ixArr m c := by
  refine Dat.arrAt_eq_of_covers (w := 6) (dats m 0 c) (ixArr m c) (by decide +kernel) (fun t hf y => ?_)
  blk_simp
  idx_vars y
  rw [after0_6]
  have e : (((View.whole main_v23_3).slice (win0_6.rect t)).emb (ix2 y0 y1)) = ix2 y0 y1 := by
    funext a
    refine Fin.ext ?_
    fin_cases a <;> blk_simp [oidx t]
  refine Eq.trans ?_ (congrArg (ixArr m c) e).symm
  refine (Value.canon6_eq _ _ _ (ix2 y0 y1)).trans ?_
  refine Eq.trans (b := z m c t (ix2 y0 ⟨1280 + y1.val, by omega⟩)) (congrArg (z m c t) ?_) (z_row m c t y0 _)
  funext a
  refine Fin.ext ?_
  fin_cases a
  · rfl
  · show y1.val + 1280 = 1280 + y1.val
    omega

/-- After the run output array 4 holds the gate branch. -/
theorem arr7 : (dats m 0 c).arrAt 7 cfg0.N = gateArr m c := by
  refine Dat.arrAt_eq_of_covers (w := 7) (dats m 0 c) (gateArr m c) (by decide +kernel) (fun t hf y => ?_)
  blk_simp
  idx_vars y
  rw [after0_7]
  have e : (((View.whole main_v23_4).slice (win0_7.rect t)).emb (ix2 y0 y1)) = ix2 y0 y1 := by
    funext a
    refine Fin.ext ?_
    fin_cases a <;> blk_simp [oidx t]
  refine Eq.trans ?_ (congrArg (gateArr m c) e).symm
  refine (Value.canon7_eq _ _ _ (ix2 y0 y1)).trans ?_
  refine Eq.trans (b := z m c t (ix2 y0 ⟨1408 + y1.val, by omega⟩)) (congrArg (z m c t) ?_) (z_row m c t y0 _)
  funext a
  refine Fin.ext ?_
  fin_cases a
  · rfl
  · show y1.val + 1408 = 1408 + y1.val
    omega

/-- After the run output array 5 holds the recurrent branch. -/
theorem arr8 : (dats m 0 c).arrAt 8 cfg0.N = xrArr m c := by
  refine Dat.arrAt_eq_of_covers (w := 8) (dats m 0 c) (xrArr m c) (by decide +kernel) (fun t hf y => ?_)
  blk_simp
  idx_vars y
  rw [after0_8]
  have e : (((View.whole main_v23_5).slice (win0_8.rect t)).emb (ix2 y0 y1)) = ix2 y0 y1 := by
    funext a
    refine Fin.ext ?_
    fin_cases a <;> blk_simp [oidx t]
  refine Eq.trans ?_ (congrArg (xrArr m c) e).symm
  refine (Value.canon8_eq _ _ _ (ix2 y0 y1)).trans ?_
  refine Eq.trans (b := z m c t (ix2 y0 ⟨1920 + y1.val, by omega⟩)) (congrArg (z m c t) ?_) (z_row m c t y0 _)
  funext a
  refine Fin.ext ?_
  fin_cases a
  · rfl
  · show y1.val + 1920 = 1920 + y1.val
    omega

end Cert.Kernel6Ideal.Points
-- ==== Proof.RefSamp.lean ====
module

public import proofs.«01_k».proof.Proof.Gen.Reference6Ideal.Run
public import proofs.«01_k».proof.Proof.Proj
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference6Ideal.Stages
open Cert.Reference6Ideal Cert.Reference6Ideal.Gen

/-- The projected rows. -/
def projected (a0 : FVec Ideal S32x1x1024 .f32) (a1 : FVec Ideal S2x1024 .f32) (a2 : FVec Ideal S1x1024x2376 .f32) :
    FVec Ideal S32x1x2376 .f32 :=
  Host.dotGeneral dot_S32x1x1024_S1024x2376_S32x1x2376_2_0_01_1_n_n none (mulf (mulf a0 (broadcastInDim S32x1x1024 ![0, 1, 2] bcast_S32x1x1_S32x1x1024_0_1_2 (Host.rsqrt (addf (Host.divf (broadcastInDim S32x1x1 ![0, 1] bcast_S32x1_S32x1x1_0_1 (Host.reduceAdd (mulf a0 a0) (constant S_ .f32 0x00000000#32) reducesTo_S32x1x1024_S32x1_d2 h_S_)) (broadcastInDim S32x1x1 ![] bcast_S_S32x1x1 (constant S_ .f32 0x44800000#32))) (broadcastInDim S32x1x1 ![] bcast_S_S32x1x1 (constant S_ .f32 0x358637BD#32)))))) (broadcastInDim S32x1x1024 ![0, 1, 2] bcast_S1x1x1024_S32x1x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x2376_S1024x2376)

/-- The query array, from the projected rows. -/
def queries (Z : FVec Ideal S32x1x2376 .f32) : FVec Ideal S8x32x128 .f32 :=
  transpose S8x32x128 [1, 0, 2] (shapeCast _ (concatenate S32x4x2x128 2 [⟨S32x4x1x128, (broadcastInDim S32x4x1x128 ![0, 1, 3] bcast_S32x4x128_S32x4x1x128_0_1_3 (pad S32x4x128 ![0, 0, 0] ![0, 0, 64] ![0, 0, 0] (shapeCast _ (extractStridedSlice S32x1x4x64 ![0, 0, 0, 0] (shapeCast _ (mulf (extractStridedSlice S32x1x512 ![0, 0, 0] Z slices_S32x1x2376_S32x1x512_0_0_0) (broadcastInDim S32x1x512 ![] bcast_S_S32x1x512 (constant S_ .f32 0x3E000000#32))) shapeCasts_S32x1x512_S32x2x4x64) slices_S32x2x4x64_S32x1x4x64_0_0_0_0) shapeCasts_S32x1x4x64_S32x4x64) (sitofp .f32 (constantI S_ 32 0#32)) pads_S32x4x64_S32x4x128_000_000_0640 h_S_))⟩, ⟨S32x4x1x128, (broadcastInDim S32x4x1x128 ![0, 1, 3] bcast_S32x4x128_S32x4x1x128_0_1_3 (pad S32x4x128 ![0, 0, 64] ![0, 0, 0] ![0, 0, 0] (shapeCast _ (extractStridedSlice S32x1x4x64 ![0, 1, 0, 0] (shapeCast _ (mulf (extractStridedSlice S32x1x512 ![0, 0, 0] Z slices_S32x1x2376_S32x1x512_0_0_0) (broadcastInDim S32x1x512 ![] bcast_S_S32x1x512 (constant S_ .f32 0x3E000000#32))) shapeCasts_S32x1x512_S32x2x4x64) slices_S32x2x4x64_S32x1x4x64_0_1_0_0) shapeCasts_S32x1x4x64_S32x4x64) (sitofp .f32 (constantI S_ 32 0#32)) pads_S32x4x64_S32x4x128_000_000_6400 h_S_))⟩] concatenates_S32x4x1x128_S32x4x1x128_S32x4x2x128_d2) shapeCasts_S32x4x2x128_S32x8x128) transposes_S32x8x128_S8x32x128_1_0_2

/-- The index queries, from the projected rows. -/
def indexQueries (Z : FVec Ideal S32x1x2376 .f32) : FVec Ideal S32x512 .f32 :=
  shapeCast _ (mulf (extractStridedSlice S32x1x512 ![0, 0, 768] Z slices_S32x1x2376_S32x1x512_0_0_768) (broadcastInDim S32x1x512 ![] bcast_S_S32x1x512 (constant S_ .f32 0x3E000000#32))) shapeCasts_S32x1x512_S32x512

/-- The keys beside the values, from the projected rows. -/
def keysValues (Z : FVec Ideal S32x1x2376 .f32) : FVec Ideal S32x256 .f32 :=
  shapeCast _ (concatenate S32x1x256 2 [⟨S32x1x128, (extractStridedSlice S32x1x128 ![0, 0, 512] Z slices_S32x1x2376_S32x1x128_0_0_512)⟩, ⟨S32x1x128, (extractStridedSlice S32x1x128 ![0, 0, 640] Z slices_S32x1x2376_S32x1x128_0_0_640)⟩] concatenates_S32x1x128_S32x1x128_S32x1x256_d2) shapeCasts_S32x1x256_S32x256

/-- The index keys, index weights and columns of zeros, from the projected rows. -/
def indexKeys (Z : FVec Ideal S32x1x2376 .f32) : FVec Ideal S32x128 .f32 :=
  shapeCast _ ((concatenate S32x1x128 2 [⟨S32x1x64, ((extractStridedSlice S32x1x64 ![0, 0, 1280] Z slices_S32x1x2376_S32x1x64_0_0_1280))⟩, ⟨S32x1x8, ((extractStridedSlice S32x1x8 ![0, 0, 1344] Z slices_S32x1x2376_S32x1x8_0_0_1344))⟩, ⟨S32x1x56, ((broadcastInDim S32x1x56 ![] bcast_S_S32x1x56 (constant S_ .f32 0x00000000#32)) : FVec Ideal S32x1x56 .f32)⟩] concatenates_S32x1x64_S32x1x8_S32x1x56_S32x1x128_d2)) shapeCasts_S32x1x128_S32x128

/-- The gate branch, from the projected rows. -/
def gates (Z : FVec Ideal S32x1x2376 .f32) : FVec Ideal S32x512 .f32 :=
  shapeCast _ (extractStridedSlice S32x1x512 ![0, 0, 1352] Z slices_S32x1x2376_S32x1x512_0_0_1352) shapeCasts_S32x1x512_S32x512

/-- The recurrent branch, from the projected rows. -/
def recurrents (Z : FVec Ideal S32x1x2376 .f32) : FVec Ideal S32x512 .f32 :=
  shapeCast _ (extractStridedSlice S32x1x512 ![0, 0, 1864] Z slices_S32x1x2376_S32x1x512_0_0_1864) shapeCasts_S32x1x512_S32x512

/-- The projected rows, one element at a time. -/
theorem projected_at (a0 : FVec Ideal S32x1x1024 .f32) (a1 : FVec Ideal S2x1024 .f32) (a2 : FVec Ideal S1x1024x2376 .f32)
    (b : Fin 32) (j : Fin 2376) : projected a0 a1 a2 (ix3 b 0 j) = Layer.projRow (fun d => a0 (ix3 b 0 d)) a1 a2 j := by
  pointwise [projected]
  rfl

variable (Z : FVec Ideal S32x1x2376 .f32)

/-- The query array, one element at a time. -/
theorem queries_at (n : Fin 8) (b : Fin 32) (l : Fin 128) : queries Z (ix3 n b l)
    = if l.val / 64 = n.val % 2 then
        Z (ix3 b 0 ⟨(n.val / 2 + 4 * (n.val % 2)) * 64 + l.val % 64, by omega⟩) * Ideal.ofBits FTy.f32 1040187392#32
      else (0 : EReal) := by
  have hz : FloatOps.sitofp (F := Ideal) FTy.f32 0#32 = (0 : EReal) := by
    show ((((0#32 : BitVec 32).toInt : ℝ)) : EReal) = 0
    simp
  pointwise [queries]
  by_cases h : n.val % 2 < 1
  · refine (dif_pos h).trans ?_
    by_cases h' : l.val < 64
    · refine (dif_pos ⟨by omega, h'⟩).trans ?_
      refine Eq.trans ?_ (if_pos (by omega)).symm
      refine congrArg (fun e : EReal => e * Ideal.ofBits FTy.f32 1040187392#32) ?_
      exact congrArg Z (congrArg (ix3 b 0) (Fin.ext (by simp only; omega)))
    · refine (dif_neg (fun x => h' x.2)).trans ?_
      exact hz.trans (if_neg (by omega)).symm
  · refine (dif_neg h).trans ?_
    by_cases h' : 64 ≤ l.val
    · refine (dif_pos ⟨by omega, h', by omega⟩).trans ?_
      refine Eq.trans ?_ (if_pos (by omega)).symm
      refine congrArg (fun e : EReal => e * Ideal.ofBits FTy.f32 1040187392#32) ?_
      exact congrArg Z (congrArg (ix3 b 0) (Fin.ext (by simp only; omega)))
    · refine (dif_neg (fun x => h' x.2.1)).trans ?_
      exact hz.trans (if_neg (by omega)).symm

/-- The index queries, one element at a time. -/
theorem indexQueries_at (b : Fin 32) (j : Fin 512) : indexQueries Z (ix2 b j)
    = Z (ix3 b 0 ⟨768 + j.val, by omega⟩) * Ideal.ofBits FTy.f32 1040187392#32 := by
  pointwise [indexQueries]

/-- The keys and values, one element at a time. -/
theorem keysValues_at (b : Fin 32) (j : Fin 256) : keysValues Z (ix2 b j) = Z (ix3 b 0 ⟨512 + j.val, by omega⟩) := by
  pointwise [keysValues]
  split
  · rfl
  · exact congrArg Z (congrArg (ix3 _ _) (Fin.ext (by simp only; omega)))

/-- The index keys and weights, one element at a time. -/
theorem indexKeys_at (b : Fin 32) (j : Fin 128) : indexKeys Z (ix2 b j)
    = if h : j.val < 72 then Z (ix3 b 0 ⟨1280 + j.val, by omega⟩) else (0 : EReal) := by
  pointwise [indexKeys]
  by_cases h : j.val < 64
  · rw [dif_pos h, dif_pos (by omega)]
  · rw [dif_neg h]
    by_cases h' : j.val < 72
    · rw [dif_pos (by omega), dif_pos h']
      exact congrArg Z (congrArg (ix3 _ _) (Fin.ext (by simp only; omega)))
    · rw [dif_neg (by omega), dif_neg h']

/-- The gate branch, one element at a time. -/
theorem gates_at (b : Fin 32) (j : Fin 512) : gates Z (ix2 b j) = Z (ix3 b 0 ⟨1352 + j.val, by omega⟩) := by
  pointwise [gates]

/-- The recurrent branch, one element at a time. -/
theorem recurrents_at (b : Fin 32) (j : Fin 512) : recurrents Z (ix2 b j) = Z (ix3 b 0 ⟨1864 + j.val, by omega⟩) := by
  pointwise [recurrents]

end Cert.Reference6Ideal.Stages
-- ==== Proof.SampEquation.lean ====
module

public import proofs.«01_k».proof.Proof.Gen.Reference6Ideal.Run
public import proofs.«01_k».proof.Proof.SampArrays
public import proofs.«01_k».proof.Proof.RefSamp
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SampEquation
open Cert.Reference6Ideal.Stages Cert.Kernel6Ideal.Points
variable (m : (ℓ : Loc Kernel6Ideal.nD Kernel6Ideal.τ Kernel6Ideal.sig) → Buf (Elt Ideal) ℓ) (c : Dev Kernel6Ideal.nD)

/-- The reference's projected rows from the kernel's arguments. -/
abbrev rZ := projected (m ((c.tc : Thread Kernel6Ideal.nD Kernel6Ideal.τ).loc Kernel6Ideal.main_arg0))
  (m ((c.tc : Thread Kernel6Ideal.nD Kernel6Ideal.τ).loc Kernel6Ideal.main_arg1))
  (m ((c.tc : Thread Kernel6Ideal.nD Kernel6Ideal.τ).loc Kernel6Ideal.main_arg2))

/-- A query column of the kernel's projected row is a column of the reference's. -/
theorem row_low (i : Fin 32) (j : Fin 2432) (h : j.val < 512) : row m c i j
    = rZ m c (ix3 i 0 ⟨(j.val / 64 / 2 + 4 * (j.val / 64 % 2)) * 64 + j.val % 64, by omega⟩) := by
  unfold rZ
  rw [projected_at]
  exact dif_pos h

/-- So is a column up to the index weights. -/
theorem row_mid (i : Fin 32) (j : Fin 2432) (h : ¬ j.val < 512) (h' : j.val < 1352) : row m c i j
    = rZ m c (ix3 i 0 ⟨j.val, by omega⟩) := by
  unfold rZ
  rw [projected_at]
  exact (dif_neg h).trans (dif_pos h')

/-- The columns after them are zero. -/
theorem row_zero (i : Fin 32) (j : Fin 2432) (h : ¬ j.val < 1352) (h' : j.val < 1408) : row m c i j = 0 :=
  (dif_neg (by omega)).trans ((dif_neg h).trans (dif_pos h'))

/-- The two branches' columns stand 56 columns further in the kernel's row. -/
theorem row_high (i : Fin 32) (j : Fin 2432) (h : ¬ j.val < 1408) : row m c i j
    = rZ m c (ix3 i 0 ⟨j.val - 56, by omega⟩) := by
  unfold rZ
  rw [projected_at]
  exact (dif_neg (by omega)).trans ((dif_neg (by omega)).trans (dif_neg h))

/-- The reference's queries are the kernel's. -/
theorem queries_eq : queries (rZ m c) = qArr m c := by
  funext y
  idx_vars y
  have h0 : y0.val < 8 := y0.isLt
  have h2 : y2.val < 128 := y2.isLt
  rw [queries_at]
  show _ = if y2.val / 64 = y0.val % 2 then
    row m c y1 ⟨128 * (y0.val / 2) + y2.val, by omega⟩ * Ideal.ofBits FTy.f32 1040187392#32 else (0 : EReal)
  by_cases h : y2.val / 64 = y0.val % 2
  · rw [if_pos h, if_pos h]
    refine congrArg (fun e : EReal => e * Ideal.ofBits FTy.f32 1040187392#32) ?_
    refine Eq.trans ?_ (row_low m c y1 ⟨128 * (y0.val / 2) + y2.val, by omega⟩ (by simp only; omega)).symm
    refine congrArg (rZ m c) (congrArg (ix3 _ _) (Fin.ext ?_))
    have e1 : (128 * (y0.val / 2) + y2.val) / 64 = 2 * (y0.val / 2) + y2.val / 64 := by omega
    have e2 : (128 * (y0.val / 2) + y2.val) % 64 = y2.val % 64 := by omega
    have e3 : (2 * (y0.val / 2) + y2.val / 64) / 2 = y0.val / 2 := by omega
    have e4 : (2 * (y0.val / 2) + y2.val / 64) % 2 = y0.val % 2 := by omega
    simp only [e1, e2, e3, e4]
  · rw [if_neg h, if_neg h]

/-- The reference's index queries are the kernel's. -/
theorem indexQueries_eq : indexQueries (rZ m c) = qiArr m c := by
  funext y
  idx_vars y
  have h1 : y1.val < 512 := y1.isLt
  rw [indexQueries_at]
  refine congrArg (fun e : EReal => e * Ideal.ofBits FTy.f32 1040187392#32) ?_
  exact (row_mid m c y0 ⟨768 + y1.val, by omega⟩ (by simp only; omega) (by simp only; omega)).symm

/-- The reference's keys and values are the kernel's. -/
theorem keysValues_eq : keysValues (rZ m c) = kvArr m c := by
  funext y
  idx_vars y
  rw [keysValues_at]
  exact (row_mid m c y0 ⟨512 + y1.val, by omega⟩ (by simp only; omega) (by simp only; omega)).symm

/-- The reference's index keys and weights are the kernel's. -/
theorem indexKeys_eq : indexKeys (rZ m c) = ixArr m c := by
  funext y
  idx_vars y
  rw [indexKeys_at]
  by_cases h : y1.val < 72
  · rw [dif_pos h]
    exact (row_mid m c y0 ⟨1280 + y1.val, by omega⟩ (by simp only; omega) (by simp only; omega)).symm
  · rw [dif_neg h]
    exact (row_zero m c y0 ⟨1280 + y1.val, by omega⟩ (by simp only; omega) (by simp only; omega)).symm

/-- The reference's gate branch is the kernel's. -/
theorem gates_eq : gates (rZ m c) = gateArr m c := by
  funext y
  idx_vars y
  rw [gates_at]
  refine Eq.trans ?_ (row_high m c y0 ⟨1408 + y1.val, by omega⟩ (by simp only; omega)).symm
  exact congrArg (rZ m c) (congrArg (ix3 _ _) (Fin.ext (by simp only; omega)))

/-- The reference's recurrent branch is the kernel's. -/
theorem recurrents_eq : recurrents (rZ m c) = xrArr m c := by
  funext y
  idx_vars y
  rw [recurrents_at]
  refine Eq.trans ?_ (row_high m c y0 ⟨1920 + y1.val, by omega⟩ (by simp only; omega)).symm
  exact congrArg (rZ m c) (congrArg (ix3 _ _) (Fin.ext (by simp only; omega)))

end Cert.SampEquation
-- ==== Proof.SampClaims.lean ====
module

public import proofs.«01_k».proof.Defs
public import proofs.«01_k».proof.Proof.Gen.Kernel6.Frame
public import proofs.«01_k».proof.Proof.Gen.Kernel6Ideal.Frame
public import proofs.«01_k».proof.Proof.SampEquation
public import Idealize.ShloMosaic.Lib.Quiescent

@[expose] public section

noncomputable section

open Idealize.ShloMosaic Idealize.ShloMosaic.TcCoe Idealize.SL.Sem

namespace Cert.SampClaims
open Cert.Reference6Ideal.Stages

/-- The kernel of the samples' projection ends quiescent with its arguments unchanged. -/
theorem frame : Cert.quiescent_Kernel6 (hKernel6 := Cert.Kernel6.Gen.facts) := fun m ρ _ => Cert.Kernel6.Gen.frame m ρ
/-- So does its ideal program. -/
theorem frame_ideal : Cert.quiescent_Kernel6Ideal (hKernel6Ideal := Cert.Kernel6Ideal.Gen.facts) :=
  fun m ρ _ => Cert.Kernel6Ideal.Gen.frame m ρ
/-- So does the reference, which has no semaphore. -/
theorem frame_reference : Cert.quiescent_Reference6Ideal (hReference6Ideal := Cert.Reference6Ideal.Gen.facts) := fun m ρ _ =>
  (θ_run Cert.Reference6Ideal.defs _ _).mono
    (fun r h => ⟨fun c => (h c).2.2.2.2.2.2, sem_eq_zero_of_no_sems (by decide) r.2⟩)
    (Cert.Reference6Ideal.Value.run (F := Ideal) m ρ)

/-- The kernel's six results are the reference's, on arguments that agree. -/
theorem equal : Cert.algebraic_Kernel6Ideal_Reference6Ideal (hKernel6Ideal := Cert.Kernel6Ideal.Gen.facts)
    (hReference6Ideal := Cert.Reference6Ideal.Gen.facts) := by
  intro m ρ m' ρ' _ hag
  refine ⟨fun c => Cert.Kernel6Ideal.Points.qArr m c, fun c => Cert.Kernel6Ideal.Points.qiArr m c,
    fun c => Cert.Kernel6Ideal.Points.kvArr m c, fun c => Cert.Kernel6Ideal.Points.ixArr m c,
    fun c => Cert.Kernel6Ideal.Points.gateArr m c, fun c => Cert.Kernel6Ideal.Points.xrArr m c, ?_, ?_⟩
  · exact (θ_run Cert.Kernel6Ideal.defs _ _).mono
      (fun _ h c => ⟨(h c).1.trans (Cert.Kernel6Ideal.Points.arr3 m c),
        (h c).2.1.trans (Cert.Kernel6Ideal.Points.arr4 m c), (h c).2.2.1.trans (Cert.Kernel6Ideal.Points.arr5 m c),
        (h c).2.2.2.1.trans (Cert.Kernel6Ideal.Points.arr6 m c), (h c).2.2.2.2.1.trans (Cert.Kernel6Ideal.Points.arr7 m c),
        (h c).2.2.2.2.2.1.trans (Cert.Kernel6Ideal.Points.arr8 m c), (h c).2.2.2.2.2.2⟩)
      (Cert.Kernel6Ideal.Value.run_blocks (F := Ideal) m ρ)
  · refine (θ_run Cert.Reference6Ideal.defs _ _).mono
      (fun _ h c => ⟨(h c).1.trans ?_, (h c).2.1.trans ?_, (h c).2.2.1.trans ?_, (h c).2.2.2.1.trans ?_,
        (h c).2.2.2.2.1.trans ?_, (h c).2.2.2.2.2.1.trans ?_, (h c).2.2.2.2.2.2⟩)
      (Cert.Reference6Ideal.Value.run (F := Ideal) m' ρ')
    all_goals
      obtain ⟨h0, h1, h2⟩ := hag c
      rw [h0, h1, h2]
    · exact Cert.SampEquation.queries_eq m c
    · exact Cert.SampEquation.indexQueries_eq m c
    · exact Cert.SampEquation.keysValues_eq m c
    · exact Cert.SampEquation.indexKeys_eq m c
    · exact Cert.SampEquation.gates_eq m c
    · exact Cert.SampEquation.recurrents_eq m c

end Cert.SampClaims
-- ==== Proof.Step.lean ====
module

public import proofs.«01_k».proof.Proof.Arrays
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Layer

/-- The convolution of width three at one time step, from the two gate rows before it and its own. -/
def convStep (cw : Fin 3 → Fin 2816 → EReal) (cb : Fin 2816 → EReal) (P : Fin 2 → Fin 2816 → EReal) (g : Fin 2816 → EReal)
    (j : Fin 2816) : EReal :=
  cb j + cw 0 j * P 0 j + cw 1 j * P 1 j + cw 2 j * g j

/-- The convolutional feed-forward layer at one time step: `h` is the normalised row, `P` the two gate rows before it. -/
def ffnStep (h : Fin 1024 → EReal) (w : Fin 1024 → Fin 5632 → EReal) (cw : Fin 3 → Fin 2816 → EReal) (cb : Fin 2816 → EReal)
    (P : Fin 2 → Fin 2816 → EReal) (wd : Fin 2816 → Fin 1024 → EReal) (d : Fin 1024) : EReal :=
  ∑ j, gelu (convStep cw cb P (gate h w) j) * val h w j * wd j d

/-- Its sum is the sum over its two halves of columns. -/
theorem ffnStep_halves (h : Fin 1024 → EReal) (w : Fin 1024 → Fin 5632 → EReal) (cw : Fin 3 → Fin 2816 → EReal)
    (cb : Fin 2816 → EReal) (P : Fin 2 → Fin 2816 → EReal) (wd : Fin 2816 → Fin 1024 → EReal) (d : Fin 1024) :
    ffnStep h w cw cb P wd d
      = (∑ x, gelu (convStep cw cb P (gate h w) (lo x)) * val h w (lo x) * wd (lo x) d)
        + ∑ x, gelu (convStep cw cb P (gate h w) (hi x)) * val h w (hi x) * wd (hi x) d := by
  unfold ffnStep
  rw [Fin.sum_univ_two_halves 1408 1408 rfl]
  rfl

/-- The residual sum of one row after the first layer's two mixing branches. -/
def mixedRow (x : Fin 1024 → EReal) (a r : Fin 512 → EReal) (W : Fin 1024 → Fin 1024 → EReal) (d : Fin 1024) : EReal :=
  x d + ∑ k, a k * W (headCol k) d + ∑ k, r k * W ⟨512 + k.val, by omega⟩ d

end Cert.Layer
-- ==== Proof.DecPostTile.lean ====
module

public import proofs.«01_k».proof.Proof.Gen.Kernel5Ideal.Skeleton
public import proofs.«01_k».proof.Proof.Step
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.Kernel5Ideal.Tile
open Cert.Kernel5Ideal Cert.Kernel5Ideal.Gen

variable (y : FVec Ideal S32x1024 .f32) (a r : FVec Ideal S32x512 .bf16) (wa wb : FVec Ideal S512x1024 .bf16)
  (g : FVec Ideal S1x1024 .f32) (h : FVec Ideal S32x1024 .bf16) (w : FVec Ideal S1024x1408 .bf16)
  (i : Fin 32) (d : Fin 1024) (x : Fin 1408)

/-- The residual sum: the input plus the two projected branches. -/
theorem resid_at : (k0_pay2 (F := Ideal) y a wa r wb) (ix2 i d)
    = y (ix2 i d) + ∑ k, a (ix2 i k) * wa (ix2 k d) + ∑ k, r (ix2 i k) * wb (ix2 k d) := by
  pointwise [k0_pay2]

/-- The normalised rows. -/
theorem norm_at : (k0_pay3 (F := Ideal) y a wa r wb g) (ix2 i d)
    = Layer.rms (fun d => (k0_pay2 (F := Ideal) y a wa r wb) (ix2 i d)) (fun d => g (ix2 0 d)) d := by
  pointwise [k0_pay3]
  rfl

/-- The gate projection of the first half of the columns. -/
theorem gate0_at : (k0_pay5 (F := Ideal) y a wa r wb g w) (ix2 i x)
    = ∑ k, (k0_pay3 (F := Ideal) y a wa r wb g) (ix2 i k) * w (ix2 k x) := by
  pointwise [k0_pay5]
/-- The value projection of the first half of the columns. -/
theorem val0_at : (k0_pay6 (F := Ideal) y a wa r wb g w) (ix2 i x)
    = ∑ k, (k0_pay3 (F := Ideal) y a wa r wb g) (ix2 i k) * w (ix2 k x) := by
  pointwise [k0_pay6]
/-- The gate projection of the second half of the columns. -/
theorem gate1_at : (k0_pay8 (F := Ideal) h w) (ix2 i x) = ∑ k, h (ix2 i k) * w (ix2 k x) := by
  pointwise [k0_pay8]
/-- The value projection of the second half of the columns. -/
theorem val1_at : (k0_pay9 (F := Ideal) h w) (ix2 i x) = ∑ k, h (ix2 i k) * w (ix2 k x) := by
  pointwise [k0_pay9]

/-- The convolution of the second half of the columns. -/
theorem conv1_at (p1 p0 : FVec Ideal S1x32x1408 .f32) (cb c0 c1 c2 : FVec Ideal S1x1408 .f32) :
    (k0_pay10 (F := Ideal) h w p1 p0 cb c0 c1 c2) (ix2 i x)
      = cb (ix2 0 x) + c0 (ix2 0 x) * p0 (ix3 0 i x) + c1 (ix2 0 x) * p1 (ix3 0 i x)
        + c2 (ix2 0 x) * (k0_pay8 (F := Ideal) h w) (ix2 i x) := by
  pointwise [k0_pay10]

/-- The first half's part of the feed-forward output. -/
theorem half0_at (gt u : FVec Ideal S32x1408 .f32) (p1 p0 : FVec Ideal S1x32x1408 .f32) (cb c0 c1 c2 : FVec Ideal S1x1408 .f32)
    (wd : FVec Ideal S1408x1024 .bf16) :
    (k0_pay7 (F := Ideal) (k0_pay4 (F := Ideal)) gt u p1 p0 cb c0 c1 c2 wd) (ix2 i d)
      = ∑ x, Layer.gelu (cb (ix2 0 x) + c0 (ix2 0 x) * p0 (ix3 0 i x) + c1 (ix2 0 x) * p1 (ix3 0 i x) + c2 (ix2 0 x) * gt (ix2 i x))
          * u (ix2 i x) * wd (ix2 x d) := by
  pointwise [k0_pay7, k0_pay4]
  rfl

/-- The output: the residual plus the two halves of the feed-forward output. -/
theorem out_at (y1 f0 : FVec Ideal S32x1024 .f32) (u : FVec Ideal S32x1408 .f32) (p1 p0 : FVec Ideal S1x32x1408 .f32)
    (cb c0 c1 c2 : FVec Ideal S1x1408 .f32) (wd : FVec Ideal S1408x1024 .bf16) :
    (k0_pay1 (F := Ideal) y1 f0 u (k0_pay10 (F := Ideal) h w p1 p0 cb c0 c1 c2) (k0_pay11 (F := Ideal) h w p1 p0 cb c0 c1 c2)
        (k0_pay12 (F := Ideal)) wd) (ix2 i d)
      = y1 (ix2 i d) + (f0 (ix2 i d) + ∑ x, Layer.gelu ((k0_pay10 (F := Ideal) h w p1 p0 cb c0 c1 c2) (ix2 i x))
          * u (ix2 i x) * wd (ix2 x d)) := by
  pointwise [k0_pay1, k0_pay11, k0_pay12]
  rfl

end Cert.Kernel5Ideal.Tile
-- ==== Proof.DecPostRows.lean ====
module

public import proofs.«01_k».proof.Proof.Gen.Kernel5Ideal.Value
public import proofs.«01_k».proof.Proof.DecPostTile
public import proofs.«01_k».proof.Proof.PostBlocks
public import proofs.«01_k».proof.Proof.Pieces
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.Kernel5Ideal.Points
open Cert.Kernel5Ideal Cert.Kernel5Ideal.Gen Cert.Kernel5Ideal.Tile
variable (m : (ℓ : Loc nD τ sig) → Buf (Elt Ideal) ℓ) (c : Dev nD)

/-- The residual sum of a sample, from the arguments. -/
def Y (i : Fin 32) : Fin 1024 → EReal :=
  Layer.mixedRow (fun d => m ((c : Thread nD τ).loc main_arg0) (ix3 i 0 d)) (fun k => m ((c : Thread nD τ).loc main_arg1) (ix2 i k))
    (fun k => m ((c : Thread nD τ).loc main_arg2) (ix2 i k)) (fun k d => m ((c : Thread nD τ).loc main_arg4) (ix3 0 k d))
/-- Its normalised row. -/
def Hn (i : Fin 32) : Fin 1024 → EReal := Layer.rms (Y m c i) (Layer.gain 0 (m ((c : Thread nD τ).loc main_arg5)))
/-- The up projection, from the arguments. -/
def Wu : Fin 1024 → Fin 5632 → EReal := Layer.wUp 0 (m ((c : Thread nD τ).loc main_arg6))
/-- The two gate rows kept of the steps before. -/
def Pr (i : Fin 32) (k : Fin 2) (j : Fin 2816) : EReal := m ((c : Thread nD τ).loc main_arg3) (ix4 0 i k j)
/-- The gate row. -/
def G (i : Fin 32) : Fin 2816 → EReal := Layer.gate (Hn m c i) (Wu m c)
/-- The result row: the residual sum plus the feed-forward layer. -/
def Out (i : Fin 32) (d : Fin 1024) : EReal :=
  Y m c i d + Layer.ffnStep (Hn m c i) (Wu m c) (Layer.wConv 0 (m ((c : Thread nD τ).loc main_arg7)))
    (Layer.bConv 0 (m ((c : Thread nD τ).loc main_arg8))) (Pr m c i) (Layer.wDown 0 (m ((c : Thread nD τ).loc main_arg9))) d

/-- The block each window shows at the grid point. -/
theorem idx : ∀ t : Fin cfg0.N, win0_0.index t = ![0, 0] ∧ win0_1.index t = ![0, 0] ∧ win0_2.index t = ![0, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-- The block of each output is the whole array. -/
theorem oidx : ∀ t : Fin cfg0.N, win0_11.index t = ![0, 0] ∧ win0_12.index t = ![0, 0] :=
  (by decide +kernel : ∀ t : Fin grid0.N, _)

variable (t : Fin cfg0.N)

/-- A row of the samples. -/
theorem x_at (i : Fin 32) (d : Fin 1024) :
    iblk m c 0 t (ix2 i d) = m ((c : Thread nD τ).loc main_arg0) (ix3 i 0 d) := by
  have e : iblk m c 0 t (ix2 i d) = V m c main_v0 (ix2 i d) := by blk_ext [iblk, idx t]
  rw [e]
  entry_read
  pointwise

/-- A row of the attention output. -/
theorem attn_at (i : Fin 32) (k : Fin 512) : iblk m c 1 t (ix2 i k) = m ((c : Thread nD τ).loc main_arg1) (ix2 i k) := by
  blk_point [iblk, V, idx t]

/-- A row of the recurrent output. -/
theorem rg_at (i : Fin 32) (k : Fin 512) : iblk m c 2 t (ix2 i k) = m ((c : Thread nD τ).loc main_arg2) (ix2 i k) := by
  blk_point [iblk, V, idx t]

/-- The gate rows kept of the steps before. -/
theorem prev_at (k : Fin 2) (i : Fin 32) (j : Fin 2816) :
    iblk m c 3 t (ix3 k i j) = Pr m c i k j := by
  have e : iblk m c 3 t (ix3 k i j) = V m c main_v29 (ix3 k i j) := by blk_ext [iblk, idx t]
  rw [e]
  entry_read
  pointwise [Pr]

/-- The output projection's rows for the attention columns, in the kernel's order of heads. -/
theorem wa_at (k : Fin 512) (d : Fin 1024) :
    iblk m c 4 t (ix2 k d) = m ((c : Thread nD τ).loc main_arg4) (ix3 0 (Layer.headCol k) d) := by
  have e : iblk m c 4 t (ix2 k d) = V m c main_v10 (ix2 k d) := by blk_ext [iblk, idx t]
  rw [e]
  entry_read
  pointwise [Layer.headCol]
  refine (Kernel2Ideal.Blocks.heads_at _ _ _ _ _ ⟨k.val / 64 / 2 + 4 * (k.val / 64 % 2), by omega⟩
    (Kernel2Ideal.Blocks.headIx_at _)).trans ?_
  pointwise

/-- The output projection's rows for the recurrent columns. -/
theorem wb_at (k : Fin 512) (d : Fin 1024) :
    iblk m c 5 t (ix2 k d) = m ((c : Thread nD τ).loc main_arg4) (ix3 0 ⟨512 + k.val, by omega⟩ d) := by
  have e : iblk m c 5 t (ix2 k d) = V m c main_v12 (ix2 k d) := by blk_ext [iblk, idx t]
  rw [e]
  entry_read
  pointwise

/-- The gain of the normalisation. -/
theorem g_at (d : Fin 1024) :
    iblk m c 6 t (ix2 0 d) = Layer.gain 0 (m ((c : Thread nD τ).loc main_arg5)) d := by
  have e : iblk m c 6 t (ix2 0 d) = V m c main_v15 (ix2 0 d) := by blk_ext [iblk, idx t]
  rw [e]
  entry_read
  pointwise [Layer.gain]

/-- The up projection. -/
theorem wup_at (k : Fin 1024) (j : Fin 5632) :
    iblk m c 7 t (ix2 k j) = Layer.wUp 0 (m ((c : Thread nD τ).loc main_arg6)) k j := by
  have e : iblk m c 7 t (ix2 k j) = V m c main_v18 (ix2 k j) := by blk_ext [iblk, idx t]
  rw [e]
  entry_read
  pointwise [Layer.wUp]

/-- The convolution weights. -/
theorem cw_at (k : Fin 3) (j : Fin 2816) :
    iblk m c 8 t (ix2 k j) = Layer.wConv 0 (m ((c : Thread nD τ).loc main_arg7)) k j := by
  have e : iblk m c 8 t (ix2 k j) = V m c main_v20 (ix2 k j) := by blk_ext [iblk, idx t]
  rw [e]
  entry_read
  pointwise [Layer.wConv]

/-- The convolution bias. -/
theorem cb_at (j : Fin 2816) :
    iblk m c 9 t (ix2 0 j) = Layer.bConv 0 (m ((c : Thread nD τ).loc main_arg8)) j := by
  have e : iblk m c 9 t (ix2 0 j) = V m c main_v23 (ix2 0 j) := by blk_ext [iblk, idx t]
  rw [e]
  entry_read
  pointwise [Layer.bConv]

/-- The down projection. -/
theorem wdn_at (j : Fin 2816) (d : Fin 1024) :
    iblk m c 10 t (ix2 j d) = Layer.wDown 0 (m ((c : Thread nD τ).loc main_arg9)) j d := by
  have e : iblk m c 10 t (ix2 j d) = V m c main_v26 (ix2 j d) := by blk_ext [iblk, idx t]
  rw [e]
  entry_read
  pointwise [Layer.wDown]

/-- The residual rows the grid point computes. -/
abbrev yT : FVec Ideal S32x1024 .f32 :=
  k0_pay2 (F := Ideal) (View.ld (iblk m c 0 t) r0_0) (View.ld (iblk m c 1 t) r0_1) (View.ld (iblk m c 4 t) r0_2)
    (View.ld (iblk m c 2 t) r0_1) (View.ld (iblk m c 5 t) r0_2)
/-- The normalised rows the grid point computes. -/
abbrev hT : FVec Ideal S32x1024 .bf16 :=
  k0_pay3 (F := Ideal) (View.ld (iblk m c 0 t) r0_0) (View.ld (iblk m c 1 t) r0_1) (View.ld (iblk m c 4 t) r0_2)
    (View.ld (iblk m c 2 t) r0_1) (View.ld (iblk m c 5 t) r0_2) (View.ld (iblk m c 6 t) r0_3)
/-- The gate rows, first half of the columns. -/
abbrev g0 : FVec Ideal S32x1408 .f32 :=
  k0_pay5 (F := Ideal) (View.ld (iblk m c 0 t) r0_0) (View.ld (iblk m c 1 t) r0_1) (View.ld (iblk m c 4 t) r0_2)
    (View.ld (iblk m c 2 t) r0_1) (View.ld (iblk m c 5 t) r0_2) (View.ld (iblk m c 6 t) r0_3) (View.ld (iblk m c 7 t) r0_4)
/-- The value rows, first half of the columns. -/
abbrev u0 : FVec Ideal S32x1408 .f32 :=
  k0_pay6 (F := Ideal) (View.ld (iblk m c 0 t) r0_0) (View.ld (iblk m c 1 t) r0_1) (View.ld (iblk m c 4 t) r0_2)
    (View.ld (iblk m c 2 t) r0_1) (View.ld (iblk m c 5 t) r0_2) (View.ld (iblk m c 6 t) r0_3) (View.ld (iblk m c 7 t) r0_5)

variable (i : Fin 32)

/-- The residual rows are the samples' residual sums. -/
theorem yT_at (d : Fin 1024) : yT m c t (ix2 i d) = Y m c i d := by
  unfold Y Layer.mixedRow yT
  rw [resid_at]
  pointwise
  refine congrArg₂ (fun p q : EReal => p + q) (congrArg₂ (fun p q : EReal => p + q) (x_at m c t i d)
    (Finset.sum_congr rfl fun k _ => congrArg₂ (fun p q : EReal => p * q) (attn_at m c t i k) (wa_at m c t k d)))
    (Finset.sum_congr rfl fun k _ => congrArg₂ (fun p q : EReal => p * q) (rg_at m c t i k) (wb_at m c t k d))

/-- The normalised rows. -/
theorem hT_at (d : Fin 1024) : hT m c t (ix2 i d) = Hn m c i d := by
  unfold Hn hT
  rw [norm_at]
  refine congrArg₂ (fun p q => Layer.rms p q d) (funext fun d => yT_at m c t i d) (funext fun d => ?_)
  pointwise
  exact g_at m c t d

/-- The first half's gate rows. -/
theorem g0_at (x : Fin 1408) : g0 m c t (ix2 i x) = G m c i (Layer.lo x) := by
  unfold G Layer.gate Wu g0
  rw [gate0_at]
  refine Finset.sum_congr rfl fun k _ => congrArg₂ (fun p q : EReal => p * q) (hT_at m c t i k) ?_
  pointwise
  rw [wup_at]
  rfl

/-- The second half's gate rows. -/
theorem g1_at (x : Fin 1408) : k0_pay8 (F := Ideal) (hT m c t) (View.ld (iblk m c 7 t) r0_13) (ix2 i x) = G m c i (Layer.hi x) := by
  unfold G Layer.gate Wu
  rw [gate1_at]
  refine Finset.sum_congr rfl fun k _ => congrArg₂ (fun p q : EReal => p * q) (hT_at m c t i k) ?_
  pointwise
  rw [wup_at]
  rfl

/-- The first half's value rows. -/
theorem u0_at (x : Fin 1408) : u0 m c t (ix2 i x) = Layer.val (Hn m c i) (Wu m c) (Layer.lo x) := by
  unfold Layer.val Wu u0
  rw [val0_at]
  refine Finset.sum_congr rfl fun k _ => congrArg₂ (fun p q : EReal => p * q) (hT_at m c t i k) ?_
  pointwise
  rw [wup_at]
  rfl

/-- The second half's value rows. -/
theorem u1_at (x : Fin 1408) : k0_pay9 (F := Ideal) (hT m c t) (View.ld (iblk m c 7 t) r0_14) (ix2 i x)
    = Layer.val (Hn m c i) (Wu m c) (Layer.hi x) := by
  unfold Layer.val Wu
  rw [val1_at]
  refine Finset.sum_congr rfl fun k _ => congrArg₂ (fun p q : EReal => p * q) (hT_at m c t i k) ?_
  pointwise
  rw [wup_at]
  refine congrArg (Layer.wUp 0 _ k) (Fin.ext ?_)
  show 4224 + x.val = 2816 + (1408 + x.val)
  omega

/-- What the grid point stores as the first output. -/
theorem out_row (d : Fin 1024) :
    k0_pay1 (F := Ideal) (yT m c t)
      (k0_pay7 (F := Ideal) (k0_pay4 (F := Ideal)) (g0 m c t) (u0 m c t) (View.ld (iblk m c 3 t) r0_6)
        (View.ld (iblk m c 3 t) r0_7) (View.ld (iblk m c 9 t) r0_8) (View.ld (iblk m c 8 t) r0_9) (View.ld (iblk m c 8 t) r0_10)
        (View.ld (iblk m c 8 t) r0_11) (View.ld (iblk m c 10 t) r0_12))
      (k0_pay9 (F := Ideal) (hT m c t) (View.ld (iblk m c 7 t) r0_14))
      (k0_pay10 (F := Ideal) (hT m c t) (View.ld (iblk m c 7 t) r0_13) (View.ld (iblk m c 3 t) r0_15) (View.ld (iblk m c 3 t) r0_16)
        (View.ld (iblk m c 9 t) r0_17) (View.ld (iblk m c 8 t) r0_18) (View.ld (iblk m c 8 t) r0_19) (View.ld (iblk m c 8 t) r0_20))
      (k0_pay11 (F := Ideal) (hT m c t) (View.ld (iblk m c 7 t) r0_13) (View.ld (iblk m c 3 t) r0_15) (View.ld (iblk m c 3 t) r0_16)
        (View.ld (iblk m c 9 t) r0_17) (View.ld (iblk m c 8 t) r0_18) (View.ld (iblk m c 8 t) r0_19) (View.ld (iblk m c 8 t) r0_20))
      (k0_pay12 (F := Ideal)) (View.ld (iblk m c 10 t) r0_21) (ix2 i d)
      = Out m c i d := by
  unfold Out
  rw [out_at, half0_at, Layer.ffnStep_halves, yT_at m c t i]
  refine congrArg (_ + ·) (congrArg₂ (· + ·) (Finset.sum_congr rfl fun x _ => ?_) (Finset.sum_congr rfl fun x _ => ?_))
  · rw [g0_at m c t i, u0_at m c t i]
    pointwise
    simp only [cb_at, cw_at, wdn_at, prev_at]
    rfl
  · rw [conv1_at, g1_at m c t i, u1_at m c t i]
    pointwise
    simp only [cb_at, cw_at, wdn_at, prev_at]
    rfl

/-- The first result array. -/
def outArr : FVec Ideal S32x1024 .f32 := fun y => Out m c (y 0) (y 1)
/-- The second result array: the gate rows. -/
def gateArr : FVec Ideal S32x2816 .f32 := fun y => G m c (y 0) (y 1)

/-- After the run the first output array holds the result rows. -/
theorem arr11 : (dats m 0 c).arrAt 11 cfg0.N = outArr m c := by
  refine Dat.arrAt_eq_of_covers (w := 11) (dats m 0 c) (outArr m c) (by decide +kernel) (fun t hf y => ?_)
  blk_simp
  idx_vars y
  rw [after0_11]
  have e : (((View.whole main_v30_0).slice (win0_11.rect t)).emb (ix2 y0 y1)) = ix2 y0 y1 := by
    funext a
    refine Fin.ext ?_
    fin_cases a <;> blk_simp [oidx t]
  refine Eq.trans ?_ (congrArg (outArr m c) e).symm
  exact (congrFun (View.canon_cons_unit_zero (by funext a; fin_cases a <;> rfl) _ _ _) _).trans (out_row m c t y0 y1)

/-- After the run the second output array holds the gate rows. -/
theorem arr12 : (dats m 0 c).arrAt 12 cfg0.N = gateArr m c := by
  refine Dat.arrAt_eq_of_covers (w := 12) (dats m 0 c) (gateArr m c) (by decide +kernel) (fun t hf y => ?_)
  blk_simp
  idx_vars y
  have h1 : y1.val < 2816 := y1.isLt
  rw [after0_12]
  have e : (((View.whole main_v30_1).slice (win0_12.rect t)).emb (ix2 y0 y1)) = ix2 y0 y1 := by
    funext a
    refine Fin.ext ?_
    fin_cases a <;> blk_simp [oidx t]
  refine Eq.trans ?_ (congrArg (gateArr m c) e).symm
  unfold out0_12
  refine (Pieces.canon2 (Val := Elt Ideal) _ _ _ y0 y1).trans ?_
  by_cases h : 1408 ≤ y1.val
  · refine (dif_pos ⟨⟨by omega, by omega⟩, h, by omega⟩).trans ?_
    refine (g1_at m c t ⟨y0.val - 0, by omega⟩ ⟨y1.val - 1408, by omega⟩).trans ?_
    exact congrArg₂ (G m c) (Fin.ext (Nat.sub_zero _)) (Fin.ext (by show 1408 + (y1.val - 1408) = y1.val; omega))
  · refine (dif_neg fun h' => h h'.2.1).trans ((Pieces.canon2 (Val := Elt Ideal) _ _ _ y0 y1).trans ?_)
    refine (dif_pos ⟨⟨by omega, by omega⟩, by omega, by omega⟩).trans ?_
    refine (g0_at m c t ⟨y0.val - 0, by omega⟩ ⟨y1.val - 0, by omega⟩).trans ?_
    exact congrArg₂ (G m c) (Fin.ext (Nat.sub_zero _)) (Fin.ext (Nat.sub_zero _))

end Cert.Kernel5Ideal.Points
-- ==== Proof.RefDecPost.lean ====
module

public import proofs.«01_k».proof.Proof.Gen.Reference5Ideal.Run
public import proofs.«01_k».proof.Proof.Step
public import proofs.«01_k».proof.Proof.RefPost
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
namespace Cert.Reference5Ideal.Stages
open Cert.Reference5Ideal Cert.Reference5Ideal.Gen

/-- The input plus the projection of the two branches side by side, the heads of the first put back in order. -/
def mixing (a0 : FVec Ideal S32x1x1024 .f32) (a1 a2 : FVec Ideal S32x512 .bf16) (a4 : FVec Ideal S1x1024x1024 .f32) : FVec Ideal S32x1x1024 .f32 :=
    (addf a0 (Host.dotGeneral dot_S32x1x1024_S1024x1024_S32x1x1024_2_0_01_1_n_n none (concatenate S32x1x1024 2
    [⟨S32x1x512, (extf .f32 (shapeCast _ (transpose S32x1x2x4x64 [0, 1, 3, 2, 4] (shapeCast _ a1
    shapeCasts_S32x512_S32x1x4x2x64) transposes_S32x1x4x2x64_S32x1x2x4x64_0_1_3_2_4)
    shapeCasts_S32x1x2x4x64_S32x1x512) bitsLt_bf16_f32)⟩, ⟨S32x1x512, (extf .f32 (broadcastInDim S32x1x512 ![0, 2]
    bcast_S32x512_S32x1x512_0_2 a2) bitsLt_bf16_f32)⟩] concatenates_S32x1x512_S32x1x512_S32x1x1024_d2) (shapeCast _
    a4 shapeCasts_S1x1024x1024_S1024x1024)))

/-- The normalised rows. -/
def normed (Y : FVec Ideal S32x1x1024 .f32) (a5 : FVec Ideal S2x1024 .f32) : FVec Ideal S32x1x1024 .f32 :=
    (mulf (mulf Y (broadcastInDim S32x1x1024 ![0, 1, 2] bcast_S32x1x1_S32x1x1024_0_1_2 (Host.rsqrt (addf (Host.divf
    (broadcastInDim S32x1x1 ![0, 1] bcast_S32x1_S32x1x1_0_1 (Host.reduceAdd (mulf Y Y) (constant S_ .f32
    0x00000000#32) reducesTo_S32x1x1024_S32x1_d2 h_S_)) (broadcastInDim S32x1x1 ![] bcast_S_S32x1x1 (constant S_
    .f32 0x44800000#32))) (broadcastInDim S32x1x1 ![] bcast_S_S32x1x1 (constant S_ .f32 0x358637BD#32))))))
    (broadcastInDim S32x1x1024 ![0, 1, 2] bcast_S1x1x1024_S32x1x1024_0_1_2 (broadcastInDim S1x1x1024 ![2]
    bcast_S1024_S1x1x1024_2 (shapeCast _ (extractStridedSlice S1x1024 ![0, 0] a5 slices_S2x1024_S1x1024_0_0)
    shapeCasts_S1x1024_S1024))))

/-- The up projection. -/
def upped (H : FVec Ideal S32x1x1024 .f32) (a6 : FVec Ideal S2x1024x5632 .f32) : FVec Ideal S32x1x5632 .f32 :=
    (Host.dotGeneral dot_S32x1x1024_S1024x5632_S32x1x5632_2_0_01_1_n_n none H (shapeCast _ (extractStridedSlice
    S1x1024x5632 ![0, 0, 0] a6 slices_S2x1024x5632_S1x1024x5632_0_0_0) shapeCasts_S1x1024x5632_S1024x5632))

/-- The gate rows behind the two rows kept of the steps before. -/
def joined (a3 : FVec Ideal S2x32x2x2816 .f32) (U : FVec Ideal S32x1x5632 .f32) : FVec Ideal S32x3x2816 .f32 :=
    (concatenate S32x3x2816 1 [⟨S32x2x2816, (shapeCast _ (extractStridedSlice S1x32x2x2816 ![0, 0, 0, 0] a3
    slices_S2x32x2x2816_S1x32x2x2816_0_0_0_0) shapeCasts_S1x32x2x2816_S32x2x2816)⟩, ⟨S32x1x2816,
    (extractStridedSlice S32x1x2816 ![0, 0, 0] U slices_S32x1x5632_S32x1x2816_0_0_0)⟩]
    concatenates_S32x2x2816_S32x1x2816_S32x3x2816_d1)

/-- The convolution of the gate rows. -/
def convolved (Fl : FVec Ideal S32x3x2816 .f32) (a7 : FVec Ideal S2x3x2816 .f32) (a8 : FVec Ideal S2x2816 .f32) : FVec Ideal S32x1x2816 .f32 :=
    (addf (addf (addf (broadcastInDim S32x1x2816 ![0, 1, 2] bcast_S1x1x2816_S32x1x2816_0_1_2 (broadcastInDim
    S1x1x2816 ![2] bcast_S2816_S1x1x2816_2 (shapeCast _ (extractStridedSlice S1x2816 ![0, 0] a8
    slices_S2x2816_S1x2816_0_0) shapeCasts_S1x2816_S2816))) (mulf (broadcastInDim S32x1x2816 ![0, 1, 2]
    bcast_S1x1x2816_S32x1x2816_0_1_2 (broadcastInDim S1x1x2816 ![2] bcast_S2816_S1x1x2816_2 (shapeCast _
    (extractStridedSlice S1x2816 ![0, 0] (shapeCast _ (extractStridedSlice S1x3x2816 ![0, 0, 0] a7
    slices_S2x3x2816_S1x3x2816_0_0_0) shapeCasts_S1x3x2816_S3x2816) slices_S3x2816_S1x2816_0_0)
    shapeCasts_S1x2816_S2816))) (extractStridedSlice S32x1x2816 ![0, 0, 0] Fl slices_S32x3x2816_S32x1x2816_0_0_0)))
    (mulf (broadcastInDim S32x1x2816 ![0, 1, 2] bcast_S1x1x2816_S32x1x2816_0_1_2 (broadcastInDim S1x1x2816 ![2]
    bcast_S2816_S1x1x2816_2 (shapeCast _ (extractStridedSlice S1x2816 ![1, 0] (shapeCast _ (extractStridedSlice
    S1x3x2816 ![0, 0, 0] a7 slices_S2x3x2816_S1x3x2816_0_0_0) shapeCasts_S1x3x2816_S3x2816)
    slices_S3x2816_S1x2816_1_0) shapeCasts_S1x2816_S2816))) (extractStridedSlice S32x1x2816 ![0, 1, 0] Fl
    slices_S32x3x2816_S32x1x2816_0_1_0))) (mulf (broadcastInDim S32x1x2816 ![0, 1, 2]
    bcast_S1x1x2816_S32x1x2816_0_1_2 (broadcastInDim S1x1x2816 ![2] bcast_S2816_S1x1x2816_2 (shapeCast _
    (extractStridedSlice S1x2816 ![2, 0] (shapeCast _ (extractStridedSlice S1x3x2816 ![0, 0, 0] a7
    slices_S2x3x2816_S1x3x2816_0_0_0) shapeCasts_S1x3x2816_S3x2816) slices_S3x2816_S1x2816_2_0)
    shapeCasts_S1x2816_S2816))) (extractStridedSlice S32x1x2816 ![0, 2, 0] Fl slices_S32x3x2816_S32x1x2816_0_2_0)))

/-- The residual sum plus the feed-forward output. -/
def downed (Y : FVec Ideal S32x1x1024 .f32) (Gc : FVec Ideal S32x1x2816 .f32) (U : FVec Ideal S32x1x5632 .f32) (a9 : FVec Ideal S2x2816x1024 .f32) : FVec Ideal S32x1024 .f32 :=
    (shapeCast _ (addf Y (Host.dotGeneral dot_S32x1x2816_S2816x1024_S32x1x1024_2_0_01_1_n_n none (mulf (mulf Gc
    (mulf (broadcastInDim S32x1x2816 ![] bcast_S_S32x1x2816 (constant S_ .f32 0x3F000000#32)) (addf (broadcastInDim
    S32x1x2816 ![] bcast_S_S32x1x2816 (constant S_ .f32 0x3F800000#32)) (Host.tanh (mulf (broadcastInDim S32x1x2816
    ![] bcast_S_S32x1x2816 (constant S_ .f32 0x3F4C422A#32)) (addf Gc (mulf (broadcastInDim S32x1x2816 ![]
    bcast_S_S32x1x2816 (constant S_ .f32 0x3D372713#32)) (mulf (mulf Gc Gc) Gc)))))))) (extractStridedSlice
    S32x1x2816 ![0, 0, 2816] U slices_S32x1x5632_S32x1x2816_0_0_2816)) (shapeCast _ (extractStridedSlice
    S1x2816x1024 ![0, 0, 0] a9 slices_S2x2816x1024_S1x2816x1024_0_0_0) shapeCasts_S1x2816x1024_S2816x1024)))
    shapeCasts_S32x1x1024_S32x1024)

/-- The gate rows of this step. -/
def latest (Fl : FVec Ideal S32x3x2816 .f32) : FVec Ideal S32x2816 .f32 :=
    (shapeCast _ (extractStridedSlice S32x1x2816 ![0, 1, 0] (extractStridedSlice S32x2x2816 ![0, 1, 0] Fl
    slices_S32x3x2816_S32x2x2816_0_1_0) slices_S32x2x2816_S32x1x2816_0_1_0) shapeCasts_S32x1x2816_S32x2816)

/-- The reference's first result is the last stage of the chain. -/
theorem first_term (m : (ℓ : Loc nD τ sig) → Buf (Elt Ideal) ℓ) (c : Dev nD) :
    Value.res_main_v79 (F := Ideal) m c =
      let Y := mixing (m ((c.tc : Thread nD τ).loc main_arg0)) (m ((c.tc : Thread nD τ).loc main_arg1)) (m ((c.tc : Thread nD τ).loc main_arg2)) (m ((c.tc : Thread nD τ).loc main_arg4))
      let U := upped (normed Y (m ((c.tc : Thread nD τ).loc main_arg5))) (m ((c.tc : Thread nD τ).loc main_arg6))
      downed Y (convolved (joined (m ((c.tc : Thread nD τ).loc main_arg3)) U) (m ((c.tc : Thread nD τ).loc main_arg7)) (m ((c.tc : Thread nD τ).loc main_arg8))) U (m ((c.tc : Thread nD τ).loc main_arg9)) := rfl

variable (i : Fin 32) (d : Fin 1024)

/-- The residual sum of the reference is the residual sum over the two branches. -/
theorem mixing_at (a0 : FVec Ideal S32x1x1024 .f32) (a1 a2 : FVec Ideal S32x512 .bf16) (a4 : FVec Ideal S1x1024x1024 .f32) :
    mixing a0 a1 a2 a4 (ix3 i 0 d) = Layer.mixedRow (fun d => a0 (ix3 i 0 d)) (fun k => a1 (ix2 i k)) (fun k => a2 (ix2 i k))
      (fun k d => a4 (ix3 0 k d)) d := by
  pointwise [mixing]
  unfold Layer.mixedRow
  rw [← add_assoc]
  refine congrArg (fun e : EReal => a0 (ix3 i 0 d) + e + _) ?_
  refine Fintype.sum_equiv Reference2Ideal.Stages.heads _ _ fun x => ?_
  refine congrArg (fun k : Fin 1024 => a1 (ix2 i (Reference2Ideal.Stages.heads x)) * a4 (ix3 0 k d)) (Fin.ext ?_)
  exact (congrArg Fin.val (Reference2Ideal.Stages.heads.left_inv x)).symm

/-- The normalised rows. -/
theorem normed_at (y : FVec Ideal S32x1x1024 .f32) (g : FVec Ideal S2x1024 .f32) :
    normed y g (ix3 i 0 d) = Layer.rms (fun d => y (ix3 i 0 d)) (Layer.gain 0 g) d := by
  pointwise [normed]
  rfl

/-- The up projection. -/
theorem upped_at (h : FVec Ideal S32x1x1024 .f32) (w : FVec Ideal S2x1024x5632 .f32) (j : Fin 5632) :
    upped h w (ix3 i 0 j) = ∑ k, h (ix3 i 0 k) * Layer.wUp 0 w k j := by
  pointwise [upped]
  rfl

/-- The convolution of the joined gate rows is the convolution at one time step. -/
theorem convolved_at (a3 : FVec Ideal S2x32x2x2816 .f32) (u : FVec Ideal S32x1x5632 .f32) (a7 : FVec Ideal S2x3x2816 .f32)
    (a8 : FVec Ideal S2x2816 .f32) (j : Fin 2816) :
    convolved (joined a3 u) a7 a8 (ix3 i 0 j)
      = Layer.convStep (Layer.wConv 0 a7) (Layer.bConv 0 a8) (fun k j => a3 (ix4 0 i k j)) (fun j => u (ix3 i 0 ⟨j.val, by omega⟩)) j := by
  pointwise [convolved, joined]
  rfl

/-- The gate rows of this step. -/
theorem latest_at (a3 : FVec Ideal S2x32x2x2816 .f32) (u : FVec Ideal S32x1x5632 .f32) (j : Fin 2816) :
    latest (joined a3 u) (ix2 i j) = u (ix3 i 0 ⟨j.val, by omega⟩) := by
  pointwise [latest, joined]

/-- The residual sum plus the down projection. -/
theorem downed_at (y : FVec Ideal S32x1x1024 .f32) (gc : FVec Ideal S32x1x2816 .f32) (u : FVec Ideal S32x1x5632 .f32)
    (w : FVec Ideal S2x2816x1024 .f32) :
    downed y gc u w (ix2 i d) = y (ix3 i 0 d) +
      ∑ j : Fin 2816, Layer.gelu (gc (ix3 i 0 j)) * u (ix3 i 0 ⟨2816 + j.val, by omega⟩) * Layer.wDown 0 w j d := by
  pointwise [downed]
  rfl

end Cert.Reference5Ideal.Stages
-- ==== Proof.DecPostEquation.lean ====
module

public import proofs.«01_k».proof.Proof.DecPostRows
public import proofs.«01_k».proof.Proof.RefDecPost
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
namespace Cert.DecPostEquation
open Cert.Reference5Ideal.Stages

variable (m : (ℓ : Loc Kernel5Ideal.nD Kernel5Ideal.τ Kernel5Ideal.sig) → Buf (Elt Ideal) ℓ) (c : Dev Kernel5Ideal.nD)

/-- The reference's residual rows from the kernel's arguments. -/
abbrev rY := mixing (m ((c.tc : Thread Kernel5Ideal.nD Kernel5Ideal.τ).loc Kernel5Ideal.main_arg0)) (m ((c.tc : Thread Kernel5Ideal.nD Kernel5Ideal.τ).loc Kernel5Ideal.main_arg1))
  (m ((c.tc : Thread Kernel5Ideal.nD Kernel5Ideal.τ).loc Kernel5Ideal.main_arg2)) (m ((c.tc : Thread Kernel5Ideal.nD Kernel5Ideal.τ).loc Kernel5Ideal.main_arg4))
/-- The reference's up projection from the kernel's arguments. -/
abbrev rU := upped (normed (rY m c) (m ((c.tc : Thread Kernel5Ideal.nD Kernel5Ideal.τ).loc Kernel5Ideal.main_arg5)))
  (m ((c.tc : Thread Kernel5Ideal.nD Kernel5Ideal.τ).loc Kernel5Ideal.main_arg6))

/-- The reference's residual rows are the kernel's. -/
theorem sum_eq (i : Fin 32) (d : Fin 1024) : rY m c (ix3 i 0 d) = Kernel5Ideal.Points.Y m c i d := mixing_at i d _ _ _ _

/-- The reference's normalised rows are the kernel's. -/
theorem rows_eq (i : Fin 32) (d : Fin 1024) :
    normed (rY m c) (m ((c.tc : Thread Kernel5Ideal.nD Kernel5Ideal.τ).loc Kernel5Ideal.main_arg5)) (ix3 i 0 d)
      = Kernel5Ideal.Points.Hn m c i d := by
  rw [normed_at]
  exact congrArg (fun y => Layer.rms y _ d) (funext fun d => mixing_at i d _ _ _ _)

/-- The gate half of the reference's up projection. -/
theorem gate_eq (i : Fin 32) (j : Fin 2816) : rU m c (ix3 i 0 ⟨j.val, by omega⟩) = Kernel5Ideal.Points.G m c i j := by
  unfold rU
  rw [upped_at]
  exact Finset.sum_congr rfl fun k _ => congrArg (fun e : EReal => e * _) (rows_eq m c i k)

/-- The value half of the reference's up projection. -/
theorem val_eq (i : Fin 32) (j : Fin 2816) :
    rU m c (ix3 i 0 ⟨2816 + j.val, by omega⟩) = Layer.val (Kernel5Ideal.Points.Hn m c i) (Kernel5Ideal.Points.Wu m c) j := by
  unfold rU
  rw [upped_at]
  exact Finset.sum_congr rfl fun k _ => congrArg (fun e : EReal => e * _) (rows_eq m c i k)

/-- The two first results are equal. -/
theorem first_eq :
    downed (rY m c) (convolved (joined (m ((c.tc : Thread Kernel5Ideal.nD Kernel5Ideal.τ).loc Kernel5Ideal.main_arg3)) (rU m c))
        (m ((c.tc : Thread Kernel5Ideal.nD Kernel5Ideal.τ).loc Kernel5Ideal.main_arg7))
        (m ((c.tc : Thread Kernel5Ideal.nD Kernel5Ideal.τ).loc Kernel5Ideal.main_arg8))) (rU m c)
        (m ((c.tc : Thread Kernel5Ideal.nD Kernel5Ideal.τ).loc Kernel5Ideal.main_arg9))
      = Kernel5Ideal.Points.outArr m c := by
  funext i
  idx_vars i
  rw [downed_at, sum_eq]
  show _ = Kernel5Ideal.Points.Y m c i0 i1 + _
  refine congrArg (fun e : EReal => Kernel5Ideal.Points.Y m c i0 i1 + e) ?_
  refine Finset.sum_congr rfl fun j _ => ?_
  rw [convolved_at, val_eq, (funext fun j => gate_eq m c i0 j :
    (fun (j : Fin 2816) => rU m c (ix3 i0 0 ⟨j.val, by omega⟩)) = Kernel5Ideal.Points.G m c i0)]
  rfl

/-- The two second results are equal. -/
theorem second_eq :
    latest (joined (m ((c.tc : Thread Kernel5Ideal.nD Kernel5Ideal.τ).loc Kernel5Ideal.main_arg3)) (rU m c))
      = Kernel5Ideal.Points.gateArr m c := by
  funext i
  idx_vars i
  rw [latest_at]
  exact gate_eq m c i0 i1

end Cert.DecPostEquation
-- ==== Proof.DecPostClaims.lean ====
module

public import proofs.«01_k».proof.Defs
public import proofs.«01_k».proof.Proof.Gen.Kernel5.Frame
public import proofs.«01_k».proof.Proof.Gen.Kernel5Ideal.Frame
public import proofs.«01_k».proof.Proof.DecPostEquation
public import Idealize.ShloMosaic.Lib.Quiescent

@[expose] public section

noncomputable section

open Idealize.ShloMosaic Idealize.ShloMosaic.TcCoe Idealize.SL.Sem

namespace Cert.DecPostClaims

/-- The kernel of the first layer's output side, for the samples, ends quiescent with its arguments unchanged. -/
theorem frame : Cert.quiescent_Kernel5 (hKernel5 := Cert.Kernel5.Gen.facts) := fun m ρ _ => Cert.Kernel5.Gen.frame m ρ
/-- So does its ideal program. -/
theorem frame_ideal : Cert.quiescent_Kernel5Ideal (hKernel5Ideal := Cert.Kernel5Ideal.Gen.facts) :=
  fun m ρ _ => Cert.Kernel5Ideal.Gen.frame m ρ
/-- So does the reference, which has no semaphore. -/
theorem frame_reference : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The kernel's two results are the reference's, on arguments that agree. -/
theorem equal : Cert.algebraic_Kernel5Ideal_Reference5Ideal (hKernel5Ideal := Cert.Kernel5Ideal.Gen.facts)
    (hReference5Ideal := Cert.Reference5Ideal.Gen.facts) := by
  intro m ρ m' ρ' _ hag
  refine ⟨fun c => Cert.Kernel5Ideal.Points.outArr m c, fun c => Cert.Kernel5Ideal.Points.gateArr m c, ?_, ?_⟩
  · exact (θ_run Cert.Kernel5Ideal.defs _ _).mono
      (fun _ h c => ⟨(h c).1.trans (Cert.Kernel5Ideal.Points.arr11 m c),
        (h c).2.1.trans (Cert.Kernel5Ideal.Points.arr12 m c), (h c).2.2⟩)
      (Cert.Kernel5Ideal.Value.run_blocks (F := Ideal) m ρ)
  · refine (θ_run Cert.Reference5Ideal.defs _ _).mono
      (fun _ h c => ⟨(h c).1.trans ?_, (h c).2.1.trans ?_, (h c).2.2⟩)
      (Cert.Reference5Ideal.Value.run (F := Ideal) m' ρ')
    · rw [Cert.Reference5Ideal.Stages.first_term]
      obtain ⟨h0, h1, h2, h3, h4, h5, h6, h7, h8, h9⟩ := hag c
      rw [h0, h1, h2, h3, h4, h5, h6, h7, h8, h9]
      exact Cert.DecPostEquation.first_eq m c
    · obtain ⟨h0, h1, h2, h3, h4, h5, h6, h7, h8, h9⟩ := hag c
      rw [h0, h1, h2, h3, h4, h5, h6]
      exact Cert.DecPostEquation.second_eq m c

end Cert.DecPostClaims
-- ==== Proof.StepMix.lean ====
module

public import proofs.«01_k».proof.Proof.Step
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Layer

/-- The causal mixing at the first step of a chunk: one weight and one bias for each group of 128 columns. -/
def stepMix (w b : Fin 8 → EReal) (V : Fin 1024 → EReal) (k : Fin 1024) : EReal :=
  w ⟨k.val / 128, by omega⟩ * V k + b ⟨k.val / 128, by omega⟩

end Cert.Layer
-- ==== Proof.DecGatedTile.lean ====
module

public import proofs.«01_k».proof.Proof.Gen.Kernel4Ideal.Skeleton
public import proofs.«01_k».proof.Proof.StepMix
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.Kernel4Ideal.Tile
open Cert.Kernel4Ideal Cert.Kernel4Ideal.Gen

variable (y : FVec Ideal S32x1024 .f32) (gm sn sw sb g : FVec Ideal S1x1024 .f32) (win : FVec Ideal S1024x2048 .bf16)
  (bin : FVec Ideal S1x2048 .f32) (u v : FVec Ideal S32x1024 .f32) (n : FVec Ideal S1x1024 .f32) (q : FVec Ideal S32x1024 .f32)
  (wo : FVec Ideal S1024x1024 .bf16) (h : FVec Ideal S32x1024 .bf16) (w : FVec Ideal S1024x1408 .bf16)
  (i : Fin 32) (d : Fin 1024) (x : Fin 1408)

/-- The activated hidden rows. -/
theorem hidden_at (j : Fin 2048) : (k0_pay1 (F := Ideal) y gm win bin) (ix2 i j)
    = Layer.hid (Layer.rms (fun d => y (ix2 i d)) (fun d => gm (ix2 0 d))) (fun k j => win (ix2 k j)) (fun j => bin (ix2 0 j)) j := by
  pointwise [k0_pay1]
  rfl
/-- The first half of the hidden columns. -/
theorem left_at : (k0_pay2 (F := Ideal) y gm win bin) (ix2 i d)
    = (k0_pay1 (F := Ideal) y gm win bin) (ix2 i ⟨d.val, by omega⟩) := by
  pointwise [k0_pay2]
/-- The second half of the hidden columns. -/
theorem right_at : (k0_pay3 (F := Ideal) y gm win bin) (ix2 i d)
    = (k0_pay1 (F := Ideal) y gm win bin) (ix2 i ⟨1024 + d.val, by omega⟩) := by
  pointwise [k0_pay3]
/-- The normalised second half. -/
theorem vals_at : (k0_pay6 (F := Ideal) (k0_pay3 (F := Ideal) y gm win bin) (k0_pay4 (F := Ideal) sn)
      (k0_pay5 (F := Ideal) y gm win bin)) (ix2 i d)
    = Layer.rms (fun d => (k0_pay3 (F := Ideal) y gm win bin) (ix2 i d)) (fun d => sn (ix2 0 d)) d := by
  pointwise [k0_pay6, k0_pay4, k0_pay5]
  rfl
/-- The residual sum: the input plus the projected gated rows. -/
theorem resid_at : (k0_pay7 (F := Ideal) y u v n q sw sb wo) (ix2 i d)
    = y (ix2 i d) + ∑ k, u (ix2 i k) * (sw (ix2 0 k) * (k0_pay6 (F := Ideal) v n q) (ix2 i k) + sb (ix2 0 k)) * wo (ix2 k d) := by
  pointwise [k0_pay7]
/-- The normalised rows. -/
theorem norm_at : (k0_pay8 (F := Ideal) y u v n q sw sb wo g) (ix2 i d)
    = Layer.rms (fun d => (k0_pay7 (F := Ideal) y u v n q sw sb wo) (ix2 i d)) (fun d => g (ix2 0 d)) d := by
  pointwise [k0_pay8]
  rfl

/-- The gate projection of the first half of the columns. -/
theorem gate0_at : (k0_pay10 (F := Ideal) h w) (ix2 i x) = ∑ k, h (ix2 i k) * w (ix2 k x) := by
  pointwise [k0_pay10]
/-- The value projection of the first half of the columns. -/
theorem val0_at : (k0_pay11 (F := Ideal) h w) (ix2 i x) = ∑ k, h (ix2 i k) * w (ix2 k x) := by
  pointwise [k0_pay11]
/-- The gate projection of the second half of the columns. -/
theorem gate1_at : (k0_pay16 (F := Ideal) h w) (ix2 i x) = ∑ k, h (ix2 i k) * w (ix2 k x) := by
  pointwise [k0_pay16]
/-- The value projection of the second half of the columns. -/
theorem val1_at : (k0_pay17 (F := Ideal) h w) (ix2 i x) = ∑ k, h (ix2 i k) * w (ix2 k x) := by
  pointwise [k0_pay17]

/-- The convolution of the first half of the columns. -/
theorem conv0_at (p1 p0 : FVec Ideal S1x32x1408 .f32) (cb c0 c1 c2 : FVec Ideal S1x1408 .f32) :
    (k0_pay12 (F := Ideal) h w p1 p0 cb c0 c1 c2) (ix2 i x)
      = cb (ix2 0 x) + c0 (ix2 0 x) * p0 (ix3 0 i x) + c1 (ix2 0 x) * p1 (ix3 0 i x)
        + c2 (ix2 0 x) * (k0_pay10 (F := Ideal) h w) (ix2 i x) := by
  pointwise [k0_pay12]

/-- The first half's part of the feed-forward output. -/
theorem half0_at (z : FVec Ideal S32x1408 .f32) (p1 p0 : FVec Ideal S1x32x1408 .f32) (cb c0 c1 c2 : FVec Ideal S1x1408 .f32)
    (wd : FVec Ideal S1408x1024 .bf16) :
    (k0_pay15 (F := Ideal) (k0_pay9 (F := Ideal)) z (k0_pay12 (F := Ideal) h w p1 p0 cb c0 c1 c2)
        (k0_pay13 (F := Ideal) h w p1 p0 cb c0 c1 c2) (k0_pay14 (F := Ideal)) wd) (ix2 i d)
      = ∑ x, Layer.gelu ((k0_pay12 (F := Ideal) h w p1 p0 cb c0 c1 c2) (ix2 i x)) * z (ix2 i x) * wd (ix2 x d) := by
  pointwise [k0_pay15, k0_pay9, k0_pay13, k0_pay14]
  rfl

/-- The output: the normalised sum of the residual and the two halves of the feed-forward output. -/
theorem out_at (y1 f0 : FVec Ideal S32x1024 .f32) (g1 z : FVec Ideal S32x1408 .f32) (p1 p0 : FVec Ideal S1x32x1408 .f32)
    (cb c0 c1 c2 : FVec Ideal S1x1408 .f32) (wd : FVec Ideal S1408x1024 .bf16) :
    (k0_pay20 (F := Ideal) y1 f0 g1 z (k0_pay18 (F := Ideal) p1 p0 cb c0 c1) (k0_pay19 (F := Ideal) c2) wd g) (ix2 i d)
      = Layer.rms (fun d => y1 (ix2 i d) + (f0 (ix2 i d) + ∑ x, Layer.gelu (cb (ix2 0 x) + c0 (ix2 0 x) * p0 (ix3 0 i x)
          + c1 (ix2 0 x) * p1 (ix3 0 i x) + c2 (ix2 0 x) * g1 (ix2 i x)) * z (ix2 i x) * wd (ix2 x d)))
          (fun d => g (ix2 0 d)) d := by
  pointwise [k0_pay20, k0_pay18, k0_pay19]
  rfl

end Cert.Kernel4Ideal.Tile
-- ==== Proof.DecGatedRows.lean ====
module

public import proofs.«01_k».proof.Proof.Gen.Kernel4Ideal.Value
public import proofs.«01_k».proof.Proof.DecGatedTile
public import proofs.«01_k».proof.Proof.Pieces
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.Kernel4Ideal.Points
open Cert.Kernel4Ideal Cert.Kernel4Ideal.Gen Cert.Kernel4Ideal.Tile
variable (m : (ℓ : Loc nD τ sig) → Buf (Elt Ideal) ℓ) (c : Dev nD)

/-- A row of the samples. -/
def X (i : Fin 32) (d : Fin 1024) : EReal := m ((c : Thread nD τ).loc main_arg0) (ix2 i d)
/-- The activated hidden row of a sample, from the arguments. -/
def Z (i : Fin 32) : Fin 2048 → EReal :=
  Layer.hid (Layer.rms (X m c i) (Layer.gain 1 (m ((c : Thread nD τ).loc main_arg2)))) (fun k j => m ((c : Thread nD τ).loc main_arg3) (ix3 0 k j)) (fun j => m ((c : Thread nD τ).loc main_arg4) (ix2 0 j))
/-- The normalised second half of the hidden row: what the chunk keeps. -/
def Vn (i : Fin 32) : Fin 1024 → EReal := Layer.rms (Layer.right (Z m c i)) (fun d => m ((c : Thread nD τ).loc main_arg5) (ix2 0 d))
/-- The residual sum after the gated layer. -/
def Y (i : Fin 32) (d : Fin 1024) : EReal :=
  X m c i d + ∑ k, Layer.left (Z m c i) k * Layer.stepMix (fun g => m ((c : Thread nD τ).loc main_arg6) (ix4 0 g 0 0)) (fun g => m ((c : Thread nD τ).loc main_arg7) (ix3 0 g 0))
    (Vn m c i) k * m ((c : Thread nD τ).loc main_arg8) (ix3 0 k d)
/-- Its normalised row. -/
def Hn (i : Fin 32) : Fin 1024 → EReal := Layer.rms (Y m c i) (Layer.gain 1 (m ((c : Thread nD τ).loc main_arg9)))
/-- The up projection, from the arguments. -/
def Wu : Fin 1024 → Fin 5632 → EReal := Layer.wUp 1 (m ((c : Thread nD τ).loc main_arg10))
/-- The two gate rows kept of the steps before. -/
def Pr (i : Fin 32) (k : Fin 2) (j : Fin 2816) : EReal := m ((c : Thread nD τ).loc main_arg1) (ix4 1 i k j)
/-- The gate row. -/
def G (i : Fin 32) : Fin 2816 → EReal := Layer.gate (Hn m c i) (Wu m c)
/-- The residual sum plus the feed-forward layer. -/
def Sm (i : Fin 32) (d : Fin 1024) : EReal :=
  Y m c i d + Layer.ffnStep (Hn m c i) (Wu m c) (Layer.wConv 1 (m ((c : Thread nD τ).loc main_arg11)))
    (Layer.bConv 1 (m ((c : Thread nD τ).loc main_arg12))) (Pr m c i) (Layer.wDown 1 (m ((c : Thread nD τ).loc main_arg13))) d
/-- The result row: the same, normalised. -/
def Out (i : Fin 32) : Fin 1024 → EReal := Layer.rms (Sm m c i) (fun d => m ((c : Thread nD τ).loc main_arg14) (ix1 d))

/-- The block each window shows at the grid point. -/
theorem idx : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

/-- The block of each output is the whole array. -/
theorem oidx : ∀ t : Fin cfg0.N, win0_15.index t = ![0, 0] ∧ win0_16.index t = ![0, 0] ∧ win0_17.index t = ![0, 0] :=
  (by decide +kernel : ∀ t : Fin grid0.N, _)

variable (t : Fin cfg0.N)

/-- A row of the samples. -/
theorem x_at (i : Fin 32) (d : Fin 1024) : iblk m c 0 t (ix2 i d) = X m c i d := by
  blk_point [iblk, V, idx t, X]

/-- The gate rows kept of the steps before. -/
theorem prev_at (k : Fin 2) (i : Fin 32) (j : Fin 2816) :
    iblk m c 1 t (ix3 k i j) = Pr m c i k j := by
  have e : iblk m c 1 t (ix3 k i j) = V m c main_v40 (ix3 k i j) := by blk_ext [iblk, idx t]
  rw [e]
  entry_read
  pointwise [Pr]

/-- The gain of the first normalisation. -/
theorem gm_at (d : Fin 1024) :
    iblk m c 2 t (ix2 0 d) = Layer.gain 1 (m ((c : Thread nD τ).loc main_arg2)) d := by
  have e : iblk m c 2 t (ix2 0 d) = V m c main_v16 (ix2 0 d) := by blk_ext [iblk, idx t]
  rw [e]
  entry_read
  pointwise [Layer.gain]

/-- The input projection. -/
theorem win_at (k : Fin 1024) (j : Fin 2048) :
    iblk m c 3 t (ix2 k j) = m ((c : Thread nD τ).loc main_arg3) (ix3 0 k j) := by
  have e : iblk m c 3 t (ix2 k j) = V m c main_v18 (ix2 k j) := by blk_ext [iblk, idx t]
  rw [e]
  entry_read
  pointwise

/-- Its bias. -/
theorem bin_at (j : Fin 2048) :
    iblk m c 4 t (ix2 0 j) = m ((c : Thread nD τ).loc main_arg4) (ix2 0 j) := by
  have e : iblk m c 4 t (ix2 0 j) = V m c main_v20 (ix2 0 j) := by blk_ext [iblk, idx t]
  rw [e]
  entry_read
  pointwise

/-- The gain of the second half of the hidden columns. -/
theorem sn_at (d : Fin 1024) :
    iblk m c 5 t (ix2 0 d) = m ((c : Thread nD τ).loc main_arg5) (ix2 0 d) := by
  have e : iblk m c 5 t (ix2 0 d) = V m c main_v22 (ix2 0 d) := by blk_ext [iblk, idx t]
  rw [e]
  entry_read
  pointwise

/-- The mixing weight of a column's group, at the first step of a chunk. -/
theorem sw_at (k : Fin 1024) :
    iblk m c 6 t (ix2 0 k) = m ((c : Thread nD τ).loc main_arg6) (ix4 0 ⟨k.val / 128, by omega⟩ 0 0) := by
  have e : iblk m c 6 t (ix2 0 k) = V m c main_v28 (ix2 0 k) := by blk_ext [iblk, idx t]
  rw [e]
  entry_read
  pointwise

/-- The mixing bias of a column's group, at the first step of a chunk. -/
theorem sb_at (k : Fin 1024) :
    iblk m c 7 t (ix2 0 k) = m ((c : Thread nD τ).loc main_arg7) (ix3 0 ⟨k.val / 128, by omega⟩ 0) := by
  have e : iblk m c 7 t (ix2 0 k) = V m c main_v34 (ix2 0 k) := by blk_ext [iblk, idx t]
  rw [e]
  entry_read
  pointwise

/-- The output projection. -/
theorem wo_at (k d : Fin 1024) :
    iblk m c 8 t (ix2 k d) = m ((c : Thread nD τ).loc main_arg8) (ix3 0 k d) := by
  have e : iblk m c 8 t (ix2 k d) = V m c main_v36 (ix2 k d) := by blk_ext [iblk, idx t]
  rw [e]
  entry_read
  pointwise

/-- The gain of the normalisation before the feed-forward layer. -/
theorem g_at (d : Fin 1024) :
    iblk m c 9 t (ix2 0 d) = Layer.gain 1 (m ((c : Thread nD τ).loc main_arg9)) d := by
  have e : iblk m c 9 t (ix2 0 d) = V m c main_v2 (ix2 0 d) := by blk_ext [iblk, idx t]
  rw [e]
  entry_read
  pointwise [Layer.gain]

/-- The up projection. -/
theorem wup_at (k : Fin 1024) (j : Fin 5632) :
    iblk m c 10 t (ix2 k j) = Layer.wUp 1 (m ((c : Thread nD τ).loc main_arg10)) k j := by
  have e : iblk m c 10 t (ix2 k j) = V m c main_v5 (ix2 k j) := by blk_ext [iblk, idx t]
  rw [e]
  entry_read
  pointwise [Layer.wUp]

/-- The convolution weights. -/
theorem cw_at (k : Fin 3) (j : Fin 2816) :
    iblk m c 11 t (ix2 k j) = Layer.wConv 1 (m ((c : Thread nD τ).loc main_arg11)) k j := by
  have e : iblk m c 11 t (ix2 k j) = V m c main_v7 (ix2 k j) := by blk_ext [iblk, idx t]
  rw [e]
  entry_read
  pointwise [Layer.wConv]

/-- The convolution bias. -/
theorem cb_at (j : Fin 2816) :
    iblk m c 12 t (ix2 0 j) = Layer.bConv 1 (m ((c : Thread nD τ).loc main_arg12)) j := by
  have e : iblk m c 12 t (ix2 0 j) = V m c main_v10 (ix2 0 j) := by blk_ext [iblk, idx t]
  rw [e]
  entry_read
  pointwise [Layer.bConv]

/-- The down projection. -/
theorem wdn_at (j : Fin 2816) (d : Fin 1024) :
    iblk m c 13 t (ix2 j d) = Layer.wDown 1 (m ((c : Thread nD τ).loc main_arg13)) j d := by
  have e : iblk m c 13 t (ix2 j d) = V m c main_v13 (ix2 j d) := by blk_ext [iblk, idx t]
  rw [e]
  entry_read
  pointwise [Layer.wDown]

/-- The gain of the last normalisation. -/
theorem gf_at (d : Fin 1024) :
    iblk m c 14 t (ix2 0 d) = m ((c : Thread nD τ).loc main_arg14) (ix1 d) := by
  have e : iblk m c 14 t (ix2 0 d) = V m c main_v37 (ix2 0 d) := by blk_ext [iblk, idx t]
  rw [e]
  entry_read
  pointwise

/-- The first half of the hidden columns, as the grid point computes it. -/
abbrev uT : FVec Ideal S32x1024 .f32 :=
  k0_pay2 (F := Ideal) (View.ld (iblk m c 0 t) r0_0) (View.ld (iblk m c 2 t) r0_1) (View.ld (iblk m c 3 t) r0_2) (View.ld (iblk m c 4 t) r0_3)
/-- The second half of the hidden columns, as the grid point computes it. -/
abbrev rT : FVec Ideal S32x1024 .f32 :=
  k0_pay3 (F := Ideal) (View.ld (iblk m c 0 t) r0_0) (View.ld (iblk m c 2 t) r0_1) (View.ld (iblk m c 3 t) r0_2) (View.ld (iblk m c 4 t) r0_3)
/-- Its squares. -/
abbrev qT : FVec Ideal S32x1024 .f32 :=
  k0_pay5 (F := Ideal) (View.ld (iblk m c 0 t) r0_0) (View.ld (iblk m c 2 t) r0_1) (View.ld (iblk m c 3 t) r0_2) (View.ld (iblk m c 4 t) r0_3)
/-- Its gain. -/
abbrev nT : FVec Ideal S1x1024 .f32 := k0_pay4 (F := Ideal) (View.ld (iblk m c 5 t) r0_1)
/-- The residual rows the grid point computes. -/
abbrev yT : FVec Ideal S32x1024 .f32 :=
  k0_pay7 (F := Ideal) (View.ld (iblk m c 0 t) r0_0) (uT m c t) (rT m c t) (nT m c t) (qT m c t) (View.ld (iblk m c 6 t) r0_1) (View.ld (iblk m c 7 t) r0_1)
    (View.ld (iblk m c 8 t) r0_4)
/-- The normalised rows the grid point computes. -/
abbrev hT : FVec Ideal S32x1024 .bf16 :=
  k0_pay8 (F := Ideal) (View.ld (iblk m c 0 t) r0_0) (uT m c t) (rT m c t) (nT m c t) (qT m c t) (View.ld (iblk m c 6 t) r0_1) (View.ld (iblk m c 7 t) r0_1)
    (View.ld (iblk m c 8 t) r0_4) (View.ld (iblk m c 9 t) r0_1)

variable (i : Fin 32)

/-- The hidden rows are the samples' hidden rows. -/
theorem zT_at (j : Fin 2048) : k0_pay1 (F := Ideal) (View.ld (iblk m c 0 t) r0_0) (View.ld (iblk m c 2 t) r0_1) (View.ld (iblk m c 3 t) r0_2) (View.ld (iblk m c 4 t) r0_3) (ix2 i j) = Z m c i j := by
  rw [hidden_at]
  unfold Z Layer.hid
  refine congrArg Layer.gelu (congrArg₂ (fun p q : EReal => p + q) (Finset.sum_congr rfl fun k _ =>
    congrArg₂ (fun p q : EReal => p * q) (congrArg₂ (fun p q => Layer.rms p q k) (funext fun d => ?_) (funext fun d => ?_)) ?_) ?_)
  · pointwise
    exact x_at m c t i d
  · pointwise
    exact gm_at m c t d
  · pointwise
    exact win_at m c t k j
  · pointwise
    exact bin_at m c t j

/-- The normalised second half. -/
theorem vT_at (d : Fin 1024) : k0_pay6 (F := Ideal) (rT m c t) (nT m c t) (qT m c t) (ix2 i d) = Vn m c i d := by
  unfold Vn rT nT qT
  rw [vals_at]
  refine congrArg₂ (fun p q => Layer.rms p q d) (funext fun d => ?_) (funext fun d => ?_)
  · rw [right_at]
    exact zT_at m c t i _
  · pointwise
    exact sn_at m c t d

/-- The residual rows are the samples' residual sums. -/
theorem yT_at (d : Fin 1024) : yT m c t (ix2 i d) = Y m c i d := by
  unfold Y Layer.stepMix yT
  rw [resid_at]
  refine congrArg₂ (fun p q : EReal => p + q) ?_ (Finset.sum_congr rfl fun k _ => congrArg₂ (fun p q : EReal => p * q)
    (congrArg₂ (fun p q : EReal => p * q) ?_ (congrArg₂ (fun p q : EReal => p + q) (congrArg₂ (fun p q : EReal => p * q) ?_
      (vT_at m c t i k)) ?_)) ?_)
  · pointwise
    exact x_at m c t i d
  · unfold uT
    rw [left_at]
    exact zT_at m c t i _
  · pointwise
    exact sw_at m c t k
  · pointwise
    exact sb_at m c t k
  · pointwise
    exact wo_at m c t k d

/-- The normalised rows. -/
theorem hT_at (d : Fin 1024) : hT m c t (ix2 i d) = Hn m c i d := by
  unfold Hn hT
  rw [norm_at]
  refine congrArg₂ (fun p q => Layer.rms p q d) (funext fun d => yT_at m c t i d) (funext fun d => ?_)
  pointwise
  exact g_at m c t d

/-- The first half's gate rows. -/
theorem g0_at (x : Fin 1408) : k0_pay10 (F := Ideal) (hT m c t) (View.ld (iblk m c 10 t) r0_5) (ix2 i x)
    = G m c i (Layer.lo x) := by
  unfold G Layer.gate Wu
  rw [gate0_at]
  refine Finset.sum_congr rfl fun k _ => congrArg₂ (fun p q : EReal => p * q) (hT_at m c t i k) ?_
  pointwise
  rw [wup_at]
  rfl

/-- The second half's gate rows. -/
theorem g1_at (x : Fin 1408) : k0_pay16 (F := Ideal) (hT m c t) (View.ld (iblk m c 10 t) r0_14) (ix2 i x)
    = G m c i (Layer.hi x) := by
  unfold G Layer.gate Wu
  rw [gate1_at]
  refine Finset.sum_congr rfl fun k _ => congrArg₂ (fun p q : EReal => p * q) (hT_at m c t i k) ?_
  pointwise
  rw [wup_at]
  rfl

/-- The first half's value rows. -/
theorem u0_at (x : Fin 1408) : k0_pay11 (F := Ideal) (hT m c t) (View.ld (iblk m c 10 t) r0_6) (ix2 i x)
    = Layer.val (Hn m c i) (Wu m c) (Layer.lo x) := by
  unfold Layer.val Wu
  rw [val0_at]
  refine Finset.sum_congr rfl fun k _ => congrArg₂ (fun p q : EReal => p * q) (hT_at m c t i k) ?_
  pointwise
  rw [wup_at]
  rfl

/-- The second half's value rows. -/
theorem u1_at (x : Fin 1408) : k0_pay17 (F := Ideal) (hT m c t) (View.ld (iblk m c 10 t) r0_15) (ix2 i x)
    = Layer.val (Hn m c i) (Wu m c) (Layer.hi x) := by
  unfold Layer.val Wu
  rw [val1_at]
  refine Finset.sum_congr rfl fun k _ => congrArg₂ (fun p q : EReal => p * q) (hT_at m c t i k) ?_
  pointwise
  rw [wup_at]
  refine congrArg (Layer.wUp 1 _ k) (Fin.ext ?_)
  show 4224 + x.val = 2816 + (1408 + x.val)
  omega

/-- What the grid point stores as the first output. -/
theorem out_row (d : Fin 1024) :
    k0_pay20 (F := Ideal) (yT m c t)
      (k0_pay15 (F := Ideal) (k0_pay9 (F := Ideal)) (k0_pay11 (F := Ideal) (hT m c t) (View.ld (iblk m c 10 t) r0_6))
        (k0_pay12 (F := Ideal) (hT m c t) (View.ld (iblk m c 10 t) r0_5) (View.ld (iblk m c 1 t) r0_7)
          (View.ld (iblk m c 1 t) r0_8) (View.ld (iblk m c 12 t) r0_9) (View.ld (iblk m c 11 t) r0_10)
          (View.ld (iblk m c 11 t) r0_11) (View.ld (iblk m c 11 t) r0_12))
        (k0_pay13 (F := Ideal) (hT m c t) (View.ld (iblk m c 10 t) r0_5) (View.ld (iblk m c 1 t) r0_7)
          (View.ld (iblk m c 1 t) r0_8) (View.ld (iblk m c 12 t) r0_9) (View.ld (iblk m c 11 t) r0_10)
          (View.ld (iblk m c 11 t) r0_11) (View.ld (iblk m c 11 t) r0_12))
        (k0_pay14 (F := Ideal)) (View.ld (iblk m c 13 t) r0_13))
      (k0_pay16 (F := Ideal) (hT m c t) (View.ld (iblk m c 10 t) r0_14))
      (k0_pay17 (F := Ideal) (hT m c t) (View.ld (iblk m c 10 t) r0_15))
      (k0_pay18 (F := Ideal) (View.ld (iblk m c 1 t) r0_16) (View.ld (iblk m c 1 t) r0_17) (View.ld (iblk m c 12 t) r0_18)
        (View.ld (iblk m c 11 t) r0_19) (View.ld (iblk m c 11 t) r0_20))
      (k0_pay19 (F := Ideal) (View.ld (iblk m c 11 t) r0_21)) (View.ld (iblk m c 13 t) r0_22) (View.ld (iblk m c 14 t) r0_1) (ix2 i d)
      = Out m c i d := by
  unfold Out
  rw [out_at]
  refine congrArg₂ (fun p q => Layer.rms p q d) (funext fun d => ?_) (funext fun d => ?_)
  · unfold Sm
    rw [half0_at, Layer.ffnStep_halves, yT_at m c t i]
    refine congrArg (_ + ·) (congrArg₂ (· + ·) (Finset.sum_congr rfl fun x _ => ?_) (Finset.sum_congr rfl fun x _ => ?_))
    · rw [conv0_at, g0_at m c t i, u0_at m c t i]
      pointwise
      simp only [cb_at, cw_at, wdn_at, prev_at]
      rfl
    · rw [g1_at m c t i, u1_at m c t i]
      pointwise
      simp only [cb_at, cw_at, wdn_at, prev_at]
      rfl
  · pointwise
    exact gf_at m c t d

/-- The first result array. -/
def outArr : FVec Ideal S32x1024 .f32 := fun y => Out m c (y 0) (y 1)
/-- The second result array: the gate rows. -/
def gateArr : FVec Ideal S32x2816 .f32 := fun y => G m c (y 0) (y 1)
/-- The third result array: what the chunk keeps. -/
def keepArr : FVec Ideal S32x1024 .f32 := fun y => Vn m c (y 0) (y 1)

/-- After the run the first output array holds the result rows. -/
theorem arr15 : (dats m 0 c).arrAt 15 cfg0.N = outArr m c := by
  refine Dat.arrAt_eq_of_covers (w := 15) (dats m 0 c) (outArr m c) (by decide +kernel) (fun t hf y => ?_)
  blk_simp
  idx_vars y
  rw [after0_15]
  have e : (((View.whole main_v41_0).slice (win0_15.rect t)).emb (ix2 y0 y1)) = ix2 y0 y1 := by
    funext a
    refine Fin.ext ?_
    fin_cases a <;> blk_simp [oidx t]
  refine Eq.trans ?_ (congrArg (outArr m c) e).symm
  exact (congrFun (View.canon_cons_unit_zero (by funext a; fin_cases a <;> rfl) _ _ _) _).trans (out_row m c t y0 y1)

/-- After the run the third output array holds what the chunk keeps. -/
theorem arr17 : (dats m 0 c).arrAt 17 cfg0.N = keepArr m c := by
  refine Dat.arrAt_eq_of_covers (w := 17) (dats m 0 c) (keepArr m c) (by decide +kernel) (fun t hf y => ?_)
  blk_simp
  idx_vars y
  rw [after0_17]
  have e : (((View.whole main_v41_2).slice (win0_17.rect t)).emb (ix2 y0 y1)) = ix2 y0 y1 := by
    funext a
    refine Fin.ext ?_
    fin_cases a <;> blk_simp [oidx t]
  refine Eq.trans ?_ (congrArg (keepArr m c) e).symm
  exact (congrFun (View.canon_cons_unit_zero (by funext a; fin_cases a <;> rfl) _ _ _) _).trans (vT_at m c t y0 y1)

/-- After the run the second output array holds the gate rows. -/
theorem arr16 : (dats m 0 c).arrAt 16 cfg0.N = gateArr m c := by
  refine Dat.arrAt_eq_of_covers (w := 16) (dats m 0 c) (gateArr m c) (by decide +kernel) (fun t hf y => ?_)
  blk_simp
  idx_vars y
  have h1 : y1.val < 2816 := y1.isLt
  rw [after0_16]
  have e : (((View.whole main_v41_1).slice (win0_16.rect t)).emb (ix2 y0 y1)) = ix2 y0 y1 := by
    funext a
    refine Fin.ext ?_
    fin_cases a <;> blk_simp [oidx t]
  refine Eq.trans ?_ (congrArg (gateArr m c) e).symm
  unfold out0_16
  refine (Pieces.canon2 (Val := Elt Ideal) _ _ _ y0 y1).trans ?_
  by_cases h : 1408 ≤ y1.val
  · refine (dif_pos ⟨⟨by omega, by omega⟩, h, by omega⟩).trans ?_
    refine (g1_at m c t ⟨y0.val - 0, by omega⟩ ⟨y1.val - 1408, by omega⟩).trans ?_
    exact congrArg₂ (G m c) (Fin.ext (Nat.sub_zero _)) (Fin.ext (by show 1408 + (y1.val - 1408) = y1.val; omega))
  · refine (dif_neg fun h' => h h'.2.1).trans ((Pieces.canon2 (Val := Elt Ideal) _ _ _ y0 y1).trans ?_)
    refine (dif_pos ⟨⟨by omega, by omega⟩, by omega, by omega⟩).trans ?_
    refine (g0_at m c t ⟨y0.val - 0, by omega⟩ ⟨y1.val - 0, by omega⟩).trans ?_
    exact congrArg₂ (G m c) (Fin.ext (Nat.sub_zero _)) (Fin.ext (Nat.sub_zero _))

end Cert.Kernel4Ideal.Points
-- ==== Proof.RefDecGated.lean ====
module

public import proofs.«01_k».proof.Proof.Gen.Reference4Ideal.Run
public import proofs.«01_k».proof.Proof.StepMix
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
namespace Cert.Reference4Ideal.Stages
open Cert.Reference4Ideal Cert.Reference4Ideal.Gen Idealize.ShloMosaic.StableHlo

/-- The samples as sequences of one step. -/
def lifted (a0 : FVec Ideal S32x1024 .f32) : FVec Ideal S32x1x1024 .f32 :=
    (broadcastInDim S32x1x1024 ![0, 2] bcast_S32x1024_S32x1x1024_0_2 a0)

/-- The hidden rows before the gelu: the normalised input times the input projection, plus its bias. -/
def hidden (X : FVec Ideal S32x1x1024 .f32) (a2 : FVec Ideal S2x1024 .f32) (a3 : FVec Ideal S1x1024x2048 .f32) (a4 : FVec Ideal S1x2048 .f32) : FVec Ideal S32x1x2048 .f32 :=
    (addf (Host.dotGeneral dot_S32x1x1024_S1024x2048_S32x1x2048_2_0_01_1_n_n none (mulf (mulf X (broadcastInDim
    S32x1x1024 ![0, 1, 2] bcast_S32x1x1_S32x1x1024_0_1_2 (Host.rsqrt (addf (Host.divf (broadcastInDim S32x1x1 ![0,
    1] bcast_S32x1_S32x1x1_0_1 (Host.reduceAdd (mulf X X) (constant S_ .f32 0x00000000#32)
    reducesTo_S32x1x1024_S32x1_d2 h_S_)) (broadcastInDim S32x1x1 ![] bcast_S_S32x1x1 (constant S_ .f32
    0x44800000#32))) (broadcastInDim S32x1x1 ![] bcast_S_S32x1x1 (constant S_ .f32 0x358637BD#32))))))
    (broadcastInDim S32x1x1024 ![0, 1, 2] bcast_S1x1x1024_S32x1x1024_0_1_2 (broadcastInDim S1x1x1024 ![2]
    bcast_S1024_S1x1x1024_2 (shapeCast _ (extractStridedSlice S1x1024 ![1, 0] a2 slices_S2x1024_S1x1024_1_0)
    shapeCasts_S1x1024_S1024)))) (shapeCast _ a3 shapeCasts_S1x1024x2048_S1024x2048)) (broadcastInDim S32x1x2048
    ![0, 1, 2] bcast_S1x1x2048_S32x1x2048_0_1_2 (broadcastInDim S1x1x2048 ![2] bcast_S2048_S1x1x2048_2 (shapeCast _
    a4 shapeCasts_S1x2048_S2048))))

/-- The gelu of the hidden rows. -/
def activated (v24 : FVec Ideal S32x1x2048 .f32) : FVec Ideal S32x1x2048 .f32 :=
    (mulf v24 (mulf (broadcastInDim S32x1x2048 ![] bcast_S_S32x1x2048 (constant S_ .f32 0x3F000000#32)) (addf
    (broadcastInDim S32x1x2048 ![] bcast_S_S32x1x2048 (constant S_ .f32 0x3F800000#32)) (Host.tanh (mulf
    (broadcastInDim S32x1x2048 ![] bcast_S_S32x1x2048 (constant S_ .f32 0x3F4C422A#32)) (addf v24 (mulf
    (broadcastInDim S32x1x2048 ![] bcast_S_S32x1x2048 (constant S_ .f32 0x3D372713#32)) (mulf (mulf v24 v24)
    v24))))))))

/-- The normalised second half of the hidden columns. -/
def values (Z : FVec Ideal S32x1x2048 .f32) (a5 : FVec Ideal S1x1024 .f32) : FVec Ideal S32x1x1024 .f32 :=
    (mulf (mulf (extractStridedSlice S32x1x1024 ![0, 0, 1024] Z slices_S32x1x2048_S32x1x1024_0_0_1024)
    (broadcastInDim S32x1x1024 ![0, 1, 2] bcast_S32x1x1_S32x1x1024_0_1_2 (Host.rsqrt (addf (Host.divf
    (broadcastInDim S32x1x1 ![0, 1] bcast_S32x1_S32x1x1_0_1 (Host.reduceAdd (mulf (extractStridedSlice S32x1x1024
    ![0, 0, 1024] Z slices_S32x1x2048_S32x1x1024_0_0_1024) (extractStridedSlice S32x1x1024 ![0, 0, 1024] Z
    slices_S32x1x2048_S32x1x1024_0_0_1024)) (constant S_ .f32 0x00000000#32) reducesTo_S32x1x1024_S32x1_d2 h_S_))
    (broadcastInDim S32x1x1 ![] bcast_S_S32x1x1 (constant S_ .f32 0x44800000#32))) (broadcastInDim S32x1x1 ![]
    bcast_S_S32x1x1 (constant S_ .f32 0x358637BD#32)))))) (broadcastInDim S32x1x1024 ![0, 1, 2]
    bcast_S1x1x1024_S32x1x1024_0_1_2 (broadcastInDim S1x1x1024 ![2] bcast_S1024_S1x1x1024_2 (shapeCast _ a5
    shapeCasts_S1x1024_S1024))))

/-- The causal mixing inside a chunk of 128 time steps, of which only the first is there. -/
def chunked (Vn : FVec Ideal S32x1x1024 .f32) (a6 : FVec Ideal S1x8x128x128 .f32) (a7 : FVec Ideal S1x8x128 .f32) : FVec Ideal S32x1x1024 .f32 :=
    (extractStridedSlice S32x1x1024 ![0, 0, 0] (shapeCast _ (addf (transpose S32x1x128x8x128 [1, 2, 4, 0, 3]
    (Host.dotGeneral dot_S32x1x128x8x128_S8x128x128_S8x32x1x128x128_2_2_014_1_3_0 none (shapeCast _ (pad
    S32x128x1024 ![0, 0, 0] ![0, 127, 0] ![0, 0, 0] Vn ((sitofp .f32) (constantI S_ 32 0#32))
    pads_S32x1x1024_S32x128x1024_000_01270_000 h_S_) shapeCasts_S32x128x1024_S32x1x128x8x128) (select
    ((broadcastInDim S8x128x128 ![1, 2] bcast_S128x128_S8x128x128_1_2) (select ((cmpi .sge) (addi (iotaInDim
    S128x128 32 0) ((broadcastInDim S128x128 ![] bcast_S_S128x128) (constantI S_ 32 0#32))) (iotaInDim S128x128 32
    1)) (broadcastInDim S128x128 ![] bcast_S_S128x128 (constantI S_ 1 1#1)) ((broadcastInDim S128x128 ![]
    bcast_S_S128x128) (constantI S_ 1 0#1)))) (shapeCast _ a6 shapeCasts_S1x8x128x128_S8x128x128) ((broadcastInDim
    S8x128x128 ![] bcast_S_S8x128x128) ((sitofp .f32) (constantI S_ 32 0#32)))))
    transposes_S8x32x1x128x128_S32x1x128x8x128_1_2_4_0_3) (broadcastInDim S32x1x128x8x128 ![0, 1, 2, 3, 4]
    bcast_S1x1x128x8x1_S32x1x128x8x128_0_1_2_3_4 (broadcastInDim S1x1x128x8x1 ![2, 3] bcast_S128x8_S1x1x128x8x1_2_3
    (transpose S128x8 [1, 0] (shapeCast _ a7 shapeCasts_S1x8x128_S8x128) transposes_S8x128_S128x8_1_0))))
    shapeCasts_S32x1x128x8x128_S32x128x1024) slices_S32x128x1024_S32x1x1024_0_0_0)

/-- The input plus the output projection of the gated rows. -/
def mixing (X : FVec Ideal S32x1x1024 .f32) (Z : FVec Ideal S32x1x2048 .f32) (M : FVec Ideal S32x1x1024 .f32) (a8 : FVec Ideal S1x1024x1024 .f32) : FVec Ideal S32x1x1024 .f32 :=
    (addf X (Host.dotGeneral dot_S32x1x1024_S1024x1024_S32x1x1024_2_0_01_1_n_n none (mulf (extractStridedSlice
    S32x1x1024 ![0, 0, 0] Z slices_S32x1x2048_S32x1x1024_0_0_0) M) (shapeCast _ a8
    shapeCasts_S1x1024x1024_S1024x1024)))

/-- The normalised rows. -/
def normed (Y : FVec Ideal S32x1x1024 .f32) (a9 : FVec Ideal S2x1024 .f32) : FVec Ideal S32x1x1024 .f32 :=
    (mulf (mulf Y (broadcastInDim S32x1x1024 ![0, 1, 2] bcast_S32x1x1_S32x1x1024_0_1_2 (Host.rsqrt (addf (Host.divf
    (broadcastInDim S32x1x1 ![0, 1] bcast_S32x1_S32x1x1_0_1 (Host.reduceAdd (mulf Y Y) (constant S_ .f32
    0x00000000#32) reducesTo_S32x1x1024_S32x1_d2 h_S_)) (broadcastInDim S32x1x1 ![] bcast_S_S32x1x1 (constant S_
    .f32 0x44800000#32))) (broadcastInDim S32x1x1 ![] bcast_S_S32x1x1 (constant S_ .f32 0x358637BD#32))))))
    (broadcastInDim S32x1x1024 ![0, 1, 2] bcast_S1x1x1024_S32x1x1024_0_1_2 (broadcastInDim S1x1x1024 ![2]
    bcast_S1024_S1x1x1024_2 (shapeCast _ (extractStridedSlice S1x1024 ![1, 0] a9 slices_S2x1024_S1x1024_1_0)
    shapeCasts_S1x1024_S1024))))

/-- The up projection. -/
def upped (H : FVec Ideal S32x1x1024 .f32) (a10 : FVec Ideal S2x1024x5632 .f32) : FVec Ideal S32x1x5632 .f32 :=
    (Host.dotGeneral dot_S32x1x1024_S1024x5632_S32x1x5632_2_0_01_1_n_n none H (shapeCast _ (extractStridedSlice
    S1x1024x5632 ![1, 0, 0] a10 slices_S2x1024x5632_S1x1024x5632_1_0_0) shapeCasts_S1x1024x5632_S1024x5632))

/-- The gate rows behind the two rows kept of the steps before. -/
def joined (a1 : FVec Ideal S2x32x2x2816 .f32) (U : FVec Ideal S32x1x5632 .f32) : FVec Ideal S32x3x2816 .f32 :=
    (concatenate S32x3x2816 1 [⟨S32x2x2816, (shapeCast _ (extractStridedSlice S1x32x2x2816 ![1, 0, 0, 0] a1
    slices_S2x32x2x2816_S1x32x2x2816_1_0_0_0) shapeCasts_S1x32x2x2816_S32x2x2816)⟩, ⟨S32x1x2816,
    (extractStridedSlice S32x1x2816 ![0, 0, 0] U slices_S32x1x5632_S32x1x2816_0_0_0)⟩]
    concatenates_S32x2x2816_S32x1x2816_S32x3x2816_d1)

/-- The convolution of the gate rows. -/
def convolved (Fl : FVec Ideal S32x3x2816 .f32) (a11 : FVec Ideal S2x3x2816 .f32) (a12 : FVec Ideal S2x2816 .f32) : FVec Ideal S32x1x2816 .f32 :=
    (addf (addf (addf (broadcastInDim S32x1x2816 ![0, 1, 2] bcast_S1x1x2816_S32x1x2816_0_1_2 (broadcastInDim
    S1x1x2816 ![2] bcast_S2816_S1x1x2816_2 (shapeCast _ (extractStridedSlice S1x2816 ![1, 0] a12
    slices_S2x2816_S1x2816_1_0) shapeCasts_S1x2816_S2816))) (mulf (broadcastInDim S32x1x2816 ![0, 1, 2]
    bcast_S1x1x2816_S32x1x2816_0_1_2 (broadcastInDim S1x1x2816 ![2] bcast_S2816_S1x1x2816_2 (shapeCast _
    (extractStridedSlice S1x2816 ![0, 0] (shapeCast _ (extractStridedSlice S1x3x2816 ![1, 0, 0] a11
    slices_S2x3x2816_S1x3x2816_1_0_0) shapeCasts_S1x3x2816_S3x2816) slices_S3x2816_S1x2816_0_0)
    shapeCasts_S1x2816_S2816))) (extractStridedSlice S32x1x2816 ![0, 0, 0] Fl slices_S32x3x2816_S32x1x2816_0_0_0)))
    (mulf (broadcastInDim S32x1x2816 ![0, 1, 2] bcast_S1x1x2816_S32x1x2816_0_1_2 (broadcastInDim S1x1x2816 ![2]
    bcast_S2816_S1x1x2816_2 (shapeCast _ (extractStridedSlice S1x2816 ![1, 0] (shapeCast _ (extractStridedSlice
    S1x3x2816 ![1, 0, 0] a11 slices_S2x3x2816_S1x3x2816_1_0_0) shapeCasts_S1x3x2816_S3x2816)
    slices_S3x2816_S1x2816_1_0) shapeCasts_S1x2816_S2816))) (extractStridedSlice S32x1x2816 ![0, 1, 0] Fl
    slices_S32x3x2816_S32x1x2816_0_1_0))) (mulf (broadcastInDim S32x1x2816 ![0, 1, 2]
    bcast_S1x1x2816_S32x1x2816_0_1_2 (broadcastInDim S1x1x2816 ![2] bcast_S2816_S1x1x2816_2 (shapeCast _
    (extractStridedSlice S1x2816 ![2, 0] (shapeCast _ (extractStridedSlice S1x3x2816 ![1, 0, 0] a11
    slices_S2x3x2816_S1x3x2816_1_0_0) shapeCasts_S1x3x2816_S3x2816) slices_S3x2816_S1x2816_2_0)
    shapeCasts_S1x2816_S2816))) (extractStridedSlice S32x1x2816 ![0, 2, 0] Fl slices_S32x3x2816_S32x1x2816_0_2_0)))

/-- The residual sum plus the feed-forward output. -/
def downed (Y : FVec Ideal S32x1x1024 .f32) (Gc : FVec Ideal S32x1x2816 .f32) (U : FVec Ideal S32x1x5632 .f32) (a13 : FVec Ideal S2x2816x1024 .f32) : FVec Ideal S32x1x1024 .f32 :=
    (addf Y (Host.dotGeneral dot_S32x1x2816_S2816x1024_S32x1x1024_2_0_01_1_n_n none (mulf (mulf Gc (mulf
    (broadcastInDim S32x1x2816 ![] bcast_S_S32x1x2816 (constant S_ .f32 0x3F000000#32)) (addf (broadcastInDim
    S32x1x2816 ![] bcast_S_S32x1x2816 (constant S_ .f32 0x3F800000#32)) (Host.tanh (mulf (broadcastInDim S32x1x2816
    ![] bcast_S_S32x1x2816 (constant S_ .f32 0x3F4C422A#32)) (addf Gc (mulf (broadcastInDim S32x1x2816 ![]
    bcast_S_S32x1x2816 (constant S_ .f32 0x3D372713#32)) (mulf (mulf Gc Gc) Gc)))))))) (extractStridedSlice
    S32x1x2816 ![0, 0, 2816] U slices_S32x1x5632_S32x1x2816_0_0_2816)) (shapeCast _ (extractStridedSlice
    S1x2816x1024 ![1, 0, 0] a13 slices_S2x2816x1024_S1x2816x1024_1_0_0) shapeCasts_S1x2816x1024_S2816x1024)))

/-- The last normalisation. -/
def last (O : FVec Ideal S32x1x1024 .f32) (a14 : FVec Ideal S1024 .f32) : FVec Ideal S32x1024 .f32 :=
    (shapeCast _ (mulf (mulf O (broadcastInDim S32x1x1024 ![0, 1, 2] bcast_S32x1x1_S32x1x1024_0_1_2 (Host.rsqrt
    (addf (Host.divf (broadcastInDim S32x1x1 ![0, 1] bcast_S32x1_S32x1x1_0_1 (Host.reduceAdd (mulf O O) (constant
    S_ .f32 0x00000000#32) reducesTo_S32x1x1024_S32x1_d2 h_S_)) (broadcastInDim S32x1x1 ![] bcast_S_S32x1x1
    (constant S_ .f32 0x44800000#32))) (broadcastInDim S32x1x1 ![] bcast_S_S32x1x1 (constant S_ .f32
    0x358637BD#32)))))) (broadcastInDim S32x1x1024 ![0, 1, 2] bcast_S1x1x1024_S32x1x1024_0_1_2 (broadcastInDim
    S1x1x1024 ![2] bcast_S1024_S1x1x1024_2 a14))) shapeCasts_S32x1x1024_S32x1024)

/-- The gate rows of this step. -/
def latest (Fl : FVec Ideal S32x3x2816 .f32) : FVec Ideal S32x2816 .f32 :=
    (shapeCast _ (extractStridedSlice S32x1x2816 ![0, 1, 0] (extractStridedSlice S32x2x2816 ![0, 1, 0] Fl
    slices_S32x3x2816_S32x2x2816_0_1_0) slices_S32x2x2816_S32x1x2816_0_1_0) shapeCasts_S32x1x2816_S32x2816)

/-- What the chunk keeps of this step. -/
def kept (Vn : FVec Ideal S32x1x1024 .f32) : FVec Ideal S32x1024 .f32 :=
    (shapeCast _ Vn shapeCasts_S32x1x1024_S32x1024)

section
variable (m : (ℓ : Loc nD τ sig) → Buf (Elt Ideal) ℓ) (c : Dev nD)

/-- The samples of the run. -/
theorem lifted_eq : Value.res_main_v0 (F := Ideal) (launchContents m c) =
    lifted (m ((c.tc : Thread nD τ).loc main_arg0)) := rfl
/-- The hidden rows of the run. -/
theorem hidden_eq : Value.res_main_v25 (F := Ideal) (launchContents m c) =
    hidden (Value.res_main_v0 (F := Ideal) (launchContents m c)) (m ((c.tc : Thread nD τ).loc main_arg2)) (m ((c.tc : Thread nD τ).loc main_arg3))
      (m ((c.tc : Thread nD τ).loc main_arg4)) := rfl
/-- The activated rows of the run. -/
theorem activated_eq : Value.res_main_v38 (F := Ideal) (launchContents m c) =
    activated (Value.res_main_v25 (F := Ideal) (launchContents m c)) := rfl
/-- The normalised second half of the run. -/
theorem values_eq : Value.res_main_v53 (F := Ideal) (launchContents m c) =
    values (Value.res_main_v38 (F := Ideal) (launchContents m c)) (m ((c.tc : Thread nD τ).loc main_arg5)) := rfl
/-- The residual rows of the run. -/
theorem mixing_eq : Value.res_main_v69 (F := Ideal) (launchContents m c) =
    mixing (Value.res_main_v0 (F := Ideal) (launchContents m c)) (Value.res_main_v38 (F := Ideal) (launchContents m c))
      (chunked (Value.res_main_v53 (F := Ideal) (launchContents m c)) (m ((c.tc : Thread nD τ).loc main_arg6)) (m ((c.tc : Thread nD τ).loc main_arg7)))
      (m ((c.tc : Thread nD τ).loc main_arg8)) := rfl
/-- The up projection of the run. -/
theorem up_eq : Value.res_main_v95 (F := Ideal) (launchContents m c) =
    upped (normed (Value.res_main_v69 (F := Ideal) (launchContents m c)) (m ((c.tc : Thread nD τ).loc main_arg9))) (m ((c.tc : Thread nD τ).loc main_arg10)) := rfl
/-- The joined gate rows of the run. -/
theorem join_eq : Value.res_main_v98 (F := Ideal) (launchContents m c) =
    joined (m ((c.tc : Thread nD τ).loc main_arg1)) (Value.res_main_v95 (F := Ideal) (launchContents m c)) := rfl
/-- The convolved gate rows of the run. -/
theorem conv_eq : Value.res_main_v121 (F := Ideal) (launchContents m c) =
    convolved (Value.res_main_v98 (F := Ideal) (launchContents m c)) (m ((c.tc : Thread nD τ).loc main_arg11)) (m ((c.tc : Thread nD τ).loc main_arg12)) := rfl
/-- The rows before the last normalisation. -/
theorem down_eq : Value.res_main_v138 (F := Ideal) (launchContents m c) =
    downed (Value.res_main_v69 (F := Ideal) (launchContents m c)) (Value.res_main_v121 (F := Ideal) (launchContents m c))
      (Value.res_main_v95 (F := Ideal) (launchContents m c)) (m ((c.tc : Thread nD τ).loc main_arg13)) := rfl

end

variable (i : Fin 32) (d : Fin 1024)

/-- The samples as sequences of one step. -/
theorem lifted_at (a0 : FVec Ideal S32x1024 .f32) : lifted a0 (ix3 i 0 d) = a0 (ix2 i d) := by
  pointwise [lifted]

/-- The hidden rows before the activation. -/
theorem hidden_at (x : FVec Ideal S32x1x1024 .f32) (a2 : FVec Ideal S2x1024 .f32) (a3 : FVec Ideal S1x1024x2048 .f32)
    (a4 : FVec Ideal S1x2048 .f32) (j : Fin 2048) :
    hidden x a2 a3 a4 (ix3 i 0 j) = (∑ k, Layer.rms (fun d => x (ix3 i 0 d)) (Layer.gain 1 a2) k * a3 (ix3 0 k j)) + a4 (ix2 0 j) := by
  pointwise [hidden]
  rfl

/-- The activated hidden rows. -/
theorem activated_at (z : FVec Ideal S32x1x2048 .f32) (j : Fin 2048) :
    activated z (ix3 i 0 j) = Layer.gelu (z (ix3 i 0 j)) := by
  pointwise [activated]
  rfl

/-- The normalised right halves. -/
theorem values_at (z : FVec Ideal S32x1x2048 .f32) (a5 : FVec Ideal S1x1024 .f32) :
    values z a5 (ix3 i 0 d) = Layer.rms (Layer.right fun j => z (ix3 i 0 j)) (fun d => a5 (ix2 0 d)) d := by
  pointwise [values]
  rfl

/-- The chunk-local sum at its first step takes only that step. -/
theorem chunked_at (v : FVec Ideal S32x1x1024 .f32) (a6 : FVec Ideal S1x8x128x128 .f32) (a7 : FVec Ideal S1x8x128 .f32) :
    chunked v a6 a7 (ix3 i 0 d)
      = Layer.stepMix (fun g => a6 (ix4 0 g 0 0)) (fun g => a7 (ix3 0 g 0)) (fun d => v (ix3 i 0 d)) d := by
  pointwise [chunked]
  unfold Layer.stepMix
  refine congrArg (fun e : EReal => e + a7 (ix3 0 ⟨d.val / 128, by omega⟩ 0)) ?_
  refine (congrArg₂ (fun p q : EReal => p + q) ?_ (Finset.sum_eq_zero fun s _ => ?_)).trans (add_zero (M := EReal) _)
  · refine (Fintype.sum_unique _).trans ((mul_comm (G := EReal) _ _).trans (congrArg (fun e : EReal => e * v (ix3 i 0 d)) ?_))
    exact (Layer.mask_word2 0 0 (by omega) (by omega) _ _ (sitofp_zero (φ := .f32))).trans (if_pos le_rfl)
  · exact (congrArg (fun e : EReal => e * _) (sitofp_zero (φ := .f32))).trans (zero_mul (M₀ := EReal) _)

/-- The input plus the projection of the gated rows. -/
theorem mixing_at (x : FVec Ideal S32x1x1024 .f32) (z : FVec Ideal S32x1x2048 .f32) (mx : FVec Ideal S32x1x1024 .f32)
    (a8 : FVec Ideal S1x1024x1024 .f32) :
    mixing x z mx a8 (ix3 i 0 d) = x (ix3 i 0 d) + ∑ k, Layer.left (fun j => z (ix3 i 0 j)) k * mx (ix3 i 0 k) * a8 (ix3 0 k d) := by
  pointwise [mixing]
  rfl

/-- The normalised rows. -/
theorem normed_at (y : FVec Ideal S32x1x1024 .f32) (g : FVec Ideal S2x1024 .f32) :
    normed y g (ix3 i 0 d) = Layer.rms (fun d => y (ix3 i 0 d)) (Layer.gain 1 g) d := by
  pointwise [normed]
  rfl

/-- The up projection. -/
theorem upped_at (h : FVec Ideal S32x1x1024 .f32) (w : FVec Ideal S2x1024x5632 .f32) (j : Fin 5632) :
    upped h w (ix3 i 0 j) = ∑ k, h (ix3 i 0 k) * Layer.wUp 1 w k j := by
  pointwise [upped]
  rfl

/-- The convolution of the joined gate rows is the convolution at one time step. -/
theorem convolved_at (a1 : FVec Ideal S2x32x2x2816 .f32) (u : FVec Ideal S32x1x5632 .f32) (a11 : FVec Ideal S2x3x2816 .f32)
    (a12 : FVec Ideal S2x2816 .f32) (j : Fin 2816) :
    convolved (joined a1 u) a11 a12 (ix3 i 0 j)
      = Layer.convStep (Layer.wConv 1 a11) (Layer.bConv 1 a12) (fun k j => a1 (ix4 1 i k j)) (fun j => u (ix3 i 0 ⟨j.val, by omega⟩)) j := by
  pointwise [convolved, joined]
  rfl

/-- The gate rows of this step. -/
theorem latest_at (a1 : FVec Ideal S2x32x2x2816 .f32) (u : FVec Ideal S32x1x5632 .f32) (j : Fin 2816) :
    latest (joined a1 u) (ix2 i j) = u (ix3 i 0 ⟨j.val, by omega⟩) := by
  pointwise [latest, joined]

/-- What the chunk keeps of this step. -/
theorem kept_at (v : FVec Ideal S32x1x1024 .f32) : kept v (ix2 i d) = v (ix3 i 0 d) := by
  pointwise [kept]

/-- The residual sum plus the down projection. -/
theorem downed_at (y : FVec Ideal S32x1x1024 .f32) (gc : FVec Ideal S32x1x2816 .f32) (u : FVec Ideal S32x1x5632 .f32)
    (w : FVec Ideal S2x2816x1024 .f32) :
    downed y gc u w (ix3 i 0 d) = y (ix3 i 0 d) +
      ∑ j : Fin 2816, Layer.gelu (gc (ix3 i 0 j)) * u (ix3 i 0 ⟨2816 + j.val, by omega⟩) * Layer.wDown 1 w j d := by
  pointwise [downed]
  rfl

/-- The last normalisation. -/
theorem last_at (y : FVec Ideal S32x1x1024 .f32) (g : FVec Ideal S1024 .f32) :
    last y g (ix2 i d) = Layer.rms (fun d => y (ix3 i 0 d)) (fun d => g (ix1 d)) d := by
  pointwise [last]
  rfl

end Cert.Reference4Ideal.Stages
-- ==== Proof.DecGatedEquation.lean ====
module

public import proofs.«01_k».proof.Proof.DecGatedRows
public import proofs.«01_k».proof.Proof.RefDecGated
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
namespace Cert.DecGatedEquation
open Cert.Reference4Ideal.Stages

variable (m : (ℓ : Loc Kernel4Ideal.nD Kernel4Ideal.τ Kernel4Ideal.sig) → Buf (Elt Ideal) ℓ) (c : Dev Kernel4Ideal.nD)

/-- The reference's samples from the kernel's arguments. -/
abbrev rX := lifted (m ((c.tc : Thread Kernel4Ideal.nD Kernel4Ideal.τ).loc Kernel4Ideal.main_arg0))
/-- The reference's activated hidden rows from the kernel's arguments. -/
abbrev rZ := activated (hidden (rX m c) (m ((c.tc : Thread Kernel4Ideal.nD Kernel4Ideal.τ).loc Kernel4Ideal.main_arg2))
  (m ((c.tc : Thread Kernel4Ideal.nD Kernel4Ideal.τ).loc Kernel4Ideal.main_arg3)) (m ((c.tc : Thread Kernel4Ideal.nD Kernel4Ideal.τ).loc Kernel4Ideal.main_arg4)))
/-- The reference's normalised second half from the kernel's arguments. -/
abbrev rV := values (rZ m c) (m ((c.tc : Thread Kernel4Ideal.nD Kernel4Ideal.τ).loc Kernel4Ideal.main_arg5))
/-- The reference's residual rows from the kernel's arguments. -/
abbrev rY := mixing (rX m c) (rZ m c) (chunked (rV m c) (m ((c.tc : Thread Kernel4Ideal.nD Kernel4Ideal.τ).loc Kernel4Ideal.main_arg6))
  (m ((c.tc : Thread Kernel4Ideal.nD Kernel4Ideal.τ).loc Kernel4Ideal.main_arg7))) (m ((c.tc : Thread Kernel4Ideal.nD Kernel4Ideal.τ).loc Kernel4Ideal.main_arg8))
/-- The reference's up projection from the kernel's arguments. -/
abbrev rU := upped (normed (rY m c) (m ((c.tc : Thread Kernel4Ideal.nD Kernel4Ideal.τ).loc Kernel4Ideal.main_arg9)))
  (m ((c.tc : Thread Kernel4Ideal.nD Kernel4Ideal.τ).loc Kernel4Ideal.main_arg10))

/-- The reference's hidden rows are the kernel's. -/
theorem hid_eq (i : Fin 32) (j : Fin 2048) : rZ m c (ix3 i 0 j) = Kernel4Ideal.Points.Z m c i j := by
  unfold rZ
  rw [activated_at, hidden_at]
  unfold Kernel4Ideal.Points.Z Layer.hid
  refine congrArg Layer.gelu (congrArg (fun e : EReal => e + _) (Finset.sum_congr rfl fun k _ => congrArg (fun e : EReal => e * _) ?_))
  exact congrArg (fun y => Layer.rms y _ k) (funext fun d => lifted_at i d _)

/-- The reference's normalised second half is the kernel's. -/
theorem keep_eq (i : Fin 32) (d : Fin 1024) : rV m c (ix3 i 0 d) = Kernel4Ideal.Points.Vn m c i d := by
  unfold rV
  rw [values_at]
  exact congrArg (fun z => Layer.rms (Layer.right z) _ d) (funext fun j => hid_eq m c i j)

/-- The reference's residual rows are the kernel's. -/
theorem sum_eq (i : Fin 32) (d : Fin 1024) : rY m c (ix3 i 0 d) = Kernel4Ideal.Points.Y m c i d := by
  unfold rY
  rw [mixing_at]
  refine congrArg₂ (fun p q : EReal => p + q) (lifted_at i d _) (Finset.sum_congr rfl fun k _ =>
    congrArg (fun e : EReal => e * _) (congrArg₂ (fun p q : EReal => p * q) (hid_eq m c i _) ?_))
  rw [chunked_at]
  exact congrArg (fun v => Layer.stepMix _ _ v k) (funext fun d => keep_eq m c i d)

/-- The reference's normalised rows are the kernel's. -/
theorem rows_eq (i : Fin 32) (d : Fin 1024) :
    normed (rY m c) (m ((c.tc : Thread Kernel4Ideal.nD Kernel4Ideal.τ).loc Kernel4Ideal.main_arg9)) (ix3 i 0 d)
      = Kernel4Ideal.Points.Hn m c i d := by
  rw [normed_at]
  exact congrArg (fun y => Layer.rms y _ d) (funext fun d => sum_eq m c i d)

/-- The gate half of the reference's up projection. -/
theorem gate_eq (i : Fin 32) (j : Fin 2816) : rU m c (ix3 i 0 ⟨j.val, by omega⟩) = Kernel4Ideal.Points.G m c i j := by
  unfold rU
  rw [upped_at]
  exact Finset.sum_congr rfl fun k _ => congrArg (fun e : EReal => e * _) (rows_eq m c i k)

/-- The value half of the reference's up projection. -/
theorem val_eq (i : Fin 32) (j : Fin 2816) :
    rU m c (ix3 i 0 ⟨2816 + j.val, by omega⟩) = Layer.val (Kernel4Ideal.Points.Hn m c i) (Kernel4Ideal.Points.Wu m c) j := by
  unfold rU
  rw [upped_at]
  exact Finset.sum_congr rfl fun k _ => congrArg (fun e : EReal => e * _) (rows_eq m c i k)

/-- The two first results are equal. -/
theorem first_eq :
    last (downed (rY m c) (convolved (joined (m ((c.tc : Thread Kernel4Ideal.nD Kernel4Ideal.τ).loc Kernel4Ideal.main_arg1)) (rU m c))
        (m ((c.tc : Thread Kernel4Ideal.nD Kernel4Ideal.τ).loc Kernel4Ideal.main_arg11))
        (m ((c.tc : Thread Kernel4Ideal.nD Kernel4Ideal.τ).loc Kernel4Ideal.main_arg12))) (rU m c)
        (m ((c.tc : Thread Kernel4Ideal.nD Kernel4Ideal.τ).loc Kernel4Ideal.main_arg13)))
        (m ((c.tc : Thread Kernel4Ideal.nD Kernel4Ideal.τ).loc Kernel4Ideal.main_arg14))
      = Kernel4Ideal.Points.outArr m c := by
  funext i
  idx_vars i
  rw [last_at]
  refine congrArg (fun y => Layer.rms y _ i1) (funext fun d => ?_)
  rw [downed_at, sum_eq]
  show _ = Kernel4Ideal.Points.Y m c i0 d + _
  refine congrArg (fun e : EReal => Kernel4Ideal.Points.Y m c i0 d + e) ?_
  refine Finset.sum_congr rfl fun j _ => ?_
  rw [convolved_at, val_eq, (funext fun j => gate_eq m c i0 j :
    (fun (j : Fin 2816) => rU m c (ix3 i0 0 ⟨j.val, by omega⟩)) = Kernel4Ideal.Points.G m c i0)]
  rfl

/-- The two second results are equal. -/
theorem second_eq :
    latest (joined (m ((c.tc : Thread Kernel4Ideal.nD Kernel4Ideal.τ).loc Kernel4Ideal.main_arg1)) (rU m c))
      = Kernel4Ideal.Points.gateArr m c := by
  funext i
  idx_vars i
  rw [latest_at]
  exact gate_eq m c i0 i1

/-- The two third results are equal. -/
theorem third_eq : kept (rV m c) = Kernel4Ideal.Points.keepArr m c := by
  funext i
  idx_vars i
  rw [kept_at]
  exact keep_eq m c i0 i1

end Cert.DecGatedEquation
-- ==== Proof.DecGatedClaims.lean ====
module

public import proofs.«01_k».proof.Defs
public import proofs.«01_k».proof.Proof.Gen.Kernel4.Frame
public import proofs.«01_k».proof.Proof.Gen.Kernel4Ideal.Frame
public import proofs.«01_k».proof.Proof.DecGatedEquation
public import Idealize.ShloMosaic.Lib.Quiescent

@[expose] public section

noncomputable section

open Idealize.ShloMosaic Idealize.ShloMosaic.TcCoe Idealize.SL.Sem

namespace Cert.DecGatedClaims
open Cert.Reference4Ideal.Stages

/-- The kernel of the second layer, for the samples, ends quiescent with its arguments unchanged. -/
theorem frame : Cert.quiescent_Kernel4 (hKernel4 := Cert.Kernel4.Gen.facts) := fun m ρ _ => Cert.Kernel4.Gen.frame m ρ
/-- So does its ideal program. -/
theorem frame_ideal : Cert.quiescent_Kernel4Ideal (hKernel4Ideal := Cert.Kernel4Ideal.Gen.facts) :=
  fun m ρ _ => Cert.Kernel4Ideal.Gen.frame m ρ
/-- So does the reference, which has no semaphore. -/
theorem frame_reference : Cert.quiescent_Reference4Ideal (hReference4Ideal := Cert.Reference4Ideal.Gen.facts) := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- The kernel's three results are the reference's, on arguments that agree. -/
theorem equal : Cert.algebraic_Kernel4Ideal_Reference4Ideal (hKernel4Ideal := Cert.Kernel4Ideal.Gen.facts)
    (hReference4Ideal := Cert.Reference4Ideal.Gen.facts) := by
  intro m ρ m' ρ' _ hag
  refine ⟨fun c => Cert.Kernel4Ideal.Points.outArr m c, fun c => Cert.Kernel4Ideal.Points.gateArr m c,
    fun c => Cert.Kernel4Ideal.Points.keepArr m c, ?_, ?_⟩
  · exact (θ_run Cert.Kernel4Ideal.defs _ _).mono
      (fun _ h c => ⟨(h c).1.trans (Cert.Kernel4Ideal.Points.arr15 m c),
        (h c).2.1.trans (Cert.Kernel4Ideal.Points.arr16 m c), (h c).2.2.1.trans (Cert.Kernel4Ideal.Points.arr17 m c), (h c).2.2.2⟩)
      (Cert.Kernel4Ideal.Value.run_blocks (F := Ideal) m ρ)
  · refine (θ_run Cert.Reference4Ideal.defs _ _).mono
      (fun _ h c => ⟨(h c).1.trans ?_, (h c).2.1.trans ?_, (h c).2.2.1.trans ?_, (h c).2.2.2⟩)
      (Cert.Reference4Ideal.Value.run (F := Ideal) m' ρ')
    · show last (Cert.Reference4Ideal.Value.res_main_v138 (F := Ideal) (StableHlo.launchContents m' c))
        (m' ((c.tc : Thread Cert.Reference4Ideal.nD Cert.Reference4Ideal.τ).loc Cert.Reference4Ideal.main_arg14)) = _
      rw [down_eq, conv_eq, join_eq, up_eq, mixing_eq, values_eq, activated_eq, hidden_eq, lifted_eq]
      obtain ⟨h0, h1, h2, h3, h4, h5, h6, h7, h8, h9, h10, h11, h12, h13, h14⟩ := hag c
      rw [h0, h1, h2, h3, h4, h5, h6, h7, h8, h9, h10, h11, h12, h13, h14]
      exact Cert.DecGatedEquation.first_eq m c
    · show latest (Cert.Reference4Ideal.Value.res_main_v98 (F := Ideal) (StableHlo.launchContents m' c)) = _
      rw [join_eq, up_eq, mixing_eq, values_eq, activated_eq, hidden_eq, lifted_eq]
      obtain ⟨h0, h1, h2, h3, h4, h5, h6, h7, h8, h9, h10, h11, h12, h13, h14⟩ := hag c
      rw [h0, h1, h2, h3, h4, h5, h6, h7, h8, h9, h10]
      exact Cert.DecGatedEquation.second_eq m c
    · show kept (Cert.Reference4Ideal.Value.res_main_v53 (F := Ideal) (StableHlo.launchContents m' c)) = _
      rw [values_eq, activated_eq, hidden_eq, lifted_eq]
      obtain ⟨h0, h1, h2, h3, h4, h5, h6, h7, h8, h9, h10, h11, h12, h13, h14⟩ := hag c
      rw [h0, h2, h3, h4, h5]
      exact Cert.DecGatedEquation.third_eq m c

end Cert.DecGatedClaims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.GatedClaims
public import proofs.«01_k».proof.Proof.PostClaims
public import proofs.«01_k».proof.Proof.ProjClaims
public import proofs.«01_k».proof.Proof.SampClaims
public import proofs.«01_k».proof.Proof.DecPostClaims
public import proofs.«01_k».proof.Proof.DecGatedClaims
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Adequacy
public import Idealize.ShloMosaic.Init

@[expose] public section

noncomputable section

-- The claims about Kernel, KernelIdeal, ReferenceIdeal, Kernel2, Kernel2Ideal, Reference2Ideal, Kernel3,
-- Kernel3Ideal, Reference3Ideal, Kernel4, Kernel4Ideal, Reference4Ideal, Kernel5, Kernel5Ideal, Reference5Ideal,
-- proof must show that too.

namespace Cert.Proof

open Idealize.ShloMosaic Idealize.SL.Sem Cert.Kernel

/-- All the claims: the frames of the eighteen programs, the six kernels kept by their ideal programs, and the six equalities. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.GatedClaims.frame, Cert.GatedClaims.frame_ideal, Cert.GatedClaims.frame_reference,
  Cert.PostClaims.frame, Cert.PostClaims.frame_ideal, Cert.PostClaims.frame_reference,
  Cert.ProjClaims.frame, Cert.ProjClaims.frame_ideal, Cert.ProjClaims.frame_reference,
  Cert.DecGatedClaims.frame, Cert.DecGatedClaims.frame_ideal, Cert.DecGatedClaims.frame_reference,
  Cert.DecPostClaims.frame, Cert.DecPostClaims.frame_ideal, Cert.DecPostClaims.frame_reference,
  Cert.SampClaims.frame, Cert.SampClaims.frame_ideal, Cert.SampClaims.frame_reference,
  trivial, Cert.GatedClaims.equal, trivial, Cert.PostClaims.equal, trivial, Cert.ProjClaims.equal, trivial, Cert.DecGatedClaims.equal, trivial, Cert.DecPostClaims.equal, trivial, Cert.SampClaims.equal⟩

end Cert.Proof

end
